-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SampleProject (m : (ℓ : Loc Cert.SampleProject.nD Cert.SampleProject.τ Cert.SampleProject.sig) → Buf (Elt Bits) ℓ) : Prop :=
  True

def Pre_SampleProjectIdeal (m : (ℓ : Loc Cert.SampleProjectIdeal.nD Cert.SampleProjectIdeal.τ Cert.SampleProjectIdeal.sig) → Buf (Elt Ideal) ℓ) : Prop :=
  True

def Pre_SampleProjectReferenceIdeal (m : (ℓ : Loc Cert.SampleProjectReferenceIdeal.nD Cert.SampleProjectReferenceIdeal.τ Cert.SampleProjectReferenceIdeal.sig) → Buf (Elt Ideal) ℓ) : Prop :=
  True

def Pre_SampleOut (m : (ℓ : Loc Cert.SampleOut.nD Cert.SampleOut.τ Cert.SampleOut.sig) → Buf (Elt Bits) ℓ) : Prop :=
  True

def Pre_SampleOutIdeal (m : (ℓ : Loc Cert.SampleOutIdeal.nD Cert.SampleOutIdeal.τ Cert.SampleOutIdeal.sig) → Buf (Elt Ideal) ℓ) : Prop :=
  True

def Pre_SampleOutReferenceIdeal (m : (ℓ : Loc Cert.SampleOutReferenceIdeal.nD Cert.SampleOutReferenceIdeal.τ Cert.SampleOutReferenceIdeal.sig) → Buf (Elt Ideal) ℓ) : Prop :=
  True

def Pre_SampleFfn (m : (ℓ : Loc Cert.SampleFfn.nD Cert.SampleFfn.τ Cert.SampleFfn.sig) → Buf (Elt Bits) ℓ) : Prop :=
  True

def Pre_SampleFfnIdeal (m : (ℓ : Loc Cert.SampleFfnIdeal.nD Cert.SampleFfnIdeal.τ Cert.SampleFfnIdeal.sig) → Buf (Elt Ideal) ℓ) : Prop :=
  True

def Pre_SampleFfnReferenceIdeal (m : (ℓ : Loc Cert.SampleFfnReferenceIdeal.nD Cert.SampleFfnReferenceIdeal.τ Cert.SampleFfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_SampleProject [hSampleProject : Cert.SampleProject.Facts] : Prop :=
  ∀ (m : (ℓ : Loc Cert.SampleProject.nD Cert.SampleProject.τ Cert.SampleProject.sig) → Buf (Elt Bits) ℓ) (g : Dev Cert.SampleProject.nD → PrngReg), Pre_SampleProject m →
    θ_run (Cert.SampleProject.defs (F := Bits)) (onTc (τ := Cert.SampleProject.τ) (Cert.SampleProject.main (F := Bits))) ⟨m, fun _ => 0, g⟩ (fun r => (∀ c : Dev Cert.SampleProject.nD,
      r.2.mem ((c.tc : Thread Cert.SampleProject.nD Cert.SampleProject.τ).loc Cert.SampleProject.main_arg0) = m ((c.tc : Thread Cert.SampleProject.nD Cert.SampleProject.τ).loc Cert.SampleProject.main_arg0)
      ∧ r.2.mem ((c.tc : Thread Cert.SampleProject.nD Cert.SampleProject.τ).loc Cert.SampleProject.main_arg1) = m ((c.tc : Thread Cert.SampleProject.nD Cert.SampleProject.τ).loc Cert.SampleProject.main_arg1)
      ∧ r.2.mem ((c.tc : Thread Cert.SampleProject.nD Cert.SampleProject.τ).loc Cert.SampleProject.main_arg2) = m ((c.tc : Thread Cert.SampleProject.nD Cert.SampleProject.τ).loc Cert.SampleProject.main_arg2))
      ∧ r.2.sem = fun _ => 0)

def quiescent_SampleProjectIdeal [hSampleProjectIdeal : Cert.SampleProjectIdeal.Facts] : Prop :=
  ∀ (m : (ℓ : Loc Cert.SampleProjectIdeal.nD Cert.SampleProjectIdeal.τ Cert.SampleProjectIdeal.sig) → Buf (Elt Ideal) ℓ) (g : Dev Cert.SampleProjectIdeal.nD → PrngReg), Pre_SampleProjectIdeal m →
    θ_run (Cert.SampleProjectIdeal.defs (F := Ideal)) (onTc (τ := Cert.SampleProjectIdeal.τ) (Cert.SampleProjectIdeal.main (F := Ideal))) ⟨m, fun _ => 0, g⟩ (fun r => (∀ c : Dev Cert.SampleProjectIdeal.nD,
      r.2.mem ((c.tc : Thread Cert.SampleProjectIdeal.nD Cert.SampleProjectIdeal.τ).loc Cert.SampleProjectIdeal.main_arg0) = m ((c.tc : Thread Cert.SampleProjectIdeal.nD Cert.SampleProjectIdeal.τ).loc Cert.SampleProjectIdeal.main_arg0)
      ∧ r.2.mem ((c.tc : Thread Cert.SampleProjectIdeal.nD Cert.SampleProjectIdeal.τ).loc Cert.SampleProjectIdeal.main_arg1) = m ((c.tc : Thread Cert.SampleProjectIdeal.nD Cert.SampleProjectIdeal.τ).loc Cert.SampleProjectIdeal.main_arg1)
      ∧ r.2.mem ((c.tc : Thread Cert.SampleProjectIdeal.nD Cert.SampleProjectIdeal.τ).loc Cert.SampleProjectIdeal.main_arg2) = m ((c.tc : Thread Cert.SampleProjectIdeal.nD Cert.SampleProjectIdeal.τ).loc Cert.SampleProjectIdeal.main_arg2))
      ∧ r.2.sem = fun _ => 0)

def quiescent_SampleProjectReferenceIdeal [hSampleProjectReferenceIdeal : Cert.SampleProjectReferenceIdeal.Facts] : Prop :=
  ∀ (m : (ℓ : Loc Cert.SampleProjectReferenceIdeal.nD Cert.SampleProjectReferenceIdeal.τ Cert.SampleProjectReferenceIdeal.sig) → Buf (Elt Ideal) ℓ) (g : Dev Cert.SampleProjectReferenceIdeal.nD → PrngReg), Pre_SampleProjectReferenceIdeal m →
    θ_run (Cert.SampleProjectReferenceIdeal.defs (F := Ideal)) (onTc (τ := Cert.SampleProjectReferenceIdeal.τ) (Cert.SampleProjectReferenceIdeal.main (F := Ideal))) ⟨m, fun _ => 0, g⟩ (fun r => (∀ c : Dev Cert.SampleProjectReferenceIdeal.nD,
      r.2.mem ((c.tc : Thread Cert.SampleProjectReferenceIdeal.nD Cert.SampleProjectReferenceIdeal.τ).loc Cert.SampleProjectReferenceIdeal.main_arg0) = m ((c.tc : Thread Cert.SampleProjectReferenceIdeal.nD Cert.SampleProjectReferenceIdeal.τ).loc Cert.SampleProjectReferenceIdeal.main_arg0)
      ∧ r.2.mem ((c.tc : Thread Cert.SampleProjectReferenceIdeal.nD Cert.SampleProjectReferenceIdeal.τ).loc Cert.SampleProjectReferenceIdeal.main_arg1) = m ((c.tc : Thread Cert.SampleProjectReferenceIdeal.nD Cert.SampleProjectReferenceIdeal.τ).loc Cert.SampleProjectReferenceIdeal.main_arg1)
      ∧ r.2.mem ((c.tc : Thread Cert.SampleProjectReferenceIdeal.nD Cert.SampleProjectReferenceIdeal.τ).loc Cert.SampleProjectReferenceIdeal.main_arg2) = m ((c.tc : Thread Cert.SampleProjectReferenceIdeal.nD Cert.SampleProjectReferenceIdeal.τ).loc Cert.SampleProjectReferenceIdeal.main_arg2))
      ∧ r.2.sem = fun _ => 0)

def quiescent_SampleOut [hSampleOut : Cert.SampleOut.Facts] : Prop :=
  ∀ (m : (ℓ : Loc Cert.SampleOut.nD Cert.SampleOut.τ Cert.SampleOut.sig) → Buf (Elt Bits) ℓ) (g : Dev Cert.SampleOut.nD → PrngReg), Pre_SampleOut m →
    θ_run (Cert.SampleOut.defs (F := Bits)) (onTc (τ := Cert.SampleOut.τ) (Cert.SampleOut.main (F := Bits))) ⟨m, fun _ => 0, g⟩ (fun r => (∀ c : Dev Cert.SampleOut.nD,
      r.2.mem ((c.tc : Thread Cert.SampleOut.nD Cert.SampleOut.τ).loc Cert.SampleOut.main_arg0) = m ((c.tc : Thread Cert.SampleOut.nD Cert.SampleOut.τ).loc Cert.SampleOut.main_arg0)
      ∧ r.2.mem ((c.tc : Thread Cert.SampleOut.nD Cert.SampleOut.τ).loc Cert.SampleOut.main_arg1) = m ((c.tc : Thread Cert.SampleOut.nD Cert.SampleOut.τ).loc Cert.SampleOut.main_arg1)
      ∧ r.2.mem ((c.tc : Thread Cert.SampleOut.nD Cert.SampleOut.τ).loc Cert.SampleOut.main_arg2) = m ((c.tc : Thread Cert.SampleOut.nD Cert.SampleOut.τ).loc Cert.SampleOut.main_arg2)
      ∧ r.2.mem ((c.tc : Thread Cert.SampleOut.nD Cert.SampleOut.τ).loc Cert.SampleOut.main_arg3) = m ((c.tc : Thread Cert.SampleOut.nD Cert.SampleOut.τ).loc Cert.SampleOut.main_arg3))
      ∧ r.2.sem = fun _ => 0)

def quiescent_SampleOutIdeal [hSampleOutIdeal : Cert.SampleOutIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg), Pre_SampleOutIdeal m →
    θ_run (Cert.SampleOutIdeal.defs (F := Ideal)) (onTc (τ := Cert.SampleOutIdeal.τ) (Cert.SampleOutIdeal.main (F := Ideal))) ⟨m, fun _ => 0, g⟩ (fun r => (∀ c : Dev Cert.SampleOutIdeal.nD,
      r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
      ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
      ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
      ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3))
      ∧ r.2.sem = fun _ => 0)

def quiescent_SampleOutReferenceIdeal [hSampleOutReferenceIdeal : Cert.SampleOutReferenceIdeal.Facts] : Prop :=
  ∀ (m : (ℓ : Loc Cert.SampleOutReferenceIdeal.nD Cert.SampleOutReferenceIdeal.τ Cert.SampleOutReferenceIdeal.sig) → Buf (Elt Ideal) ℓ) (g : Dev Cert.SampleOutReferenceIdeal.nD → PrngReg), Pre_SampleOutReferenceIdeal m →
    θ_run (Cert.SampleOutReferenceIdeal.defs (F := Ideal)) (onTc (τ := Cert.SampleOutReferenceIdeal.τ) (Cert.SampleOutReferenceIdeal.main (F := Ideal))) ⟨m, fun _ => 0, g⟩ (fun r => (∀ c : Dev Cert.SampleOutReferenceIdeal.nD,
      r.2.mem ((c.tc : Thread Cert.SampleOutReferenceIdeal.nD Cert.SampleOutReferenceIdeal.τ).loc Cert.SampleOutReferenceIdeal.main_arg0) = m ((c.tc : Thread Cert.SampleOutReferenceIdeal.nD Cert.SampleOutReferenceIdeal.τ).loc Cert.SampleOutReferenceIdeal.main_arg0)
      ∧ r.2.mem ((c.tc : Thread Cert.SampleOutReferenceIdeal.nD Cert.SampleOutReferenceIdeal.τ).loc Cert.SampleOutReferenceIdeal.main_arg1) = m ((c.tc : Thread Cert.SampleOutReferenceIdeal.nD Cert.SampleOutReferenceIdeal.τ).loc Cert.SampleOutReferenceIdeal.main_arg1)
      ∧ r.2.mem ((c.tc : Thread Cert.SampleOutReferenceIdeal.nD Cert.SampleOutReferenceIdeal.τ).loc Cert.SampleOutReferenceIdeal.main_arg2) = m ((c.tc : Thread Cert.SampleOutReferenceIdeal.nD Cert.SampleOutReferenceIdeal.τ).loc Cert.SampleOutReferenceIdeal.main_arg2)
      ∧ r.2.mem ((c.tc : Thread Cert.SampleOutReferenceIdeal.nD Cert.SampleOutReferenceIdeal.τ).loc Cert.SampleOutReferenceIdeal.main_arg3) = m ((c.tc : Thread Cert.SampleOutReferenceIdeal.nD Cert.SampleOutReferenceIdeal.τ).loc Cert.SampleOutReferenceIdeal.main_arg3))
      ∧ r.2.sem = fun _ => 0)

def quiescent_SampleFfn [hSampleFfn : Cert.SampleFfn.Facts] : Prop :=
  ∀ (m : (ℓ : Loc Cert.SampleFfn.nD Cert.SampleFfn.τ Cert.SampleFfn.sig) → Buf (Elt Bits) ℓ) (g : Dev Cert.SampleFfn.nD → PrngReg), Pre_SampleFfn m →
    θ_run (Cert.SampleFfn.defs (F := Bits)) (onTc (τ := Cert.SampleFfn.τ) (Cert.SampleFfn.main (F := Bits))) ⟨m, fun _ => 0, g⟩ (fun r => (∀ c : Dev Cert.SampleFfn.nD,
      r.2.mem ((c.tc : Thread Cert.SampleFfn.nD Cert.SampleFfn.τ).loc Cert.SampleFfn.main_arg0) = m ((c.tc : Thread Cert.SampleFfn.nD Cert.SampleFfn.τ).loc Cert.SampleFfn.main_arg0)
      ∧ r.2.mem ((c.tc : Thread Cert.SampleFfn.nD Cert.SampleFfn.τ).loc Cert.SampleFfn.main_arg1) = m ((c.tc : Thread Cert.SampleFfn.nD Cert.SampleFfn.τ).loc Cert.SampleFfn.main_arg1)
      ∧ r.2.mem ((c.tc : Thread Cert.SampleFfn.nD Cert.SampleFfn.τ).loc Cert.SampleFfn.main_arg2) = m ((c.tc : Thread Cert.SampleFfn.nD Cert.SampleFfn.τ).loc Cert.SampleFfn.main_arg2)
      ∧ r.2.mem ((c.tc : Thread Cert.SampleFfn.nD Cert.SampleFfn.τ).loc Cert.SampleFfn.main_arg3) = m ((c.tc : Thread Cert.SampleFfn.nD Cert.SampleFfn.τ).loc Cert.SampleFfn.main_arg3)
      ∧ r.2.mem ((c.tc : Thread Cert.SampleFfn.nD Cert.SampleFfn.τ).loc Cert.SampleFfn.main_arg4) = m ((c.tc : Thread Cert.SampleFfn.nD Cert.SampleFfn.τ).loc Cert.SampleFfn.main_arg4)
      ∧ r.2.mem ((c.tc : Thread Cert.SampleFfn.nD Cert.SampleFfn.τ).loc Cert.SampleFfn.main_arg5) = m ((c.tc : Thread Cert.SampleFfn.nD Cert.SampleFfn.τ).loc Cert.SampleFfn.main_arg5)
      ∧ r.2.mem ((c.tc : Thread Cert.SampleFfn.nD Cert.SampleFfn.τ).loc Cert.SampleFfn.main_arg6) = m ((c.tc : Thread Cert.SampleFfn.nD Cert.SampleFfn.τ).loc Cert.SampleFfn.main_arg6)
      ∧ r.2.mem ((c.tc : Thread Cert.SampleFfn.nD Cert.SampleFfn.τ).loc Cert.SampleFfn.main_arg7) = m ((c.tc : Thread Cert.SampleFfn.nD Cert.SampleFfn.τ).loc Cert.SampleFfn.main_arg7))
      ∧ r.2.sem = fun _ => 0)

def quiescent_SampleFfnIdeal [hSampleFfnIdeal : Cert.SampleFfnIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg), Pre_SampleFfnIdeal m →
    θ_run (Cert.SampleFfnIdeal.defs (F := Ideal)) (onTc (τ := Cert.SampleFfnIdeal.τ) (Cert.SampleFfnIdeal.main (F := Ideal))) ⟨m, fun _ => 0, g⟩ (fun r => (∀ c : Dev Cert.SampleFfnIdeal.nD,
      r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
      ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
      ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
      ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
      ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4)
      ∧ r.2.mem ((c.tc : Thread Cert.SampleFfnIdeal.nD Cert.SampleFfnIdeal.τ).loc Cert.SampleFfnIdeal.main_arg5) = m ((c.tc : Thread Cert.SampleFfnIdeal.nD Cert.SampleFfnIdeal.τ).loc Cert.SampleFfnIdeal.main_arg5)
      ∧ r.2.mem ((c.tc : Thread Cert.SampleFfnIdeal.nD Cert.SampleFfnIdeal.τ).loc Cert.SampleFfnIdeal.main_arg6) = m ((c.tc : Thread Cert.SampleFfnIdeal.nD Cert.SampleFfnIdeal.τ).loc Cert.SampleFfnIdeal.main_arg6)
      ∧ r.2.mem ((c.tc : Thread Cert.SampleFfnIdeal.nD Cert.SampleFfnIdeal.τ).loc Cert.SampleFfnIdeal.main_arg7) = m ((c.tc : Thread Cert.SampleFfnIdeal.nD Cert.SampleFfnIdeal.τ).loc Cert.SampleFfnIdeal.main_arg7))
      ∧ r.2.sem = fun _ => 0)

def quiescent_SampleFfnReferenceIdeal [hSampleFfnReferenceIdeal : Cert.SampleFfnReferenceIdeal.Facts] : Prop :=
  ∀ (m : (ℓ : Loc Cert.SampleFfnReferenceIdeal.nD Cert.SampleFfnReferenceIdeal.τ Cert.SampleFfnReferenceIdeal.sig) → Buf (Elt Ideal) ℓ) (g : Dev Cert.SampleFfnReferenceIdeal.nD → PrngReg), Pre_SampleFfnReferenceIdeal m →
    θ_run (Cert.SampleFfnReferenceIdeal.defs (F := Ideal)) (onTc (τ := Cert.SampleFfnReferenceIdeal.τ) (Cert.SampleFfnReferenceIdeal.main (F := Ideal))) ⟨m, fun _ => 0, g⟩ (fun r => (∀ c : Dev Cert.SampleFfnReferenceIdeal.nD,
      r.2.mem ((c.tc : Thread Cert.SampleFfnReferenceIdeal.nD Cert.SampleFfnReferenceIdeal.τ).loc Cert.SampleFfnReferenceIdeal.main_arg0) = m ((c.tc : Thread Cert.SampleFfnReferenceIdeal.nD Cert.SampleFfnReferenceIdeal.τ).loc Cert.SampleFfnReferenceIdeal.main_arg0)
      ∧ r.2.mem ((c.tc : Thread Cert.SampleFfnReferenceIdeal.nD Cert.SampleFfnReferenceIdeal.τ).loc Cert.SampleFfnReferenceIdeal.main_arg1) = m ((c.tc : Thread Cert.SampleFfnReferenceIdeal.nD Cert.SampleFfnReferenceIdeal.τ).loc Cert.SampleFfnReferenceIdeal.main_arg1)
      ∧ r.2.mem ((c.tc : Thread Cert.SampleFfnReferenceIdeal.nD Cert.SampleFfnReferenceIdeal.τ).loc Cert.SampleFfnReferenceIdeal.main_arg2) = m ((c.tc : Thread Cert.SampleFfnReferenceIdeal.nD Cert.SampleFfnReferenceIdeal.τ).loc Cert.SampleFfnReferenceIdeal.main_arg2)
      ∧ r.2.mem ((c.tc : Thread Cert.SampleFfnReferenceIdeal.nD Cert.SampleFfnReferenceIdeal.τ).loc Cert.SampleFfnReferenceIdeal.main_arg3) = m ((c.tc : Thread Cert.SampleFfnReferenceIdeal.nD Cert.SampleFfnReferenceIdeal.τ).loc Cert.SampleFfnReferenceIdeal.main_arg3)
      ∧ r.2.mem ((c.tc : Thread Cert.SampleFfnReferenceIdeal.nD Cert.SampleFfnReferenceIdeal.τ).loc Cert.SampleFfnReferenceIdeal.main_arg4) = m ((c.tc : Thread Cert.SampleFfnReferenceIdeal.nD Cert.SampleFfnReferenceIdeal.τ).loc Cert.SampleFfnReferenceIdeal.main_arg4)
      ∧ r.2.mem ((c.tc : Thread Cert.SampleFfnReferenceIdeal.nD Cert.SampleFfnReferenceIdeal.τ).loc Cert.SampleFfnReferenceIdeal.main_arg5) = m ((c.tc : Thread Cert.SampleFfnReferenceIdeal.nD Cert.SampleFfnReferenceIdeal.τ).loc Cert.SampleFfnReferenceIdeal.main_arg5)
      ∧ r.2.mem ((c.tc : Thread Cert.SampleFfnReferenceIdeal.nD Cert.SampleFfnReferenceIdeal.τ).loc Cert.SampleFfnReferenceIdeal.main_arg6) = m ((c.tc : Thread Cert.SampleFfnReferenceIdeal.nD Cert.SampleFfnReferenceIdeal.τ).loc Cert.SampleFfnReferenceIdeal.main_arg6)
      ∧ r.2.mem ((c.tc : Thread Cert.SampleFfnReferenceIdeal.nD Cert.SampleFfnReferenceIdeal.τ).loc Cert.SampleFfnReferenceIdeal.main_arg7) = m ((c.tc : Thread Cert.SampleFfnReferenceIdeal.nD Cert.SampleFfnReferenceIdeal.τ).loc Cert.SampleFfnReferenceIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v70) = v0 c
          ∧ r.2.mem ((c.tc : Thread Cert.FfnReferenceIdeal.nD Cert.FfnReferenceIdeal.τ).loc Cert.FfnReferenceIdeal.main_v73) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v14) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v15) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_SampleProject_SampleProjectIdeal : Prop :=
  True

def algebraic_SampleProjectIdeal_SampleProjectReferenceIdeal [hSampleProjectIdeal : Cert.SampleProjectIdeal.Facts] [hSampleProjectReferenceIdeal : Cert.SampleProjectReferenceIdeal.Facts] : Prop :=
  ∀ (m : (ℓ : Loc Cert.SampleProjectIdeal.nD Cert.SampleProjectIdeal.τ Cert.SampleProjectIdeal.sig) → Buf (Elt Ideal) ℓ) (g : Dev Cert.SampleProjectIdeal.nD → PrngReg)
    (m' : (ℓ : Loc Cert.SampleProjectReferenceIdeal.nD Cert.SampleProjectReferenceIdeal.τ Cert.SampleProjectReferenceIdeal.sig) → Buf (Elt Ideal) ℓ) (g' : Dev Cert.SampleProjectReferenceIdeal.nD → PrngReg), Pre_SampleProjectIdeal m →
    (∀ c : Dev Cert.SampleProjectIdeal.nD,
      m' ((c.tc : Thread Cert.SampleProjectReferenceIdeal.nD Cert.SampleProjectReferenceIdeal.τ).loc Cert.SampleProjectReferenceIdeal.main_arg0) = m ((c.tc : Thread Cert.SampleProjectIdeal.nD Cert.SampleProjectIdeal.τ).loc Cert.SampleProjectIdeal.main_arg0)
      ∧ m' ((c.tc : Thread Cert.SampleProjectReferenceIdeal.nD Cert.SampleProjectReferenceIdeal.τ).loc Cert.SampleProjectReferenceIdeal.main_arg1) = m ((c.tc : Thread Cert.SampleProjectIdeal.nD Cert.SampleProjectIdeal.τ).loc Cert.SampleProjectIdeal.main_arg1)
      ∧ m' ((c.tc : Thread Cert.SampleProjectReferenceIdeal.nD Cert.SampleProjectReferenceIdeal.τ).loc Cert.SampleProjectReferenceIdeal.main_arg2) = m ((c.tc : Thread Cert.SampleProjectIdeal.nD Cert.SampleProjectIdeal.τ).loc Cert.SampleProjectIdeal.main_arg2)) →
    ∃ (v0 : (c : Dev Cert.SampleProjectIdeal.nD) → Buf (Elt Ideal) ((c.tc : Thread Cert.SampleProjectIdeal.nD Cert.SampleProjectIdeal.τ).loc Cert.SampleProjectIdeal.main_v3)),
      θ_run (Cert.SampleProjectIdeal.defs (F := Ideal)) (onTc (τ := Cert.SampleProjectIdeal.τ) (Cert.SampleProjectIdeal.main (F := Ideal))) ⟨m, fun _ => 0, g⟩ (fun r => ∀ c : Dev Cert.SampleProjectIdeal.nD,
          r.2.mem ((c.tc : Thread Cert.SampleProjectIdeal.nD Cert.SampleProjectIdeal.τ).loc Cert.SampleProjectIdeal.main_v3) = v0 c
          ∧ r.2.mem ((c.tc : Thread Cert.SampleProjectIdeal.nD Cert.SampleProjectIdeal.τ).loc Cert.SampleProjectIdeal.main_arg0) = m ((c.tc : Thread Cert.SampleProjectIdeal.nD Cert.SampleProjectIdeal.τ).loc Cert.SampleProjectIdeal.main_arg0)
          ∧ r.2.mem ((c.tc : Thread Cert.SampleProjectIdeal.nD Cert.SampleProjectIdeal.τ).loc Cert.SampleProjectIdeal.main_arg1) = m ((c.tc : Thread Cert.SampleProjectIdeal.nD Cert.SampleProjectIdeal.τ).loc Cert.SampleProjectIdeal.main_arg1)
          ∧ r.2.mem ((c.tc : Thread Cert.SampleProjectIdeal.nD Cert.SampleProjectIdeal.τ).loc Cert.SampleProjectIdeal.main_arg2) = m ((c.tc : Thread Cert.SampleProjectIdeal.nD Cert.SampleProjectIdeal.τ).loc Cert.SampleProjectIdeal.main_arg2))
      ∧ θ_run (Cert.SampleProjectReferenceIdeal.defs (F := Ideal)) (onTc (τ := Cert.SampleProjectReferenceIdeal.τ) (Cert.SampleProjectReferenceIdeal.main (F := Ideal))) ⟨m', fun _ => 0, g'⟩ (fun r => ∀ c : Dev Cert.SampleProjectReferenceIdeal.nD,
          r.2.mem ((c.tc : Thread Cert.SampleProjectReferenceIdeal.nD Cert.SampleProjectReferenceIdeal.τ).loc Cert.SampleProjectReferenceIdeal.main_v13) = v0 c
          ∧ r.2.mem ((c.tc : Thread Cert.SampleProjectReferenceIdeal.nD Cert.SampleProjectReferenceIdeal.τ).loc Cert.SampleProjectReferenceIdeal.main_arg0) = m' ((c.tc : Thread Cert.SampleProjectReferenceIdeal.nD Cert.SampleProjectReferenceIdeal.τ).loc Cert.SampleProjectReferenceIdeal.main_arg0)
          ∧ r.2.mem ((c.tc : Thread Cert.SampleProjectReferenceIdeal.nD Cert.SampleProjectReferenceIdeal.τ).loc Cert.SampleProjectReferenceIdeal.main_arg1) = m' ((c.tc : Thread Cert.SampleProjectReferenceIdeal.nD Cert.SampleProjectReferenceIdeal.τ).loc Cert.SampleProjectReferenceIdeal.main_arg1)
          ∧ r.2.mem ((c.tc : Thread Cert.SampleProjectReferenceIdeal.nD Cert.SampleProjectReferenceIdeal.τ).loc Cert.SampleProjectReferenceIdeal.main_arg2) = m' ((c.tc : Thread Cert.SampleProjectReferenceIdeal.nD Cert.SampleProjectReferenceIdeal.τ).loc Cert.SampleProjectReferenceIdeal.main_arg2))

def preserves_SampleOut_SampleOutIdeal : Prop :=
  True

def algebraic_SampleOutIdeal_SampleOutReferenceIdeal [hSampleOutIdeal : Cert.SampleOutIdeal.Facts] [hSampleOutReferenceIdeal : Cert.SampleOutReferenceIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg)
    (m' : (ℓ : Loc Cert.SampleOutReferenceIdeal.nD Cert.SampleOutReferenceIdeal.τ Cert.SampleOutReferenceIdeal.sig) → Buf (Elt Ideal) ℓ) (g' : Dev Cert.SampleOutReferenceIdeal.nD → PrngReg), Pre_SampleOutIdeal m →
    (∀ c : Dev Cert.SampleOutIdeal.nD,
      m' ((c.tc : Thread Cert.SampleOutReferenceIdeal.nD Cert.SampleOutReferenceIdeal.τ).loc Cert.SampleOutReferenceIdeal.main_arg0) = m ((c.tc : Thread Cert.SampleOutIdeal.nD Cert.SampleOutIdeal.τ).loc Cert.SampleOutIdeal.main_arg0)
      ∧ m' ((c.tc : Thread Cert.SampleOutReferenceIdeal.nD Cert.SampleOutReferenceIdeal.τ).loc Cert.SampleOutReferenceIdeal.main_arg1) = m ((c.tc : Thread Cert.SampleOutIdeal.nD Cert.SampleOutIdeal.τ).loc Cert.SampleOutIdeal.main_arg1)
      ∧ m' ((c.tc : Thread Cert.SampleOutReferenceIdeal.nD Cert.SampleOutReferenceIdeal.τ).loc Cert.SampleOutReferenceIdeal.main_arg2) = m ((c.tc : Thread Cert.SampleOutIdeal.nD Cert.SampleOutIdeal.τ).loc Cert.SampleOutIdeal.main_arg2)
      ∧ m' ((c.tc : Thread Cert.SampleOutReferenceIdeal.nD Cert.SampleOutReferenceIdeal.τ).loc Cert.SampleOutReferenceIdeal.main_arg3) = m ((c.tc : Thread Cert.SampleOutIdeal.nD Cert.SampleOutIdeal.τ).loc Cert.SampleOutIdeal.main_arg3)) →
    ∃ (v0 : (c : Dev Cert.SampleOutIdeal.nD) → Buf (Elt Ideal) ((c.tc : Thread Cert.SampleOutIdeal.nD Cert.SampleOutIdeal.τ).loc Cert.SampleOutIdeal.main_v3)),
      θ_run (Cert.SampleOutIdeal.defs (F := Ideal)) (onTc (τ := Cert.SampleOutIdeal.τ) (Cert.SampleOutIdeal.main (F := Ideal))) ⟨m, fun _ => 0, g⟩ (fun r => ∀ c : Dev Cert.SampleOutIdeal.nD,
          r.2.mem ((c.tc : Thread Cert.SampleOutIdeal.nD Cert.SampleOutIdeal.τ).loc Cert.SampleOutIdeal.main_v3) = v0 c
          ∧ r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
          ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
          ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
          ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3))
      ∧ θ_run (Cert.SampleOutReferenceIdeal.defs (F := Ideal)) (onTc (τ := Cert.SampleOutReferenceIdeal.τ) (Cert.SampleOutReferenceIdeal.main (F := Ideal))) ⟨m', fun _ => 0, g'⟩ (fun r => ∀ c : Dev Cert.SampleOutReferenceIdeal.nD,
          r.2.mem ((c.tc : Thread Cert.SampleOutReferenceIdeal.nD Cert.SampleOutReferenceIdeal.τ).loc Cert.SampleOutReferenceIdeal.main_v14) = v0 c
          ∧ r.2.mem ((c.tc : Thread Cert.SampleOutReferenceIdeal.nD Cert.SampleOutReferenceIdeal.τ).loc Cert.SampleOutReferenceIdeal.main_arg0) = m' ((c.tc : Thread Cert.SampleOutReferenceIdeal.nD Cert.SampleOutReferenceIdeal.τ).loc Cert.SampleOutReferenceIdeal.main_arg0)
          ∧ r.2.mem ((c.tc : Thread Cert.SampleOutReferenceIdeal.nD Cert.SampleOutReferenceIdeal.τ).loc Cert.SampleOutReferenceIdeal.main_arg1) = m' ((c.tc : Thread Cert.SampleOutReferenceIdeal.nD Cert.SampleOutReferenceIdeal.τ).loc Cert.SampleOutReferenceIdeal.main_arg1)
          ∧ r.2.mem ((c.tc : Thread Cert.SampleOutReferenceIdeal.nD Cert.SampleOutReferenceIdeal.τ).loc Cert.SampleOutReferenceIdeal.main_arg2) = m' ((c.tc : Thread Cert.SampleOutReferenceIdeal.nD Cert.SampleOutReferenceIdeal.τ).loc Cert.SampleOutReferenceIdeal.main_arg2)
          ∧ r.2.mem ((c.tc : Thread Cert.SampleOutReferenceIdeal.nD Cert.SampleOutReferenceIdeal.τ).loc Cert.SampleOutReferenceIdeal.main_arg3) = m' ((c.tc : Thread Cert.SampleOutReferenceIdeal.nD Cert.SampleOutReferenceIdeal.τ).loc Cert.SampleOutReferenceIdeal.main_arg3))

def preserves_SampleFfn_SampleFfnIdeal : Prop :=
  True

def algebraic_SampleFfnIdeal_SampleFfnReferenceIdeal [hSampleFfnIdeal : Cert.SampleFfnIdeal.Facts] [hSampleFfnReferenceIdeal : Cert.SampleFfnReferenceIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg)
    (m' : (ℓ : Loc Cert.SampleFfnReferenceIdeal.nD Cert.SampleFfnReferenceIdeal.τ Cert.SampleFfnReferenceIdeal.sig) → Buf (Elt Ideal) ℓ) (g' : Dev Cert.SampleFfnReferenceIdeal.nD → PrngReg), Pre_SampleFfnIdeal m →
    (∀ c : Dev Cert.SampleFfnIdeal.nD,
      m' ((c.tc : Thread Cert.SampleFfnReferenceIdeal.nD Cert.SampleFfnReferenceIdeal.τ).loc Cert.SampleFfnReferenceIdeal.main_arg0) = m ((c.tc : Thread Cert.SampleFfnIdeal.nD Cert.SampleFfnIdeal.τ).loc Cert.SampleFfnIdeal.main_arg0)
      ∧ m' ((c.tc : Thread Cert.SampleFfnReferenceIdeal.nD Cert.SampleFfnReferenceIdeal.τ).loc Cert.SampleFfnReferenceIdeal.main_arg1) = m ((c.tc : Thread Cert.SampleFfnIdeal.nD Cert.SampleFfnIdeal.τ).loc Cert.SampleFfnIdeal.main_arg1)
      ∧ m' ((c.tc : Thread Cert.SampleFfnReferenceIdeal.nD Cert.SampleFfnReferenceIdeal.τ).loc Cert.SampleFfnReferenceIdeal.main_arg2) = m ((c.tc : Thread Cert.SampleFfnIdeal.nD Cert.SampleFfnIdeal.τ).loc Cert.SampleFfnIdeal.main_arg2)
      ∧ m' ((c.tc : Thread Cert.SampleFfnReferenceIdeal.nD Cert.SampleFfnReferenceIdeal.τ).loc Cert.SampleFfnReferenceIdeal.main_arg3) = m ((c.tc : Thread Cert.SampleFfnIdeal.nD Cert.SampleFfnIdeal.τ).loc Cert.SampleFfnIdeal.main_arg3)
      ∧ m' ((c.tc : Thread Cert.SampleFfnReferenceIdeal.nD Cert.SampleFfnReferenceIdeal.τ).loc Cert.SampleFfnReferenceIdeal.main_arg4) = m ((c.tc : Thread Cert.SampleFfnIdeal.nD Cert.SampleFfnIdeal.τ).loc Cert.SampleFfnIdeal.main_arg4)
      ∧ m' ((c.tc : Thread Cert.SampleFfnReferenceIdeal.nD Cert.SampleFfnReferenceIdeal.τ).loc Cert.SampleFfnReferenceIdeal.main_arg5) = m ((c.tc : Thread Cert.SampleFfnIdeal.nD Cert.SampleFfnIdeal.τ).loc Cert.SampleFfnIdeal.main_arg5)
      ∧ m' ((c.tc : Thread Cert.SampleFfnReferenceIdeal.nD Cert.SampleFfnReferenceIdeal.τ).loc Cert.SampleFfnReferenceIdeal.main_arg6) = m ((c.tc : Thread Cert.SampleFfnIdeal.nD Cert.SampleFfnIdeal.τ).loc Cert.SampleFfnIdeal.main_arg6)
      ∧ m' ((c.tc : Thread Cert.SampleFfnReferenceIdeal.nD Cert.SampleFfnReferenceIdeal.τ).loc Cert.SampleFfnReferenceIdeal.main_arg7) = m ((c.tc : Thread Cert.SampleFfnIdeal.nD Cert.SampleFfnIdeal.τ).loc Cert.SampleFfnIdeal.main_arg7)) →
    ∃ (v0 : (c : Dev Cert.SampleFfnIdeal.nD) → Buf (Elt Ideal) ((c.tc : Thread Cert.SampleFfnIdeal.nD Cert.SampleFfnIdeal.τ).loc Cert.SampleFfnIdeal.main_v9_0)) (v1 : (c : Dev Cert.SampleFfnIdeal.nD) → Buf (Elt Ideal) ((c.tc : Thread Cert.SampleFfnIdeal.nD Cert.SampleFfnIdeal.τ).loc Cert.SampleFfnIdeal.main_v9_1)),
      θ_run (Cert.SampleFfnIdeal.defs (F := Ideal)) (onTc (τ := Cert.SampleFfnIdeal.τ) (Cert.SampleFfnIdeal.main (F := Ideal))) ⟨m, fun _ => 0, g⟩ (fun r => ∀ c : Dev Cert.SampleFfnIdeal.nD,
          r.2.mem ((c.tc : Thread Cert.SampleFfnIdeal.nD Cert.SampleFfnIdeal.τ).loc Cert.SampleFfnIdeal.main_v9_0) = v0 c
          ∧ r.2.mem ((c.tc : Thread Cert.SampleFfnIdeal.nD Cert.SampleFfnIdeal.τ).loc Cert.SampleFfnIdeal.main_v9_1) = v1 c
          ∧ r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
          ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
          ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
          ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
          ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4)
          ∧ r.2.mem ((c.tc : Thread Cert.SampleFfnIdeal.nD Cert.SampleFfnIdeal.τ).loc Cert.SampleFfnIdeal.main_arg5) = m ((c.tc : Thread Cert.SampleFfnIdeal.nD Cert.SampleFfnIdeal.τ).loc Cert.SampleFfnIdeal.main_arg5)
          ∧ r.2.mem ((c.tc : Thread Cert.SampleFfnIdeal.nD Cert.SampleFfnIdeal.τ).loc Cert.SampleFfnIdeal.main_arg6) = m ((c.tc : Thread Cert.SampleFfnIdeal.nD Cert.SampleFfnIdeal.τ).loc Cert.SampleFfnIdeal.main_arg6)
          ∧ r.2.mem ((c.tc : Thread Cert.SampleFfnIdeal.nD Cert.SampleFfnIdeal.τ).loc Cert.SampleFfnIdeal.main_arg7) = m ((c.tc : Thread Cert.SampleFfnIdeal.nD Cert.SampleFfnIdeal.τ).loc Cert.SampleFfnIdeal.main_arg7))
      ∧ θ_run (Cert.SampleFfnReferenceIdeal.defs (F := Ideal)) (onTc (τ := Cert.SampleFfnReferenceIdeal.τ) (Cert.SampleFfnReferenceIdeal.main (F := Ideal))) ⟨m', fun _ => 0, g'⟩ (fun r => ∀ c : Dev Cert.SampleFfnReferenceIdeal.nD,
          r.2.mem ((c.tc : Thread Cert.SampleFfnReferenceIdeal.nD Cert.SampleFfnReferenceIdeal.τ).loc Cert.SampleFfnReferenceIdeal.main_v70) = v0 c
          ∧ r.2.mem ((c.tc : Thread Cert.SampleFfnReferenceIdeal.nD Cert.SampleFfnReferenceIdeal.τ).loc Cert.SampleFfnReferenceIdeal.main_v71) = v1 c
          ∧ r.2.mem ((c.tc : Thread Cert.SampleFfnReferenceIdeal.nD Cert.SampleFfnReferenceIdeal.τ).loc Cert.SampleFfnReferenceIdeal.main_arg0) = m' ((c.tc : Thread Cert.SampleFfnReferenceIdeal.nD Cert.SampleFfnReferenceIdeal.τ).loc Cert.SampleFfnReferenceIdeal.main_arg0)
          ∧ r.2.mem ((c.tc : Thread Cert.SampleFfnReferenceIdeal.nD Cert.SampleFfnReferenceIdeal.τ).loc Cert.SampleFfnReferenceIdeal.main_arg1) = m' ((c.tc : Thread Cert.SampleFfnReferenceIdeal.nD Cert.SampleFfnReferenceIdeal.τ).loc Cert.SampleFfnReferenceIdeal.main_arg1)
          ∧ r.2.mem ((c.tc : Thread Cert.SampleFfnReferenceIdeal.nD Cert.SampleFfnReferenceIdeal.τ).loc Cert.SampleFfnReferenceIdeal.main_arg2) = m' ((c.tc : Thread Cert.SampleFfnReferenceIdeal.nD Cert.SampleFfnReferenceIdeal.τ).loc Cert.SampleFfnReferenceIdeal.main_arg2)
          ∧ r.2.mem ((c.tc : Thread Cert.SampleFfnReferenceIdeal.nD Cert.SampleFfnReferenceIdeal.τ).loc Cert.SampleFfnReferenceIdeal.main_arg3) = m' ((c.tc : Thread Cert.SampleFfnReferenceIdeal.nD Cert.SampleFfnReferenceIdeal.τ).loc Cert.SampleFfnReferenceIdeal.main_arg3)
          ∧ r.2.mem ((c.tc : Thread Cert.SampleFfnReferenceIdeal.nD Cert.SampleFfnReferenceIdeal.τ).loc Cert.SampleFfnReferenceIdeal.main_arg4) = m' ((c.tc : Thread Cert.SampleFfnReferenceIdeal.nD Cert.SampleFfnReferenceIdeal.τ).loc Cert.SampleFfnReferenceIdeal.main_arg4)
          ∧ r.2.mem ((c.tc : Thread Cert.SampleFfnReferenceIdeal.nD Cert.SampleFfnReferenceIdeal.τ).loc Cert.SampleFfnReferenceIdeal.main_arg5) = m' ((c.tc : Thread Cert.SampleFfnReferenceIdeal.nD Cert.SampleFfnReferenceIdeal.τ).loc Cert.SampleFfnReferenceIdeal.main_arg5)
          ∧ r.2.mem ((c.tc : Thread Cert.SampleFfnReferenceIdeal.nD Cert.SampleFfnReferenceIdeal.τ).loc Cert.SampleFfnReferenceIdeal.main_arg6) = m' ((c.tc : Thread Cert.SampleFfnReferenceIdeal.nD Cert.SampleFfnReferenceIdeal.τ).loc Cert.SampleFfnReferenceIdeal.main_arg6)
          ∧ r.2.mem ((c.tc : Thread Cert.SampleFfnReferenceIdeal.nD Cert.SampleFfnReferenceIdeal.τ).loc Cert.SampleFfnReferenceIdeal.main_arg7) = m' ((c.tc : Thread Cert.SampleFfnReferenceIdeal.nD Cert.SampleFfnReferenceIdeal.τ).loc Cert.SampleFfnReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProject : Cert.Project.Facts) (hProjectIdeal : Cert.ProjectIdeal.Facts) (hProjectReferenceIdeal : Cert.ProjectReferenceIdeal.Facts) (hOut : Cert.Out.Facts) (hOutIdeal : Cert.OutIdeal.Facts) (hOutReferenceIdeal : Cert.OutReferenceIdeal.Facts) (hSampleProject : Cert.SampleProject.Facts) (hSampleProjectIdeal : Cert.SampleProjectIdeal.Facts) (hSampleProjectReferenceIdeal : Cert.SampleProjectReferenceIdeal.Facts) (hSampleOut : Cert.SampleOut.Facts) (hSampleOutIdeal : Cert.SampleOutIdeal.Facts) (hSampleOutReferenceIdeal : Cert.SampleOutReferenceIdeal.Facts) (hSampleFfn : Cert.SampleFfn.Facts) (hSampleFfnIdeal : Cert.SampleFfnIdeal.Facts) (hSampleFfnReferenceIdeal : Cert.SampleFfnReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Out (hOut := hOut)
    ∧ quiescent_OutIdeal (hOutIdeal := hOutIdeal)
    ∧ quiescent_OutReferenceIdeal (hOutReferenceIdeal := hOutReferenceIdeal)
    ∧ quiescent_SampleProject (hSampleProject := hSampleProject)
    ∧ quiescent_SampleProjectIdeal (hSampleProjectIdeal := hSampleProjectIdeal)
    ∧ quiescent_SampleProjectReferenceIdeal (hSampleProjectReferenceIdeal := hSampleProjectReferenceIdeal)
    ∧ quiescent_SampleOut (hSampleOut := hSampleOut)
    ∧ quiescent_SampleOutIdeal (hSampleOutIdeal := hSampleOutIdeal)
    ∧ quiescent_SampleOutReferenceIdeal (hSampleOutReferenceIdeal := hSampleOutReferenceIdeal)
    ∧ quiescent_SampleFfn (hSampleFfn := hSampleFfn)
    ∧ quiescent_SampleFfnIdeal (hSampleFfnIdeal := hSampleFfnIdeal)
    ∧ quiescent_SampleFfnReferenceIdeal (hSampleFfnReferenceIdeal := hSampleFfnReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Project_ProjectIdeal
    ∧ algebraic_ProjectIdeal_ProjectReferenceIdeal (hProjectIdeal := hProjectIdeal) (hProjectReferenceIdeal := hProjectReferenceIdeal)
    ∧ preserves_Out_OutIdeal
    ∧ algebraic_OutIdeal_OutReferenceIdeal (hOutIdeal := hOutIdeal) (hOutReferenceIdeal := hOutReferenceIdeal)
    ∧ preserves_SampleProject_SampleProjectIdeal
    ∧ algebraic_SampleProjectIdeal_SampleProjectReferenceIdeal (hSampleProjectIdeal := hSampleProjectIdeal) (hSampleProjectReferenceIdeal := hSampleProjectReferenceIdeal)
    ∧ preserves_SampleOut_SampleOutIdeal
    ∧ algebraic_SampleOutIdeal_SampleOutReferenceIdeal (hSampleOutIdeal := hSampleOutIdeal) (hSampleOutReferenceIdeal := hSampleOutReferenceIdeal)
    ∧ preserves_SampleFfn_SampleFfnIdeal
    ∧ algebraic_SampleFfnIdeal_SampleFfnReferenceIdeal (hSampleFfnIdeal := hSampleFfnIdeal) (hSampleFfnReferenceIdeal := hSampleFfnReferenceIdeal)
-- ==== Pre_finite_scores.lean ====
abbrev S8208x1024 : Shape := ⟨2, ![8208, 1024]⟩
abbrev S16 : Shape := ⟨1, ![16]⟩
abbrev S8208x128 : Shape := ⟨2, ![8208, 128]⟩
abbrev S_ : Shape := ⟨0, ![]⟩

class Facts : Prop where
  bcast_S_S8208x1024 : S_.BroadcastsInDim S8208x1024 (![] : Fin 0 → Fin S8208x1024.rank)
  bcast_S_S16 : S_.BroadcastsInDim S16 (![] : Fin 0 → Fin S16.rank)
  bcast_S_S8208x128 : S_.BroadcastsInDim S8208x128 (![] : Fin 0 → Fin S8208x128.rank)

variable [Facts]

def fn {F : FTy → Type} [FloatOps F] (main_arg0 : FVec F S8208x1024 .f32) (main_arg1 : FVec F S16 .f32) (main_arg2 : FVec F S8208x128 .f32) (main_arg3 : FVec F S8208x128 .f32) : IVec S8208x1024 1 × IVec S16 1 × IVec S8208x128 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  let main_v6 : FVec F S8208x128 .f32 := Host.absf main_arg2
  let main_cst_1 : FVec F S_ .f32 := constant S_ .f32 0x7F800000#32
  let main_v7 : FVec F S8208x128 .f32 := broadcastInDim S8208x128 ![] bcast_S_S8208x128 main_cst_1
  let main_v8 : IVec S8208x128 1 := cmpf .olt main_v6 main_v7
  (main_v2, main_v5, main_v8)
-- ==== Kernel.lean ====
abbrev S8208x1024 : Shape := ⟨2, ![8208, 1024]⟩
abbrev S16 : Shape := ⟨1, ![16]⟩
abbrev S8208x128 : Shape := ⟨2, ![8208, 128]⟩
abbrev S_ : Shape := ⟨0, ![]⟩
abbrev S1x16 : Shape := ⟨2, ![1, 16]⟩
abbrev S8192x1024 : Shape := ⟨2, ![8192, 1024]⟩
abbrev S256x1024 : Shape := ⟨2, ![256, 1024]⟩
abbrev S16x128 : Shape := ⟨2, ![16, 128]⟩
abbrev S64x128 : Shape := ⟨2, ![64, 128]⟩
abbrev S48x128 : Shape := ⟨2, ![48, 128]⟩
abbrev S256x128 : Shape := ⟨2, ![256, 128]⟩
abbrev S1x256 : Shape := ⟨2, ![1, 256]⟩
abbrev S256x256 : Shape := ⟨2, ![256, 256]⟩
abbrev S1x1 : Shape := ⟨2, ![1, 1]⟩
abbrev S64x256 : Shape := ⟨2, ![64, 256]⟩
abbrev S1024x256 : Shape := ⟨2, ![1024, 256]⟩
abbrev S1024 : Shape := ⟨1, ![1024]⟩
abbrev S1024x1 : Shape := ⟨2, ![1024, 1]⟩
abbrev S64x1024 : Shape := ⟨2, ![64, 1024]⟩

abbrev nBuf : Space → Nat
  | .hbm => 10
  | .vmem => 31
  | .smem => 0
  | _ => 0

abbrev bufTy : (tb : Table) → Fin (tcTables nBuf tb) → BufTy
  | .hbm, ⟨0, _⟩ => ⟨S8208x1024, .f32⟩
  | .hbm, ⟨1, _⟩ => ⟨S16, .f32⟩
  | .hbm, ⟨2, _⟩ => ⟨S8208x128, .f32⟩
  | .hbm, ⟨3, _⟩ => ⟨S8208x128, .f32⟩
  | .hbm, ⟨4, _⟩ => ⟨S_, .f32⟩
  | .hbm, ⟨5, _⟩ => ⟨S8208x1024, .f32⟩
  | .hbm, ⟨6, _⟩ => ⟨S8208x1024, .f32⟩
  | .hbm, ⟨7, _⟩ => ⟨S8208x1024, .bf16⟩
  | .hbm, ⟨8, _⟩ => ⟨S1x16, .f32⟩
  | .hbm, ⟨9, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S1x16, .f32⟩
  | .local _ .vmem, ⟨3, _⟩ => ⟨S16x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S16x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S64x128, .f32⟩
  | .local _ .vmem, ⟨26, _⟩ => ⟨S64x128, .f32⟩
  | .local _ .vmem, ⟨27, _⟩ => ⟨S64x128, .f32⟩
  | .local _ .vmem, ⟨28, _⟩ => ⟨S64x128, .f32⟩
  | .local _ .vmem, ⟨29, _⟩ => ⟨S256x1024, .bf16⟩
  | .local _ .vmem, ⟨30, _⟩ => ⟨S256x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c16_i32 : BitVec 32 := 16#32
  let arg0 : BitVec 32 := BitVec.ofNat 32 (i 0).val
  let c256_i32 : BitVec 32 := 256#32
  let v0 : BitVec 32 := Scalar.muli arg0 c256_i32
  let v1 : BitVec 32 := Scalar.addi c16_i32 v0
  v1
def k0_mult2 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c0_i32 : BitVec 32 := 0#32
  let v2 : BitVec 32 := Scalar.addi v1 c0_i32
  let c0_i32_0 : BitVec 32 := 0#32
  let v3 : BitVec 32 := Scalar.maxsi v2 c0_i32_0
  let c64_i32 : BitVec 32 := 64#32
  let v4 : BitVec 32 := Scalar.muli v3 c64_i32
  let v5 : BitVec 32 := Scalar.addi c16_i32 v4
  v5
def k0_mult3 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c1_i32 : BitVec 32 := 1#32
  let v2 : BitVec 32 := Scalar.addi v1 c1_i32
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult4 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c2_i32_0 : BitVec 32 := 2#32
  let v2 : BitVec 32 := Scalar.addi v1 c2_i32_0
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult5 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c3_i32 : BitVec 32 := 3#32
  let v2 : BitVec 32 := Scalar.addi v1 c3_i32
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult6 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c4_i32_0 : BitVec 32 := 4#32
  let v2 : BitVec 32 := Scalar.addi v1 c4_i32_0
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult7 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c5_i32 : BitVec 32 := 5#32
  let v2 : BitVec 32 := Scalar.addi v1 c5_i32
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult8 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c0_i32 : BitVec 32 := 0#32
  let v2 : BitVec 32 := Scalar.addi v1 c0_i32
  let c0_i32_0 : BitVec 32 := 0#32
  let v3 : BitVec 32 := Scalar.maxsi v2 c0_i32_0
  let c64_i32 : BitVec 32 := 64#32
  let v4 : BitVec 32 := Scalar.muli v3 c64_i32
  let v5 : BitVec 32 := Scalar.addi c16_i32 v4
  v5
def k0_mult9 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c1_i32 : BitVec 32 := 1#32
  let v2 : BitVec 32 := Scalar.addi v1 c1_i32
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult10 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c2_i32_0 : BitVec 32 := 2#32
  let v2 : BitVec 32 := Scalar.addi v1 c2_i32_0
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult11 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c3_i32 : BitVec 32 := 3#32
  let v2 : BitVec 32 := Scalar.addi v1 c3_i32
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult12 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c4_i32_0 : BitVec 32 := 4#32
  let v2 : BitVec 32 := Scalar.addi v1 c4_i32_0
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def k0_mult13 (i : grid0.Coords) : BitVec 32 :=
  let c16_i32 : BitVec 32 := 16#32
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c5_i32 : BitVec 32 := 5#32
  let v2 : BitVec 32 := Scalar.addi v1 c5_i32
  let c0_i32 : BitVec 32 := 0#32
  let v3 : BitVec 32 := Scalar.maxsi v2 c0_i32
  let c64_i32 : BitVec 32 := 64#32
  let v4 : BitVec 32 := Scalar.muli v3 c64_i32
  let v5 : BitVec 32 := Scalar.addi c16_i32 v4
  v5
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c0_i32 : BitVec 32 := 0#32
  let v2 : BitVec 32 := Scalar.addi v1 c0_i32
  let c0_i32_0 : BitVec 32 := 0#32
  let v3 : BitVec 32 := Scalar.maxsi v2 c0_i32_0
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_1 : BitVec 32 := 0#32
  let c0_i32_2 : BitVec 32 := 0#32
  ![v6.toNat, c0_i32_1.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c1_i32 : BitVec 32 := 1#32
  let v2 : BitVec 32 := Scalar.addi v1 c1_i32
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_0 : BitVec 32 := 0#32
  let c0_i32_1 : BitVec 32 := 0#32
  ![v6.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c2_i32_0 : BitVec 32 := 2#32
  let v2 : BitVec 32 := Scalar.addi v1 c2_i32_0
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_1 : BitVec 32 := 0#32
  let c0_i32_2 : BitVec 32 := 0#32
  ![v6.toNat, c0_i32_1.toNat]

def cc0_transform_6 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c3_i32 : BitVec 32 := 3#32
  let v2 : BitVec 32 := Scalar.addi v1 c3_i32
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_0 : BitVec 32 := 0#32
  let c0_i32_1 : BitVec 32 := 0#32
  ![v6.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c4_i32_0 : BitVec 32 := 4#32
  let v2 : BitVec 32 := Scalar.addi v1 c4_i32_0
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_1 : BitVec 32 := 0#32
  let c0_i32_2 : BitVec 32 := 0#32
  ![v6.toNat, c0_i32_1.toNat]

def cc0_transform_8 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c5_i32 : BitVec 32 := 5#32
  let v2 : BitVec 32 := Scalar.addi v1 c5_i32
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_0 : BitVec 32 := 0#32
  let c0_i32_1 : BitVec 32 := 0#32
  ![v6.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c0_i32 : BitVec 32 := 0#32
  let v2 : BitVec 32 := Scalar.addi v1 c0_i32
  let c0_i32_0 : BitVec 32 := 0#32
  let v3 : BitVec 32 := Scalar.maxsi v2 c0_i32_0
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_1 : BitVec 32 := 0#32
  let c0_i32_2 : BitVec 32 := 0#32
  ![v6.toNat, c0_i32_1.toNat]

def cc0_transform_11 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c1_i32 : BitVec 32 := 1#32
  let v2 : BitVec 32 := Scalar.addi v1 c1_i32
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_0 : BitVec 32 := 0#32
  let c0_i32_1 : BitVec 32 := 0#32
  ![v6.toNat, c0_i32_0.toNat]

def cc0_transform_12 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c2_i32_0 : BitVec 32 := 2#32
  let v2 : BitVec 32 := Scalar.addi v1 c2_i32_0
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_1 : BitVec 32 := 0#32
  let c0_i32_2 : BitVec 32 := 0#32
  ![v6.toNat, c0_i32_1.toNat]

def cc0_transform_13 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c3_i32 : BitVec 32 := 3#32
  let v2 : BitVec 32 := Scalar.addi v1 c3_i32
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_0 : BitVec 32 := 0#32
  let c0_i32_1 : BitVec 32 := 0#32
  ![v6.toNat, c0_i32_0.toNat]

def cc0_transform_14 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c4_i32_0 : BitVec 32 := 4#32
  let v2 : BitVec 32 := Scalar.addi v1 c4_i32_0
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_1 : BitVec 32 := 0#32
  let c0_i32_2 : BitVec 32 := 0#32
  ![v6.toNat, c0_i32_1.toNat]

def cc0_transform_15 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.subi v0 c2_i32
  let c5_i32 : BitVec 32 := 5#32
  let v2 : BitVec 32 := Scalar.addi v1 c5_i32
  let c0_i32 : BitVec 32 := 0#32
  let v3 : BitVec 32 := Scalar.maxsi v2 c0_i32
  let c64_i32 : BitVec 32 := 64#32
  let v4 : BitVec 32 := Scalar.muli v3 c64_i32
  let c16_i32 : BitVec 32 := 16#32
  let v5 : BitVec 32 := Scalar.addi c16_i32 v4
  let v6 : BitVec 32 := v5
  let c0_i32_0 : BitVec 32 := 0#32
  let c0_i32_1 : BitVec 32 := 0#32
  ![v6.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8208x1024 : Shape := ⟨2, ![8208, 1024]⟩
abbrev S16 : Shape := ⟨1, ![16]⟩
abbrev S8208x128 : Shape := ⟨2, ![8208, 128]⟩
abbrev S8208x2x8x64 : Shape := ⟨4, ![8208, 2, 8, 64]⟩
abbrev S8208x2x64 : Shape := ⟨3, ![8208, 2, 64]⟩
abbrev S2x8 : Shape := ⟨2, ![2, 8]⟩
abbrev S16x2x64 : Shape := ⟨3, ![16, 2, 64]⟩
abbrev S8192x2x8x64 : Shape := ⟨4, ![8192, 2, 8, 64]⟩
abbrev S128x64x2x8x64 : Shape := ⟨5, ![128, 64, 2, 8, 64]⟩
abbrev S_ : Shape := ⟨0, ![]⟩
abbrev S128x2x64 : Shape := ⟨3, ![128, 2, 64]⟩
abbrev S8192x2x64 : Shape := ⟨3, ![8192, 2, 64]⟩
abbrev S8320x2x64 : Shape := ⟨3, ![8320, 2, 64]⟩
abbrev S130x64x2x64 : Shape := ⟨4, ![130, 64, 2, 64]⟩
abbrev S128x64x2x64 : Shape := ⟨4, ![128, 64, 2, 64]⟩
abbrev S128x192x2x64 : Shape := ⟨4, ![128, 192, 2, 64]⟩
abbrev S128 : Shape := ⟨1, ![128]⟩
abbrev S128x1 : Shape := ⟨2, ![128, 1]⟩
abbrev S3 : Shape := ⟨1, ![3]⟩
abbrev S3x64 : Shape := ⟨2, ![3, 64]⟩
abbrev S192 : Shape := ⟨1, ![192]⟩
abbrev S1x192 : Shape := ⟨2, ![1, 192]⟩
abbrev S128x192 : Shape := ⟨2, ![128, 192]⟩
abbrev S2x16x128x64x8 : Shape := ⟨5, ![2, 16, 128, 64, 8]⟩
abbrev S128x2x8x64x16 : Shape := ⟨5, ![128, 2, 8, 64, 16]⟩
abbrev S128x2x192x64x8 : Shape := ⟨5, ![128, 2, 192, 64, 8]⟩
abbrev S128x2x8x64x192 : Shape := ⟨5, ![128, 2, 8, 64, 192]⟩
abbrev S128x1x1x1x192 : Shape := ⟨5, ![128, 1, 1, 1, 192]⟩
abbrev S128x2x8x64x208 : Shape := ⟨5, ![128, 2, 8, 64, 208]⟩
abbrev S1x2x8x1x1 : Shape := ⟨5, ![1, 2, 8, 1, 1]⟩
abbrev S128x2x8x64x1 : Shape := ⟨5, ![128, 2, 8, 64, 1]⟩
abbrev S128x2x8x64x209 : Shape := ⟨5, ![128, 2, 8, 64, 209]⟩
abbrev S128x2x8x64 : Shape := ⟨4, ![128, 2, 8, 64]⟩
abbrev S2x64x128x8x64 : Shape := ⟨5, ![2, 64, 128, 8, 64]⟩
abbrev S128x2x64x8x64 : Shape := ⟨5, ![128, 2, 64, 8, 64]⟩
abbrev S8192x1024 : Shape := ⟨2, ![8192, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S16, .f32⟩
  | .hbm, ⟨2, _⟩ => ⟨S8208x128, .f32⟩
  | .hbm, ⟨3, _⟩ => ⟨S8208x128, .f32⟩
  | .hbm, ⟨4, _⟩ => ⟨S8208x2x8x64, .f32⟩
  | .hbm, ⟨5, _⟩ => ⟨S8208x2x64, .f32⟩
  | .hbm, ⟨6, _⟩ => ⟨S8208x2x64, .f32⟩
  | .hbm, ⟨7, _⟩ => ⟨S2x8, .f32⟩
  | .hbm, ⟨8, _⟩ => ⟨S16x2x64, .f32⟩
  | .hbm, ⟨9, _⟩ => ⟨S16x2x64, .f32⟩
  | .hbm, ⟨10, _⟩ => ⟨S8192x2x8x64, .f32⟩
  | .hbm, ⟨11, _⟩ => ⟨S128x64x2x8x64, .f32⟩
  | .hbm, ⟨12, _⟩ => ⟨S_, .f32⟩
  | .hbm, ⟨13, _⟩ => ⟨S128x2x64, .f32⟩
  | .hbm, ⟨14, _⟩ => ⟨S8192x2x64, .f32⟩
  | .hbm, ⟨15, _⟩ => ⟨S8320x2x64, .f32⟩
  | .hbm, ⟨16, _⟩ => ⟨S130x64x2x64, .f32⟩
  | .hbm, ⟨17, _⟩ => ⟨S8192x2x64, .f32⟩
  | .hbm, ⟨18, _⟩ => ⟨S8320x2x64, .f32⟩
  | .hbm, ⟨19, _⟩ => ⟨S130x64x2x64, .f32⟩
  | .hbm, ⟨20, _⟩ => ⟨S128x64x2x64, .f32⟩
  | .hbm, ⟨21, _⟩ => ⟨S128x64x2x64, .f32⟩
  | .hbm, ⟨22, _⟩ => ⟨S128x64x2x64, .f32⟩
  | .hbm, ⟨23, _⟩ => ⟨S128x192x2x64, .f32⟩
  | .hbm, ⟨24, _⟩ => ⟨S128x64x2x64, .f32⟩
  | .hbm, ⟨25, _⟩ => ⟨S128x64x2x64, .f32⟩
  | .hbm, ⟨26, _⟩ => ⟨S128x64x2x64, .f32⟩
  | .hbm, ⟨27, _⟩ => ⟨S128x192x2x64, .f32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S3, .i32⟩
  | .hbm, ⟨34, _⟩ => ⟨S3x64, .i32⟩
  | .hbm, ⟨35, _⟩ => ⟨S192, .i32⟩
  | .hbm, ⟨36, _⟩ => ⟨S1x192, .i32⟩
  | .hbm, ⟨37, _⟩ => ⟨S128x192, .i32⟩
  | .hbm, ⟨38, _⟩ => ⟨S128x192, .i32⟩
  | .hbm, ⟨39, _⟩ => ⟨S128x192, .i32⟩
  | .hbm, ⟨40, _⟩ => ⟨S_, .i32⟩
  | .hbm, ⟨41, _⟩ => ⟨S128x192, .i32⟩
  | .hbm, ⟨42, _⟩ => ⟨S128x192, .i1⟩
  | .hbm, ⟨43, _⟩ => ⟨S2x16x128x64x8, .f32⟩
  | .hbm, ⟨44, _⟩ => ⟨S128x2x8x64x16, .f32⟩
  | .hbm, ⟨45, _⟩ => ⟨S_, .f32⟩
  | .hbm, ⟨46, _⟩ => ⟨S128x2x8x64x16, .f32⟩
  | .hbm, ⟨47, _⟩ => ⟨S128x2x8x64x16, .f32⟩
  | .hbm, ⟨48, _⟩ => ⟨S128x2x192x64x8, .f32⟩
  | .hbm, ⟨49, _⟩ => ⟨S128x2x8x64x192, .f32⟩
  | .hbm, ⟨50, _⟩ => ⟨S_, .f32⟩
  | .hbm, ⟨51, _⟩ => ⟨S128x2x8x64x192, .f32⟩
  | .hbm, ⟨52, _⟩ => ⟨S128x2x8x64x192, .f32⟩
  | .hbm, ⟨53, _⟩ => ⟨S128x1x1x1x192, .i1⟩
  | .hbm, ⟨54, _⟩ => ⟨S_, .f32⟩
  | .hbm, ⟨55, _⟩ => ⟨S_, .f32⟩
  | .hbm, ⟨56, _⟩ => ⟨S128x2x8x64x192, .i1⟩
  | .hbm, ⟨57, _⟩ => ⟨S128x2x8x64x192, .f32⟩
  | .hbm, ⟨58, _⟩ => ⟨S128x2x8x64x192, .f32⟩
  | .hbm, ⟨59, _⟩ => ⟨S128x2x8x64x208, .f32⟩
  | .hbm, ⟨60, _⟩ => ⟨S1x2x8x1x1, .f32⟩
  | .hbm, ⟨61, _⟩ => ⟨S128x2x8x64x1, .f32⟩
  | .hbm, ⟨62, _⟩ => ⟨S128x2x8x64x209, .f32⟩
  | .hbm, ⟨63, _⟩ => ⟨S_, .f32⟩
  | .hbm, ⟨64, _⟩ => ⟨S128x2x8x64, .f32⟩
  | .hbm, ⟨65, _⟩ => ⟨S_, .f32⟩
  | .hbm, ⟨66, _⟩ => ⟨S128x2x8x64, .f32⟩
  | .hbm, ⟨67, _⟩ => ⟨S128x2x8x64, .f32⟩
  | .hbm, ⟨68, _⟩ => ⟨S128x2x8x64x1, .f32⟩
  | .hbm, ⟨69, _⟩ => ⟨S128x2x8x64x209, .f32⟩
  | .hbm, ⟨70, _⟩ => ⟨S128x2x8x64x209, .f32⟩
  | .hbm, ⟨71, _⟩ => ⟨S128x2x8x64x209, .f32⟩
  | .hbm, ⟨72, _⟩ => ⟨S_, .f32⟩
  | .hbm, ⟨73, _⟩ => ⟨S128x2x8x64, .f32⟩
  | .hbm, ⟨74, _⟩ => ⟨S128x2x8x64x1, .f32⟩
  | .hbm, ⟨75, _⟩ => ⟨S128x2x8x64x209, .f32⟩
  | .hbm, ⟨76, _⟩ => ⟨S128x2x8x64x209, .f32⟩
  | .hbm, ⟨77, _⟩ => ⟨S128x2x8x64x208, .f32⟩
  | .hbm, ⟨78, _⟩ => ⟨S128x2x8x64x16, .f32⟩
  | .hbm, ⟨79, _⟩ => ⟨S2x64x128x8x64, .f32⟩
  | .hbm, ⟨80, _⟩ => ⟨S128x64x2x8x64, .f32⟩
  | .hbm, ⟨81, _⟩ => ⟨S128x2x8x64x192, .f32⟩
  | .hbm, ⟨82, _⟩ => ⟨S128x2x64x8x64, .f32⟩
  | .hbm, ⟨83, _⟩ => ⟨S128x64x2x8x64, .f32⟩
  | .hbm, ⟨84, _⟩ => ⟨S128x64x2x8x64, .f32⟩
  | .hbm, ⟨85, _⟩ => ⟨S8192x1024, .f32⟩
  | .hbm, ⟨86, _⟩ => ⟨S8192x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== Ffn.lean ====
abbrev S8208x2048 : Shape := ⟨2, ![8208, 2048]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S1x2048 : Shape := ⟨2, ![1, 2048]⟩
abbrev S1x6144 : Shape := ⟨2, ![1, 6144]⟩
abbrev S8192x2048 : Shape := ⟨2, ![8192, 2048]⟩
abbrev S8x8x6144 : Shape := ⟨3, ![8, 8, 6144]⟩
abbrev S1024x2048 : Shape := ⟨2, ![1024, 2048]⟩
abbrev S16x2048 : Shape := ⟨2, ![16, 2048]⟩
abbrev S2048x512 : Shape := ⟨2, ![2048, 512]⟩
abbrev S512x2048 : Shape := ⟨2, ![512, 2048]⟩
abbrev S3x512 : Shape := ⟨2, ![3, 512]⟩
abbrev S1x512 : Shape := ⟨2, ![1, 512]⟩
abbrev S1x8x512 : Shape := ⟨3, ![1, 8, 512]⟩
abbrev S1040x2048 : Shape := ⟨2, ![1040, 2048]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1040x512 : Shape := ⟨2, ![1040, 512]⟩
abbrev S1024x512 : Shape := ⟨2, ![1024, 512]⟩
abbrev S8x512 : Shape := ⟨2, ![8, 512]⟩

abbrev nBuf : Space → Nat
  | .hbm => 14
  | .vmem => 20
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x12288, .f32⟩
  | .hbm, ⟨3, _⟩ => ⟨S3x6144, .f32⟩
  | .hbm, ⟨4, _⟩ => ⟨S6144, .f32⟩
  | .hbm, ⟨5, _⟩ => ⟨S6144x2048, .f32⟩
  | .hbm, ⟨6, _⟩ => ⟨S2048, .f32⟩
  | .hbm, ⟨7, _⟩ => ⟨S1x2048, .f32⟩
  | .hbm, ⟨8, _⟩ => ⟨S2048x12288, .bf16⟩
  | .hbm, ⟨9, _⟩ => ⟨S6144x2048, .bf16⟩
  | .hbm, ⟨10, _⟩ => ⟨S1x6144, .f32⟩
  | .hbm, ⟨11, _⟩ => ⟨S1x2048, .f32⟩
  | .hbm, ⟨12, _⟩ => ⟨S8192x2048, .f32⟩
  | .hbm, ⟨13, _⟩ => ⟨S8x8x6144, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x2048, .f32⟩
  | .local _ .vmem, ⟨16, _⟩ => ⟨S1024x2048, .f32⟩
  | .local _ .vmem, ⟨17, _⟩ => ⟨S1x8x512, .f32⟩
  | .local _ .vmem, ⟨18, _⟩ => ⟨S1x8x512, .f32⟩
  | .local _ .vmem, ⟨19, _⟩ => ⟨S1040x2048, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let c16_i32 : BitVec 32 := 16#32
  let arg0 : BitVec 32 := BitVec.ofNat 32 (i 0).val
  let c1024_i32 : BitVec 32 := 1024#32
  let v0 : BitVec 32 := Scalar.muli arg0 c1024_i32
  let v1 : BitVec 32 := Scalar.addi c16_i32 v0
  v1
def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnReferenceIdeal.lean ====
abbrev S8208x2048 : Shape := ⟨2, ![8208, 2048]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S_ : Shape := ⟨0, ![]⟩
abbrev S8208 : Shape := ⟨1, ![8208]⟩
abbrev S8208x1 : Shape := ⟨2, ![8208, 1]⟩
abbrev S1x2048 : Shape := ⟨2, ![1, 2048]⟩
abbrev S8208x12288 : Shape := ⟨2, ![8208, 12288]⟩
abbrev S8208x6144 : Shape := ⟨2, ![8208, 6144]⟩
abbrev S2x6144 : Shape := ⟨2, ![2, 6144]⟩
abbrev S8210x6144 : Shape := ⟨2, ![8210, 6144]⟩
abbrev S1x6144 : Shape := ⟨2, ![1, 6144]⟩
abbrev S8192x2048 : Shape := ⟨2, ![8192, 2048]⟩
abbrev S8192x6144 : Shape := ⟨2, ![8192, 6144]⟩
abbrev S8x1024x6144 : Shape := ⟨3, ![8, 1024, 6144]⟩
abbrev S8x8x6144 : Shape := ⟨3, ![8, 8, 6144]⟩

abbrev nBuf : Space → Nat
  | .hbm => 92
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x12288, .f32⟩
  | .hbm, ⟨3, _⟩ => ⟨S3x6144, .f32⟩
  | .hbm, ⟨4, _⟩ => ⟨S6144, .f32⟩
  | .hbm, ⟨5, _⟩ => ⟨S6144x2048, .f32⟩
  | .hbm, ⟨6, _⟩ => ⟨S2048, .f32⟩
  | .hbm, ⟨7, _⟩ => ⟨S8208x2048, .f32⟩
  | .hbm, ⟨8, _⟩ => ⟨S_, .f32⟩
  | .hbm, ⟨9, _⟩ => ⟨S8208, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S8208x2048, .f32⟩
  | .hbm, ⟨19, _⟩ => ⟨S8208x2048, .f32⟩
  | .hbm, ⟨20, _⟩ => ⟨S1x2048, .f32⟩
  | .hbm, ⟨21, _⟩ => ⟨S8208x2048, .f32⟩
  | .hbm, ⟨22, _⟩ => ⟨S8208x2048, .f32⟩
  | .hbm, ⟨23, _⟩ => ⟨S8208x12288, .f32⟩
  | .hbm, ⟨24, _⟩ => ⟨S8208x6144, .f32⟩
  | .hbm, ⟨25, _⟩ => ⟨S8208x6144, .f32⟩
  | .hbm, ⟨26, _⟩ => ⟨S_, .f32⟩
  | .hbm, ⟨27, _⟩ => ⟨S2x6144, .f32⟩
  | .hbm, ⟨28, _⟩ => ⟨S8210x6144, .f32⟩
  | .hbm, ⟨29, _⟩ => ⟨S8208x6144, .f32⟩
  | .hbm, ⟨30, _⟩ => ⟨S1x6144, .f32⟩
  | .hbm, ⟨31, _⟩ => ⟨S6144, .f32⟩
  | .hbm, ⟨32, _⟩ => ⟨S1x6144, .f32⟩
  | .hbm, ⟨33, _⟩ => ⟨S8208x6144, .f32⟩
  | .hbm, ⟨34, _⟩ => ⟨S8208x6144, .f32⟩
  | .hbm, ⟨35, _⟩ => ⟨S1x6144, .f32⟩
  | .hbm, ⟨36, _⟩ => ⟨S8208x6144, .f32⟩
  | .hbm, ⟨37, _⟩ => ⟨S8208x6144, .f32⟩
  | .hbm, ⟨38, _⟩ => ⟨S8208x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8208x6144, .f32⟩
  | .hbm, ⟨43, _⟩ => ⟨S8208x6144, .f32⟩
  | .hbm, ⟨44, _⟩ => ⟨S8208x6144, .f32⟩
  | .hbm, ⟨45, _⟩ => ⟨S8208x6144, .f32⟩
  | .hbm, ⟨46, _⟩ => ⟨S1x6144, .f32⟩
  | .hbm, ⟨47, _⟩ => ⟨S6144, .f32⟩
  | .hbm, ⟨48, _⟩ => ⟨S1x6144, .f32⟩
  | .hbm, ⟨49, _⟩ => ⟨S8208x6144, .f32⟩
  | .hbm, ⟨50, _⟩ => ⟨S8208x6144, .f32⟩
  | .hbm, ⟨51, _⟩ => ⟨S8208x6144, .f32⟩
  | .hbm, ⟨52, _⟩ => ⟨S8208x6144, .f32⟩
  | .hbm, ⟨53, _⟩ => ⟨S8208x6144, .f32⟩
  | .hbm, ⟨54, _⟩ => ⟨S_, .f32⟩
  | .hbm, ⟨55, _⟩ => ⟨S8208x6144, .f32⟩
  | .hbm, ⟨56, _⟩ => ⟨S8208x6144, .f32⟩
  | .hbm, ⟨57, _⟩ => ⟨S8208x6144, .f32⟩
  | .hbm, ⟨58, _⟩ => ⟨S_, .f32⟩
  | .hbm, ⟨59, _⟩ => ⟨S8208x6144, .f32⟩
  | .hbm, ⟨60, _⟩ => ⟨S8208x6144, .f32⟩
  | .hbm, ⟨61, _⟩ => ⟨S8208x6144, .f32⟩
  | .hbm, ⟨62, _⟩ => ⟨S_, .f32⟩
  | .hbm, ⟨63, _⟩ => ⟨S8208x6144, .f32⟩
  | .hbm, ⟨64, _⟩ => ⟨S8208x6144, .f32⟩
  | .hbm, ⟨65, _⟩ => ⟨S_, .f32⟩
  | .hbm, ⟨66, _⟩ => ⟨S8208x6144, .f32⟩
  | .hbm, ⟨67, _⟩ => ⟨S8208x6144, .f32⟩
  | .hbm, ⟨68, _⟩ => ⟨S8208x6144, .f32⟩
  | .hbm, ⟨69, _⟩ => ⟨S8208x6144, .f32⟩
  | .hbm, ⟨70, _⟩ => ⟨S8208x2048, .f32⟩
  | .hbm, ⟨71, _⟩ => ⟨S8208x2048, .f32⟩
  | .hbm, ⟨72, _⟩ => ⟨S_, .f32⟩
  | .hbm, ⟨73, _⟩ => ⟨S8208, .f32⟩
  | .hbm, ⟨74, _⟩ => ⟨S8208x1, .f32⟩
  | .hbm, ⟨75, _⟩ => ⟨S_, .f32⟩
  | .hbm, ⟨76, _⟩ => ⟨S8208x1, .f32⟩
  | .hbm, ⟨77, _⟩ => ⟨S8208x1, .f32⟩
  | .hbm, ⟨78, _⟩ => ⟨S_, .f32⟩
  | .hbm, ⟨79, _⟩ => ⟨S8208x1, .f32⟩
  | .hbm, ⟨80, _⟩ => ⟨S8208x1, .f32⟩
  | .hbm, ⟨81, _⟩ => ⟨S8208x1, .f32⟩
  | .hbm, ⟨82, _⟩ => ⟨S8208x2048, .f32⟩
  | .hbm, ⟨83, _⟩ => ⟨S8208x2048, .f32⟩
  | .hbm, ⟨84, _⟩ => ⟨S1x2048, .f32⟩
  | .hbm, ⟨85, _⟩ => ⟨S8208x2048, .f32⟩
  | .hbm, ⟨86, _⟩ => ⟨S8208x2048, .f32⟩
  | .hbm, ⟨87, _⟩ => ⟨S8208x2048, .f32⟩
  | .hbm, ⟨88, _⟩ => ⟨S8192x2048, .f32⟩
  | .hbm, ⟨89, _⟩ => ⟨S8192x6144, .f32⟩
  | .hbm, ⟨90, _⟩ => ⟨S8x1024x6144, .f32⟩
  | .hbm, ⟨91, _⟩ => ⟨S8x8x6144, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Project.lean ====
abbrev S8192x2048 : Shape := ⟨2, ![8192, 2048]⟩
abbrev S16x2048 : Shape := ⟨2, ![16, 2048]⟩
abbrev S2048 : Shape := ⟨1, ![2048]⟩
abbrev S2048x8960 : Shape := ⟨2, ![2048, 8960]⟩
abbrev S8960x2048 : Shape := ⟨2, ![8960, 2048]⟩
abbrev S1x2048 : Shape := ⟨2, ![1, 2048]⟩
abbrev S8208x8960 : Shape := ⟨2, ![8208, 8960]⟩
abbrev S912x2048 : Shape := ⟨2, ![912, 2048]⟩
abbrev S1792x2048 : Shape := ⟨2, ![1792, 2048]⟩
abbrev S912x1792 : Shape := ⟨2, ![912, 1792]⟩
abbrev S896x2048 : Shape := ⟨2, ![896, 2048]⟩
abbrev S912 : Shape := ⟨1, ![912]⟩
abbrev S912x1 : Shape := ⟨2, ![912, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x8960, .f32⟩
  | .hbm, ⟨4, _⟩ => ⟨S8960x2048, .f32⟩
  | .hbm, ⟨5, _⟩ => ⟨S8960x2048, .bf16⟩
  | .hbm, ⟨6, _⟩ => ⟨S1x2048, .f32⟩
  | .hbm, ⟨7, _⟩ => ⟨S8208x8960, .f32⟩
  | .local _ .vmem, ⟨0, _⟩ => ⟨S912x2048, .f32⟩
  | .local _ .vmem, ⟨1, _⟩ => ⟨S912x2048, .f32⟩
  | .local _ .vmem, ⟨2, _⟩ => ⟨S16x2048, .f32⟩
  | .local _ .vmem, ⟨3, _⟩ => ⟨S1x2048, .f32⟩
  | .local _ .vmem, ⟨4, _⟩ => ⟨S1792x2048, .bf16⟩
  | .local _ .vmem, ⟨5, _⟩ => ⟨S1792x2048, .bf16⟩
  | .local _ .vmem, ⟨6, _⟩ => ⟨S912x1792, .f32⟩
  | .local _ .vmem, ⟨7, _⟩ => ⟨S912x1792, .f32⟩
  | .local _ .vmem, ⟨8, _⟩ => ⟨S912x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 5], ![false, false]⟩

def k0_mult1 (i : grid0.Coords) : BitVec 32 :=
  let arg0 : BitVec 32 := BitVec.ofNat 32 (i 0).val
  let c912_i32 : BitVec 32 := 912#32
  let v0 : BitVec 32 := Scalar.muli arg0 c912_i32
  let c16_i32 : BitVec 32 := 16#32
  let v1 : BitVec 32 := Scalar.subi v0 c16_i32
  let c0_i32 : BitVec 32 := 0#32
  let v2 : BitVec 32 := Scalar.maxsi v1 c0_i32
  v2
def cc0_transform_0 (i : grid0.Coords) : Fin 2 → Nat :=
  let arg0 : BitVec 32 := BitVec.ofNat 32 (i 0).val
  let arg1 : BitVec 32 := BitVec.ofNat 32 (i 1).val
  let c912_i32 : BitVec 32 := 912#32
  let v0 : BitVec 32 := Scalar.muli arg0 c912_i32
  let c16_i32 : BitVec 32 := 16#32
  let v1 : BitVec 32 := Scalar.subi v0 c16_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1792x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S912x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjectReferenceIdeal.lean ====
abbrev S8192x2048 : Shape := ⟨2, ![8192, 2048]⟩
abbrev S16x2048 : Shape := ⟨2, ![16, 2048]⟩
abbrev S2048 : Shape := ⟨1, ![2048]⟩
abbrev S2048x8960 : Shape := ⟨2, ![2048, 8960]⟩
abbrev S8208x2048 : Shape := ⟨2, ![8208, 2048]⟩
abbrev S_ : Shape := ⟨0, ![]⟩
abbrev S8208 : Shape := ⟨1, ![8208]⟩
abbrev S8208x1 : Shape := ⟨2, ![8208, 1]⟩
abbrev S1x2048 : Shape := ⟨2, ![1, 2048]⟩
abbrev S8208x8960 : Shape := ⟨2, ![8208, 8960]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x8960, .f32⟩
  | .hbm, ⟨4, _⟩ => ⟨S8208x2048, .f32⟩
  | .hbm, ⟨5, _⟩ => ⟨S8208x2048, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x2048, .f32⟩
  | .hbm, ⟨17, _⟩ => ⟨S8208x2048, .f32⟩
  | .hbm, ⟨18, _⟩ => ⟨S1x2048, .f32⟩
  | .hbm, ⟨19, _⟩ => ⟨S8208x2048, .f32⟩
  | .hbm, ⟨20, _⟩ => ⟨S8208x2048, .f32⟩
  | .hbm, ⟨21, _⟩ => ⟨S8208x8960, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Out.lean ====
abbrev S8208x2048 : Shape := ⟨2, ![8208, 2048]⟩
abbrev S2048x2048 : Shape := ⟨2, ![2048, 2048]⟩
abbrev S8192x2048 : Shape := ⟨2, ![8192, 2048]⟩
abbrev S16x2048 : Shape := ⟨2, ![16, 2048]⟩
abbrev S2048 : Shape := ⟨1, ![2048]⟩
abbrev S1x2048 : Shape := ⟨2, ![1, 2048]⟩
abbrev S432x2048 : Shape := ⟨2, ![432, 2048]⟩
abbrev S432 : Shape := ⟨1, ![432]⟩
abbrev S432x1 : Shape := ⟨2, ![432, 1]⟩
abbrev S416x2048 : Shape := ⟨2, ![416, 2048]⟩

abbrev nBuf : Space → Nat
  | .hbm => 9
  | .vmem => 9
  | .smem => 0
  | _ => 0

abbrev bufTy : (tb : Table) → Fin (tcTables nBuf tb) → BufTy
  | .hbm, ⟨0, _⟩ => ⟨S8208x2048, .f32⟩
  | .hbm, ⟨1, _⟩ => ⟨S2048x2048, .f32⟩
  | .hbm, ⟨2, _⟩ => ⟨S8192x2048, .f32⟩
  | .hbm, ⟨3, _⟩ => ⟨S16x2048, .f32⟩
  | .hbm, ⟨4, _⟩ => ⟨S2048, .f32⟩
  | .hbm, ⟨5, _⟩ => ⟨S8208x2048, .bf16⟩
  | .hbm, ⟨6, _⟩ => ⟨S2048x2048, .bf16⟩
  | .hbm, ⟨7, _⟩ => ⟨S1x2048, .f32⟩
  | .hbm, ⟨8, _⟩ => ⟨S8208x2048, .f32⟩
  | .local _ .vmem, ⟨0, _⟩ => ⟨S432x2048, .bf16⟩
  | .local _ .vmem, ⟨1, _⟩ => ⟨S432x2048, .bf16⟩
  | .local _ .vmem, ⟨2, _⟩ => ⟨S2048x2048, .bf16⟩
  | .local _ .vmem, ⟨3, _⟩ => ⟨S432x2048, .f32⟩
  | .local _ .vmem, ⟨4, _⟩ => ⟨S432x2048, .f32⟩
  | .local _ .vmem, ⟨5, _⟩ => ⟨S16x2048, .f32⟩
  | .local _ .vmem, ⟨6, _⟩ => ⟨S1x2048, .f32⟩
  | .local _ .vmem, ⟨7, _⟩ => ⟨S432x2048, .f32⟩
  | .local _ .vmem, ⟨8, _⟩ => ⟨S432x2048, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![19], ![false]⟩

def k0_mult1 (i : grid0.Coords) : BitVec 32 :=
  let arg0 : BitVec 32 := BitVec.ofNat 32 (i 0).val
  let c432_i32 : BitVec 32 := 432#32
  let v0 : BitVec 32 := Scalar.muli arg0 c432_i32
  let c16_i32 : BitVec 32 := 16#32
  let v1 : BitVec 32 := Scalar.subi v0 c16_i32
  let c0_i32 : BitVec 32 := 0#32
  let v2 : BitVec 32 := Scalar.maxsi v1 c0_i32
  v2
def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_8 : BitVec 32 := 0#32
  let v21 : BitVec 1 := Scalar.cmpi .ne v20 c0_i32_8
  v21

def k0_cond2 (i : grid0.Coords) : BitVec 1 :=
  let arg0 : BitVec 32 := BitVec.ofNat 32 (i 0).val
  let c0_i32_9 : BitVec 32 := 0#32
  let v22 : BitVec 1 := Scalar.cmpi .ne arg0 c0_i32_9
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c432_i32 : BitVec 32 := 432#32
  let v0 : BitVec 32 := Scalar.muli arg0 c432_i32
  let c16_i32 : BitVec 32 := 16#32
  let v1 : BitVec 32 := Scalar.subi v0 c16_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S432x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S432x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S8208x2048 : Shape := ⟨2, ![8208, 2048]⟩
abbrev S2048x2048 : Shape := ⟨2, ![2048, 2048]⟩
abbrev S8192x2048 : Shape := ⟨2, ![8192, 2048]⟩
abbrev S16x2048 : Shape := ⟨2, ![16, 2048]⟩
abbrev S2048 : Shape := ⟨1, ![2048]⟩
abbrev S_ : Shape := ⟨0, ![]⟩
abbrev S8208 : Shape := ⟨1, ![8208]⟩
abbrev S8208x1 : Shape := ⟨2, ![8208, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048x2048, .f32⟩
  | .hbm, ⟨2, _⟩ => ⟨S8192x2048, .f32⟩
  | .hbm, ⟨3, _⟩ => ⟨S16x2048, .f32⟩
  | .hbm, ⟨4, _⟩ => ⟨S2048, .f32⟩
  | .hbm, ⟨5, _⟩ => ⟨S8208x2048, .f32⟩
  | .hbm, ⟨6, _⟩ => ⟨S8208x2048, .f32⟩
  | .hbm, ⟨7, _⟩ => ⟨S8208x2048, .f32⟩
  | .hbm, ⟨8, _⟩ => ⟨S_, .f32⟩
  | .hbm, ⟨9, _⟩ => ⟨S8208, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S8208x2048, .f32⟩
  | .hbm, ⟨19, _⟩ => ⟨S8208x2048, .f32⟩
  | .hbm, ⟨20, _⟩ => ⟨S1x2048, .f32⟩
  | .hbm, ⟨21, _⟩ => ⟨S8208x2048, .f32⟩
  | .hbm, ⟨22, _⟩ => ⟨S8208x2048, .f32⟩
  | .hbm, ⟨23, _⟩ => ⟨S8208x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== SampleProject.lean ====
abbrev S512x2048 : Shape := ⟨2, ![512, 2048]⟩
abbrev S2048 : Shape := ⟨1, ![2048]⟩
abbrev S2048x8960 : Shape := ⟨2, ![2048, 8960]⟩
abbrev S8960x2048 : Shape := ⟨2, ![8960, 2048]⟩
abbrev S1x2048 : Shape := ⟨2, ![1, 2048]⟩
abbrev S512x8960 : Shape := ⟨2, ![512, 8960]⟩
abbrev S1792x2048 : Shape := ⟨2, ![1792, 2048]⟩
abbrev S512x1792 : Shape := ⟨2, ![512, 1792]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x8960, .f32⟩
  | .hbm, ⟨3, _⟩ => ⟨S8960x2048, .f32⟩
  | .hbm, ⟨4, _⟩ => ⟨S8960x2048, .bf16⟩
  | .hbm, ⟨5, _⟩ => ⟨S1x2048, .f32⟩
  | .hbm, ⟨6, _⟩ => ⟨S512x8960, .f32⟩
  | .local _ .vmem, ⟨0, _⟩ => ⟨S512x2048, .f32⟩
  | .local _ .vmem, ⟨1, _⟩ => ⟨S1x2048, .f32⟩
  | .local _ .vmem, ⟨2, _⟩ => ⟨S1792x2048, .bf16⟩
  | .local _ .vmem, ⟨3, _⟩ => ⟨S1792x2048, .bf16⟩
  | .local _ .vmem, ⟨4, _⟩ => ⟨S512x1792, .f32⟩
  | .local _ .vmem, ⟨5, _⟩ => ⟨S512x1792, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1792x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleProjectReferenceIdeal.lean ====
abbrev S512x2048 : Shape := ⟨2, ![512, 2048]⟩
abbrev S2048 : Shape := ⟨1, ![2048]⟩
abbrev S2048x8960 : Shape := ⟨2, ![2048, 8960]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x8960 : Shape := ⟨2, ![512, 8960]⟩

abbrev nBuf : Space → Nat
  | .hbm => 20
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x8960, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x8960, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== SampleOut.lean ====
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩

abbrev nBuf : Space → Nat
  | .hbm => 8
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S512x2048, .f32⟩
  | .hbm, ⟨3, _⟩ => ⟨S2048, .f32⟩
  | .hbm, ⟨4, _⟩ => ⟨S512x2048, .bf16⟩
  | .hbm, ⟨5, _⟩ => ⟨S2048x2048, .bf16⟩
  | .hbm, ⟨6, _⟩ => ⟨S1x2048, .f32⟩
  | .hbm, ⟨7, _⟩ => ⟨S512x2048, .f32⟩
  | .local _ .vmem, ⟨0, _⟩ => ⟨S512x2048, .bf16⟩
  | .local _ .vmem, ⟨1, _⟩ => ⟨S2048x2048, .bf16⟩
  | .local _ .vmem, ⟨2, _⟩ => ⟨S512x2048, .f32⟩
  | .local _ .vmem, ⟨3, _⟩ => ⟨S1x2048, .f32⟩
  | .local _ .vmem, ⟨4, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SampleOutReferenceIdeal.lean ====
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S512x2048, .f32⟩
  | .hbm, ⟨3, _⟩ => ⟨S2048, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x2048, .f32⟩
  | .hbm, ⟨17, _⟩ => ⟨S512x2048, .f32⟩
  | .hbm, ⟨18, _⟩ => ⟨S1x2048, .f32⟩
  | .hbm, ⟨19, _⟩ => ⟨S512x2048, .f32⟩
  | .hbm, ⟨20, _⟩ => ⟨S512x2048, .f32⟩
  | .hbm, ⟨21, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== SampleFfn.lean ====
abbrev S512x2048 : Shape := ⟨2, ![512, 2048]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S16x2x6144 : Shape := ⟨3, ![16, 2, 6144]⟩
abbrev S1x2048 : Shape := ⟨2, ![1, 2048]⟩
abbrev S1x6144 : Shape := ⟨2, ![1, 6144]⟩
abbrev S16x1x6144 : Shape := ⟨3, ![16, 1, 6144]⟩
abbrev S16x6144 : Shape := ⟨2, ![16, 6144]⟩
abbrev S16x8x6144 : Shape := ⟨3, ![16, 8, 6144]⟩
abbrev S16x512 : Shape := ⟨2, ![16, 512]⟩
abbrev S2048x512 : Shape := ⟨2, ![2048, 512]⟩
abbrev S3x512 : Shape := ⟨2, ![3, 512]⟩
abbrev S1x512 : Shape := ⟨2, ![1, 512]⟩
abbrev S16x8x512 : Shape := ⟨3, ![16, 8, 512]⟩
abbrev S512 : Shape := ⟨1, ![512]⟩
abbrev S512x1 : Shape := ⟨2, ![512, 1]⟩
abbrev S512x512 : Shape := ⟨2, ![512, 512]⟩
abbrev S32x512 : Shape := ⟨2, ![32, 512]⟩
abbrev S8x512 : Shape := ⟨2, ![8, 512]⟩
abbrev S1x8x512 : Shape := ⟨3, ![1, 8, 512]⟩

abbrev nBuf : Space → Nat
  | .hbm => 19
  | .vmem => 21
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x12288, .f32⟩
  | .hbm, ⟨3, _⟩ => ⟨S3x6144, .f32⟩
  | .hbm, ⟨4, _⟩ => ⟨S6144, .f32⟩
  | .hbm, ⟨5, _⟩ => ⟨S6144x2048, .f32⟩
  | .hbm, ⟨6, _⟩ => ⟨S2048, .f32⟩
  | .hbm, ⟨7, _⟩ => ⟨S16x2x6144, .f32⟩
  | .hbm, ⟨8, _⟩ => ⟨S1x2048, .f32⟩
  | .hbm, ⟨9, _⟩ => ⟨S2048x12288, .bf16⟩
  | .hbm, ⟨10, _⟩ => ⟨S6144x2048, .bf16⟩
  | .hbm, ⟨11, _⟩ => ⟨S1x6144, .f32⟩
  | .hbm, ⟨12, _⟩ => ⟨S1x2048, .f32⟩
  | .hbm, ⟨13, _⟩ => ⟨S16x1x6144, .f32⟩
  | .hbm, ⟨14, _⟩ => ⟨S16x6144, .f32⟩
  | .hbm, ⟨15, _⟩ => ⟨S16x1x6144, .f32⟩
  | .hbm, ⟨16, _⟩ => ⟨S16x6144, .f32⟩
  | .hbm, ⟨17, _⟩ => ⟨S512x2048, .f32⟩
  | .hbm, ⟨18, _⟩ => ⟨S16x8x6144, .f32⟩
  | .local _ .vmem, ⟨0, _⟩ => ⟨S512x2048, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x2048, .f32⟩
  | .local _ .vmem, ⟨17, _⟩ => ⟨S512x2048, .f32⟩
  | .local _ .vmem, ⟨18, _⟩ => ⟨S16x8x512, .f32⟩
  | .local _ .vmem, ⟨19, _⟩ => ⟨S16x8x512, .f32⟩
  | .local _ .vmem, ⟨20, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S16x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== SampleFfnReferenceIdeal.lean ====
abbrev S512x2048 : Shape := ⟨2, ![512, 2048]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S16x2x6144 : Shape := ⟨3, ![16, 2, 6144]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x12288 : Shape := ⟨2, ![512, 12288]⟩
abbrev S16x32x12288 : Shape := ⟨3, ![16, 32, 12288]⟩
abbrev S16x32x6144 : Shape := ⟨3, ![16, 32, 6144]⟩
abbrev S16x34x6144 : Shape := ⟨3, ![16, 34, 6144]⟩
abbrev S1x6144 : Shape := ⟨2, ![1, 6144]⟩
abbrev S1x1x6144 : Shape := ⟨3, ![1, 1, 6144]⟩
abbrev S512x6144 : Shape := ⟨2, ![512, 6144]⟩
abbrev S16x8x6144 : Shape := ⟨3, ![16, 8, 6144]⟩

abbrev nBuf : Space → Nat
  | .hbm => 90
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x12288, .f32⟩
  | .hbm, ⟨3, _⟩ => ⟨S3x6144, .f32⟩
  | .hbm, ⟨4, _⟩ => ⟨S6144, .f32⟩
  | .hbm, ⟨5, _⟩ => ⟨S6144x2048, .f32⟩
  | .hbm, ⟨6, _⟩ => ⟨S2048, .f32⟩
  | .hbm, ⟨7, _⟩ => ⟨S16x2x6144, .f32⟩
  | .hbm, ⟨8, _⟩ => ⟨S512x2048, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x2048, .f32⟩
  | .hbm, ⟨20, _⟩ => ⟨S512x2048, .f32⟩
  | .hbm, ⟨21, _⟩ => ⟨S1x2048, .f32⟩
  | .hbm, ⟨22, _⟩ => ⟨S512x2048, .f32⟩
  | .hbm, ⟨23, _⟩ => ⟨S512x2048, .f32⟩
  | .hbm, ⟨24, _⟩ => ⟨S512x12288, .f32⟩
  | .hbm, ⟨25, _⟩ => ⟨S16x32x12288, .f32⟩
  | .hbm, ⟨26, _⟩ => ⟨S16x32x6144, .f32⟩
  | .hbm, ⟨27, _⟩ => ⟨S16x32x6144, .f32⟩
  | .hbm, ⟨28, _⟩ => ⟨S16x34x6144, .f32⟩
  | .hbm, ⟨29, _⟩ => ⟨S16x32x6144, .f32⟩
  | .hbm, ⟨30, _⟩ => ⟨S1x6144, .f32⟩
  | .hbm, ⟨31, _⟩ => ⟨S6144, .f32⟩
  | .hbm, ⟨32, _⟩ => ⟨S1x1x6144, .f32⟩
  | .hbm, ⟨33, _⟩ => ⟨S16x32x6144, .f32⟩
  | .hbm, ⟨34, _⟩ => ⟨S16x32x6144, .f32⟩
  | .hbm, ⟨35, _⟩ => ⟨S1x1x6144, .f32⟩
  | .hbm, ⟨36, _⟩ => ⟨S16x32x6144, .f32⟩
  | .hbm, ⟨37, _⟩ => ⟨S16x32x6144, .f32⟩
  | .hbm, ⟨38, _⟩ => ⟨S16x32x6144, .f32⟩
  | .hbm, ⟨39, _⟩ => ⟨S1x6144, .f32⟩
  | .hbm, ⟨40, _⟩ => ⟨S6144, .f32⟩
  | .hbm, ⟨41, _⟩ => ⟨S1x1x6144, .f32⟩
  | .hbm, ⟨42, _⟩ => ⟨S16x32x6144, .f32⟩
  | .hbm, ⟨43, _⟩ => ⟨S16x32x6144, .f32⟩
  | .hbm, ⟨44, _⟩ => ⟨S16x32x6144, .f32⟩
  | .hbm, ⟨45, _⟩ => ⟨S16x32x6144, .f32⟩
  | .hbm, ⟨46, _⟩ => ⟨S1x6144, .f32⟩
  | .hbm, ⟨47, _⟩ => ⟨S6144, .f32⟩
  | .hbm, ⟨48, _⟩ => ⟨S1x1x6144, .f32⟩
  | .hbm, ⟨49, _⟩ => ⟨S16x32x6144, .f32⟩
  | .hbm, ⟨50, _⟩ => ⟨S16x32x6144, .f32⟩
  | .hbm, ⟨51, _⟩ => ⟨S16x32x6144, .f32⟩
  | .hbm, ⟨52, _⟩ => ⟨S16x32x6144, .f32⟩
  | .hbm, ⟨53, _⟩ => ⟨S16x32x6144, .f32⟩
  | .hbm, ⟨54, _⟩ => ⟨S_, .f32⟩
  | .hbm, ⟨55, _⟩ => ⟨S16x32x6144, .f32⟩
  | .hbm, ⟨56, _⟩ => ⟨S16x32x6144, .f32⟩
  | .hbm, ⟨57, _⟩ => ⟨S16x32x6144, .f32⟩
  | .hbm, ⟨58, _⟩ => ⟨S_, .f32⟩
  | .hbm, ⟨59, _⟩ => ⟨S16x32x6144, .f32⟩
  | .hbm, ⟨60, _⟩ => ⟨S16x32x6144, .f32⟩
  | .hbm, ⟨61, _⟩ => ⟨S16x32x6144, .f32⟩
  | .hbm, ⟨62, _⟩ => ⟨S_, .f32⟩
  | .hbm, ⟨63, _⟩ => ⟨S16x32x6144, .f32⟩
  | .hbm, ⟨64, _⟩ => ⟨S16x32x6144, .f32⟩
  | .hbm, ⟨65, _⟩ => ⟨S_, .f32⟩
  | .hbm, ⟨66, _⟩ => ⟨S16x32x6144, .f32⟩
  | .hbm, ⟨67, _⟩ => ⟨S16x32x6144, .f32⟩
  | .hbm, ⟨68, _⟩ => ⟨S16x32x6144, .f32⟩
  | .hbm, ⟨69, _⟩ => ⟨S16x32x6144, .f32⟩
  | .hbm, ⟨70, _⟩ => ⟨S512x6144, .f32⟩
  | .hbm, ⟨71, _⟩ => ⟨S512x2048, .f32⟩
  | .hbm, ⟨72, _⟩ => ⟨S512x2048, .f32⟩
  | .hbm, ⟨73, _⟩ => ⟨S_, .f32⟩
  | .hbm, ⟨74, _⟩ => ⟨S512, .f32⟩
  | .hbm, ⟨75, _⟩ => ⟨S512x1, .f32⟩
  | .hbm, ⟨76, _⟩ => ⟨S_, .f32⟩
  | .hbm, ⟨77, _⟩ => ⟨S512x1, .f32⟩
  | .hbm, ⟨78, _⟩ => ⟨S512x1, .f32⟩
  | .hbm, ⟨79, _⟩ => ⟨S_, .f32⟩
  | .hbm, ⟨80, _⟩ => ⟨S512x1, .f32⟩
  | .hbm, ⟨81, _⟩ => ⟨S512x1, .f32⟩
  | .hbm, ⟨82, _⟩ => ⟨S512x1, .f32⟩
  | .hbm, ⟨83, _⟩ => ⟨S512x2048, .f32⟩
  | .hbm, ⟨84, _⟩ => ⟨S512x2048, .f32⟩
  | .hbm, ⟨85, _⟩ => ⟨S1x2048, .f32⟩
  | .hbm, ⟨86, _⟩ => ⟨S512x2048, .f32⟩
  | .hbm, ⟨87, _⟩ => ⟨S512x2048, .f32⟩
  | .hbm, ⟨88, _⟩ => ⟨S512x2048, .f32⟩
  | .hbm, ⟨89, _⟩ => ⟨S16x8x6144, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Attn.lean ====
/- One chunk of the band attention as the kernel computes it: 64 queries of every head against the 16 meta keys and the
   three 64-key chunks of its window, the sink in a column of its own. The four stores of a grid point are four instances
   of this one function. -/
module

public import proofs.«01_k».proof.Proof.Gen.KernelIdeal.Value

@[expose] public section

set_option maxRecDepth 16384

noncomputable section

namespace Cert.Band

open Cert.KernelIdeal Cert.KernelIdeal.Gen Idealize.ShloMosaic

variable {F : FTy → Type} [FloatOps F]

/-- Zeros in every place of a 256 by 128 array. -/
def zeros : FVec F S256x128 .f32 := broadcast S256x128 (Scalar.ofBits .f32 0x00000000#32)

/-- The keys (or values) of a window one below the other: 16 meta rows, three chunks of 64, and 48 rows of zeros. -/
def stack (a : Vec F S16x128 .f32) (b0 b1 b2 : Vec F S64x128 .f32) : FVec F S256x128 .f32 :=
  concatenate S256x128 0 [⟨S16x128, a⟩, ⟨S64x128, b0⟩, ⟨S64x128, b1⟩, ⟨S64x128, b2⟩,
    ⟨S48x128, broadcast S48x128 (Scalar.ofBits (F := F) .f32 0x00000000#32)⟩]
    concatenates_S16x128_S64x128_S64x128_S64x128_S48x128_S256x128_d0

/-- The two heads' halves exchanged: a rotation of the lanes by 64. -/
def swap (a : FVec F S256x128 .f32) : FVec F S256x128 .f32 := dynamicRotate 1 64#32 none a rotates_S256x128_d1

/-- The lanes below 64. -/
def lowLanes : IVec S256x128 1 :=
  cmpi .slt (iota .tc S256x128 32 [1] iota_S256x128_d1_w32) (broadcast S256x128 64#32)

/-- The lower half of the lanes kept, the upper half zero. -/
def keepLow (a : FVec F S256x128 .f32) : FVec F S256x128 .f32 := select lowLanes a zeros

/-- The upper half of the lanes kept, the lower half zero. -/
def keepHigh (a : FVec F S256x128 .f32) : FVec F S256x128 .f32 := select lowLanes zeros a

/-- The key columns a query of chunk `b` sees: the 16 meta keys, and of the 192 band keys those not before the sequence. -/
def seen (b : BitVec 32) : IVec S1x256 1 :=
  andi (cmpi .slt (iota .tc S1x256 32 [1] iota_S1x256_d1_w32) (broadcast S1x256 208#32))
    (ori (cmpi .slt (iota .tc S1x256 32 [1] iota_S1x256_d1_w32) (broadcast S1x256 16#32))
      (cmpi .sge (iota .tc S1x256 32 [1] iota_S1x256_d1_w32)
        (broadcast S1x256 (Scalar.addi 16#32 (Scalar.muli (Scalar.maxsi (Scalar.subi 2#32 b) 0#32) 64#32)))))

/-- Zero at the columns seen, minus infinity at the others. -/
def bias (b : BitVec 32) : FVec F S1x256 .f32 :=
  select (seen b) (broadcast S1x256 (Scalar.ofBits .f32 0x00000000#32)) (broadcast S1x256 (Scalar.ofBits .f32 0xFF800000#32))

/-- The column the sink stands in. -/
def sinkCol : IVec S1x256 1 := cmpi .eq (iota .tc S1x256 32 [1] iota_S1x256_d1_w32) (broadcast S1x256 208#32)

/-- One in the rows of the keys and of the sink, zero below. -/
def ones : FVec F S256x128 .bf16 :=
  truncf .bf16 (sitofp .f32 (extui 32 (cmpi .sle (iota .tc S256x128 32 [0] iota_S256x128_d0_w32)
    (broadcast S256x128 208#32)) natLt_1_32)) bitsLt_bf16_f32

/-- Four pairs of query heads, one pair's 64 rows below the other's. -/
def qStack (q0 q1 q2 q3 : Vec F S64x128 .bf16) : FVec F S256x128 .bf16 :=
  concatenate S256x128 0 [⟨S64x128, shapeCast S64x128 q0 shapeCasts_S64x128_S64x128⟩,
    ⟨S64x128, shapeCast S64x128 q1 shapeCasts_S64x128_S64x128⟩,
    ⟨S64x128, shapeCast S64x128 q2 shapeCasts_S64x128_S64x128⟩,
    ⟨S64x128, shapeCast S64x128 q3 shapeCasts_S64x128_S64x128⟩] concatenates_S64x128_S64x128_S64x128_S64x128_S256x128_d0

/-- The scores of four pairs' queries against one half of the keys, the bias added. -/
def score (b : BitVec 32) (q : FVec F S256x128 .bf16) (k : FVec F S256x128 .f32) : FVec F S256x256 .f32 :=
  addf (matmul dot_S256x128_S256x128_S256x256_1_1_0_0_n_n none q (truncf .bf16 k bitsLt_bf16_f32)
    (constant S256x256 .f32 0x00000000#32)) (broadcastTo S256x256 (bias b) broadcasts_S1x256_S256x256)

/-- A head's rows of scores with its sink put in the sink's column. -/
def sinkIn (s : Vec F S1x1 .f32) (x : FVec F S64x256 .f32) : FVec F S64x256 .f32 :=
  select (broadcastTo S64x256 (shapeCast S1x256 sinkCol shapeCasts_S1x256_S1x256) broadcasts_S1x256_S64x256)
    (broadcastTo S64x256 (shapeCast S1x1 (shapeCast S1x1 s shapeCasts_S1x1_S1x1) shapeCasts_S1x1_S1x1)
      broadcasts_S1x1_S64x256) x

/-- Rows from 0: one head's scores. -/
def head0 (s : Vec F S1x1 .f32) (x : FVec F S256x256 .f32) : FVec F S64x256 .f32 :=
  sinkIn s (extractStridedSlice S64x256 ![0, 0] x slices_S256x256_o0_0_S64x256)

/-- Rows from 64: one head's scores. -/
def head64 (s : Vec F S1x1 .f32) (x : FVec F S256x256 .f32) : FVec F S64x256 .f32 :=
  sinkIn s (extractStridedSlice S64x256 ![64, 0] x slices_S256x256_o64_0_S64x256)

/-- Rows from 128: one head's scores. -/
def head128 (s : Vec F S1x1 .f32) (x : FVec F S256x256 .f32) : FVec F S64x256 .f32 :=
  sinkIn s (extractStridedSlice S64x256 ![128, 0] x slices_S256x256_o128_0_S64x256)

/-- Rows from 192: one head's scores. -/
def head192 (s : Vec F S1x1 .f32) (x : FVec F S256x256 .f32) : FVec F S64x256 .f32 :=
  sinkIn s (extractStridedSlice S64x256 ![192, 0] x slices_S256x256_o192_0_S64x256)

/-- All sixteen heads' scores, 64 rows a head: the even heads of the first key head, its odd heads, then the same of the second. -/
def scores (x0 x1 x2 x3 : FVec F S256x256 .f32)
    (s0 s1 s2 s3 s4 s5 s6 s7 s8 s9 s10 s11 s12 s13 s14 s15 : Vec F S1x1 .f32) : FVec F S1024x256 .f32 :=
  concatenate S1024x256 0 [⟨S64x256, head0 s0 x0⟩, ⟨S64x256, head64 s2 x0⟩, ⟨S64x256, head128 s4 x0⟩, ⟨S64x256, head192 s6 x0⟩, ⟨S64x256, head0 s1 x1⟩, ⟨S64x256, head64 s3 x1⟩, ⟨S64x256, head128 s5 x1⟩, ⟨S64x256, head192 s7 x1⟩, ⟨S64x256, head0 s8 x2⟩, ⟨S64x256, head64 s10 x2⟩, ⟨S64x256, head128 s12 x2⟩, ⟨S64x256, head192 s14 x2⟩, ⟨S64x256, head0 s9 x3⟩, ⟨S64x256, head64 s11 x3⟩, ⟨S64x256, head128 s13 x3⟩, ⟨S64x256, head192 s15 x3⟩]
    concatenates_S64x256_S64x256_S64x256_S64x256_S64x256_S64x256_S64x256_S64x256_S64x256_S64x256_S64x256_S64x256_S64x256_S64x256_S64x256_S64x256_S1024x256_d0

/-- The exponentials of the scores less their row's maximum. -/
def weights (s : FVec F S1024x256 .f32) : FVec F S1024x256 .bf16 :=
  truncf .bf16 (exp (subf s (broadcastTo S1024x256 (shapeCast S1024x1
    (multiReduction .maximumf [1] S1024 s 0xFF800000#32 reduces_S1024x256_S1024 (.inl rfl) rfl)
    shapeCasts_S1024_S1024x1) broadcasts_S1024x1_S1024x256))) bitsLt_bf16_f32

/-- One half of the values beside the ones that sum the weights. -/
def vals (v : FVec F S256x128 .f32) : FVec F S256x256 .bf16 :=
  concatenate S256x256 1 [⟨S256x128, truncf .bf16 v bitsLt_bf16_f32⟩, ⟨S256x128, ones⟩]
    concatenates_S256x128_S256x128_S256x256_d1

/-- Four heads' weighted values over their weights' sums. -/
def mix (e : FVec F S256x256 .bf16) (v : FVec F S256x256 .bf16) : FVec F S256x128 .f32 :=
  divf (extractStridedSlice S256x128 ![0, 0] (matmul dot_S256x256_S256x256_S256x256_1_0_0_1_n_n none e v
      (constant S256x256 .f32 0x00000000#32)) slices_S256x256_o0_0_S256x128)
    (extractStridedSlice S256x128 ![0, 128] (matmul dot_S256x256_S256x256_S256x256_1_0_0_1_n_n none e v
      (constant S256x256 .f32 0x00000000#32)) slices_S256x256_o0_128_S256x128)

/-- The eight pairs' results side by side. -/
def sides (t0 t1 : FVec F S256x128 .f32) : FVec F S64x1024 .bf16 :=
  truncf .bf16 (concatenate S64x1024 1 [⟨S64x128, extractStridedSlice S64x128 ![0, 0] t0 slices_S256x128_o0_0_S64x128⟩, ⟨S64x128, extractStridedSlice S64x128 ![64, 0] t0 slices_S256x128_o64_0_S64x128⟩, ⟨S64x128, extractStridedSlice S64x128 ![128, 0] t0 slices_S256x128_o128_0_S64x128⟩, ⟨S64x128, extractStridedSlice S64x128 ![192, 0] t0 slices_S256x128_o192_0_S64x128⟩, ⟨S64x128, extractStridedSlice S64x128 ![0, 0] t1 slices_S256x128_o0_0_S64x128⟩, ⟨S64x128, extractStridedSlice S64x128 ![64, 0] t1 slices_S256x128_o64_0_S64x128⟩, ⟨S64x128, extractStridedSlice S64x128 ![128, 0] t1 slices_S256x128_o128_0_S64x128⟩, ⟨S64x128, extractStridedSlice S64x128 ![192, 0] t1 slices_S256x128_o192_0_S64x128⟩]
    concatenates_S64x128_S64x128_S64x128_S64x128_S64x128_S64x128_S64x128_S64x128_S64x1024_d1) bitsLt_bf16_f32

/-- The results of a chunk from its weights. -/
def fromWeights (e : FVec F S1024x256 .bf16) (v : FVec F S256x128 .f32) : FVec F S64x1024 .bf16 :=
  sides
    (addf (mix (extractStridedSlice S256x256 ![0, 0] e slices_S1024x256_o0_0_S256x256) (vals (keepLow v)))
      (mix (extractStridedSlice S256x256 ![256, 0] e slices_S1024x256_o256_0_S256x256) (vals (keepHigh (swap v)))))
    (addf (mix (extractStridedSlice S256x256 ![512, 0] e slices_S1024x256_o512_0_S256x256) (vals (keepLow (swap v))))
      (mix (extractStridedSlice S256x256 ![768, 0] e slices_S1024x256_o768_0_S256x256) (vals (keepHigh v))))

/-- One chunk of the attention: its number, the keys and values of its window, its queries a pair of heads at a time, the sinks. -/
def attend (b : BitVec 32) (k v : FVec F S256x128 .f32) (q0 q1 q2 q3 q4 q5 q6 q7 : Vec F S64x128 .bf16)
    (s0 s1 s2 s3 s4 s5 s6 s7 s8 s9 s10 s11 s12 s13 s14 s15 : Vec F S1x1 .f32) : FVec F S64x1024 .bf16 :=
  fromWeights (weights (scores (score b (qStack q0 q1 q2 q3) (keepLow k)) (score b (qStack q0 q1 q2 q3) (keepHigh (swap k)))
    (score b (qStack q4 q5 q6 q7) (keepLow (swap k))) (score b (qStack q4 q5 q6 q7) (keepHigh k))
    s0 s1 s2 s3 s4 s5 s6 s7 s8 s9 s10 s11 s12 s13 s14 s15)) v

end Cert.Band
-- ==== Proof.Pieces.lean ====
/- What a grid point of the band attention stores: four chunks, each an instance of `attend`. -/
module

public import proofs.«01_k».proof.Proof.Attn

@[expose] public section

set_option maxRecDepth 65536

noncomputable section

namespace Cert.Band

open Cert.KernelIdeal Cert.KernelIdeal.Gen Idealize.ShloMosaic

variable {F : FTy → Type} [FloatOps F]

/-- The number of chunk `h` of grid point `i`, as the kernel counts it. -/
def chunkNo (i : grid0.Coords) (h : BitVec 32) : BitVec 32 :=
  Scalar.addi (Scalar.muli (BitVec.ofNat 32 (i 0).val) 4#32) h

/-- The keys (or values) of one chunk's window, read from the blocks. -/
def window (a : Vec F S16x128 .f32) (b0 b1 b2 : Vec F S64x128 .f32) : FVec F S256x128 .f32 :=
  stack (View.ld a r0_0) (View.ld b0 r0_1) (View.ld b1 r0_1) (View.ld b2 r0_1)

/-- Chunk 0 of a grid point. -/
def piece0 (i : grid0.Coords) (x0 : Vec F S256x1024 .bf16) (x1 : Vec F S1x16 .f32) (x2 : Vec F S16x128 .f32) (x3 : Vec F S64x128 .f32) (x4 : Vec F S64x128 .f32) (x5 : Vec F S64x128 .f32) (x6 : Vec F S64x128 .f32) (x7 : Vec F S64x128 .f32) (x8 : Vec F S64x128 .f32) (x9 : Vec F S16x128 .f32) (x10 : Vec F S64x128 .f32) (x11 : Vec F S64x128 .f32) (x12 : Vec F S64x128 .f32) (x13 : Vec F S64x128 .f32) (x14 : Vec F S64x128 .f32) (x15 : Vec F S64x128 .f32) : FVec F S64x1024 .bf16 :=
  attend (chunkNo i 0#32) (window x2 x3 x4 x5) (window x9 x10 x11 x12)
    (View.ld x0 r0_2) (View.ld x0 r0_3) (View.ld x0 r0_4) (View.ld x0 r0_5) (View.ld x0 r0_14) (View.ld x0 r0_15) (View.ld x0 r0_16) (View.ld x0 r0_17)
    (View.ld x1 r0_6) (View.ld x1 r0_10) (View.ld x1 r0_7) (View.ld x1 r0_11) (View.ld x1 r0_8) (View.ld x1 r0_12) (View.ld x1 r0_9) (View.ld x1 r0_13) (View.ld x1 r0_18) (View.ld x1 r0_22) (View.ld x1 r0_19) (View.ld x1 r0_23) (View.ld x1 r0_20) (View.ld x1 r0_24) (View.ld x1 r0_21) (View.ld x1 r0_25)

/-- Chunk 1 of a grid point. -/
def piece1 (i : grid0.Coords) (x0 : Vec F S256x1024 .bf16) (x1 : Vec F S1x16 .f32) (x2 : Vec F S16x128 .f32) (x3 : Vec F S64x128 .f32) (x4 : Vec F S64x128 .f32) (x5 : Vec F S64x128 .f32) (x6 : Vec F S64x128 .f32) (x7 : Vec F S64x128 .f32) (x8 : Vec F S64x128 .f32) (x9 : Vec F S16x128 .f32) (x10 : Vec F S64x128 .f32) (x11 : Vec F S64x128 .f32) (x12 : Vec F S64x128 .f32) (x13 : Vec F S64x128 .f32) (x14 : Vec F S64x128 .f32) (x15 : Vec F S64x128 .f32) : FVec F S64x1024 .bf16 :=
  attend (chunkNo i 1#32) (window x2 x4 x5 x6) (window x9 x11 x12 x13)
    (View.ld x0 r0_27) (View.ld x0 r0_28) (View.ld x0 r0_29) (View.ld x0 r0_30) (View.ld x0 r0_31) (View.ld x0 r0_32) (View.ld x0 r0_33) (View.ld x0 r0_34)
    (View.ld x1 r0_6) (View.ld x1 r0_10) (View.ld x1 r0_7) (View.ld x1 r0_11) (View.ld x1 r0_8) (View.ld x1 r0_12) (View.ld x1 r0_9) (View.ld x1 r0_13) (View.ld x1 r0_18) (View.ld x1 r0_22) (View.ld x1 r0_19) (View.ld x1 r0_23) (View.ld x1 r0_20) (View.ld x1 r0_24) (View.ld x1 r0_21) (View.ld x1 r0_25)

/-- Chunk 2 of a grid point. -/
def piece2 (i : grid0.Coords) (x0 : Vec F S256x1024 .bf16) (x1 : Vec F S1x16 .f32) (x2 : Vec F S16x128 .f32) (x3 : Vec F S64x128 .f32) (x4 : Vec F S64x128 .f32) (x5 : Vec F S64x128 .f32) (x6 : Vec F S64x128 .f32) (x7 : Vec F S64x128 .f32) (x8 : Vec F S64x128 .f32) (x9 : Vec F S16x128 .f32) (x10 : Vec F S64x128 .f32) (x11 : Vec F S64x128 .f32) (x12 : Vec F S64x128 .f32) (x13 : Vec F S64x128 .f32) (x14 : Vec F S64x128 .f32) (x15 : Vec F S64x128 .f32) : FVec F S64x1024 .bf16 :=
  attend (chunkNo i 2#32) (window x2 x5 x6 x7) (window x9 x12 x13 x14)
    (View.ld x0 r0_36) (View.ld x0 r0_37) (View.ld x0 r0_38) (View.ld x0 r0_39) (View.ld x0 r0_40) (View.ld x0 r0_41) (View.ld x0 r0_42) (View.ld x0 r0_43)
    (View.ld x1 r0_6) (View.ld x1 r0_10) (View.ld x1 r0_7) (View.ld x1 r0_11) (View.ld x1 r0_8) (View.ld x1 r0_12) (View.ld x1 r0_9) (View.ld x1 r0_13) (View.ld x1 r0_18) (View.ld x1 r0_22) (View.ld x1 r0_19) (View.ld x1 r0_23) (View.ld x1 r0_20) (View.ld x1 r0_24) (View.ld x1 r0_21) (View.ld x1 r0_25)

/-- Chunk 3 of a grid point. -/
def piece3 (i : grid0.Coords) (x0 : Vec F S256x1024 .bf16) (x1 : Vec F S1x16 .f32) (x2 : Vec F S16x128 .f32) (x3 : Vec F S64x128 .f32) (x4 : Vec F S64x128 .f32) (x5 : Vec F S64x128 .f32) (x6 : Vec F S64x128 .f32) (x7 : Vec F S64x128 .f32) (x8 : Vec F S64x128 .f32) (x9 : Vec F S16x128 .f32) (x10 : Vec F S64x128 .f32) (x11 : Vec F S64x128 .f32) (x12 : Vec F S64x128 .f32) (x13 : Vec F S64x128 .f32) (x14 : Vec F S64x128 .f32) (x15 : Vec F S64x128 .f32) : FVec F S64x1024 .bf16 :=
  attend (chunkNo i 3#32) (window x2 x6 x7 x8) (window x9 x13 x14 x15)
    (View.ld x0 r0_45) (View.ld x0 r0_46) (View.ld x0 r0_47) (View.ld x0 r0_48) (View.ld x0 r0_49) (View.ld x0 r0_50) (View.ld x0 r0_51) (View.ld x0 r0_52)
    (View.ld x1 r0_6) (View.ld x1 r0_10) (View.ld x1 r0_7) (View.ld x1 r0_11) (View.ld x1 r0_8) (View.ld x1 r0_12) (View.ld x1 r0_9) (View.ld x1 r0_13) (View.ld x1 r0_18) (View.ld x1 r0_22) (View.ld x1 r0_19) (View.ld x1 r0_23) (View.ld x1 r0_20) (View.ld x1 r0_24) (View.ld x1 r0_21) (View.ld x1 r0_25)

/-- The block a grid point writes: its four chunks. -/
theorem out_eq (i : grid0.Coords) (x0 : Vec F S256x1024 .bf16) (x1 : Vec F S1x16 .f32) (x2 : Vec F S16x128 .f32) (x3 : Vec F S64x128 .f32) (x4 : Vec F S64x128 .f32) (x5 : Vec F S64x128 .f32) (x6 : Vec F S64x128 .f32) (x7 : Vec F S64x128 .f32) (x8 : Vec F S64x128 .f32) (x9 : Vec F S16x128 .f32) (x10 : Vec F S64x128 .f32) (x11 : Vec F S64x128 .f32) (x12 : Vec F S64x128 .f32) (x13 : Vec F S64x128 .f32) (x14 : Vec F S64x128 .f32) (x15 : Vec F S64x128 .f32) :
    out0_16 i x0 x1 x2 x3 x4 x5 x6 x7 x8 x9 x10 x11 x12 x13 x14 x15 = View.canon [⟨r0_53, piece3 i x0 x1 x2 x3 x4 x5 x6 x7 x8 x9 x10 x11 x12 x13 x14 x15⟩, ⟨r0_44, piece2 i x0 x1 x2 x3 x4 x5 x6 x7 x8 x9 x10 x11 x12 x13 x14 x15⟩,
      ⟨r0_35, piece1 i x0 x1 x2 x3 x4 x5 x6 x7 x8 x9 x10 x11 x12 x13 x14 x15⟩, ⟨r0_26, piece0 i x0 x1 x2 x3 x4 x5 x6 x7 x8 x9 x10 x11 x12 x13 x14 x15⟩] := by
  rfl

end Cert.Band
-- ==== Proof.AttnRead.lean ====
/- The chunk's attention at an index, at the ideal instance. -/
module

public import proofs.«01_k».proof.Proof.Attn
public import Idealize.ShloMosaic.Lib.Pointwise

@[expose] public section

set_option maxRecDepth 16384

noncomputable section

namespace Cert.Band

open Cert.KernelIdeal Cert.KernelIdeal.Gen Idealize.ShloMosaic

/-- The word of minus infinity. -/
theorem ofBits_negInf : Ideal.ofBits .f32 0xFF800000#32 = ⊥ := by
  simp [Ideal.ofBits, Ideal.ieee]

/-- A selection by a one-bit condition whose truth is known. -/
theorem select_of {α : Type} {c : BitVec 1} {p : Prop} [Decidable p] (h : c = 1#1 ↔ p) (a b : α) :
    Scalar.select c a b = if p then a else b := by
  by_cases hp : p
  · rw [if_pos hp, h.mpr hp]; rfl
  · rw [if_neg hp]
    have hc : c ≠ 1#1 := fun e => hp (h.mp e)
    simp [Scalar.select, hc]

/-- The band keys a query of chunk `n` sees: not those before the sequence's first chunk. -/
def Vis (n k : ℕ) : Prop := k < 16 ∨ 16 + (2 - n) * 64 ≤ k

instance (n k : ℕ) : Decidable (Vis n k) := inferInstanceAs (Decidable (_ ∨ _))

theorem stack_apply (a : Vec Ideal S16x128 .f32) (b0 b1 b2 : Vec Ideal S64x128 .f32) (k : Fin 256) (l : Fin 128) :
    stack a b0 b1 b2 (ix2 k l) = if h : k.val < 16 then a (ix2 ⟨k.val, h⟩ l)
      else if h : k.val < 80 then b0 (ix2 ⟨k.val - 16, by omega⟩ l)
      else if h : k.val < 144 then b1 (ix2 ⟨k.val - 80, by omega⟩ l)
      else if h : k.val < 208 then b2 (ix2 ⟨k.val - 144, by omega⟩ l) else 0 := by
  pointwise [stack]
  by_cases h0 : k.val < 16
  · simp only [h0, dif_pos]
  by_cases h1 : k.val < 80
  · simp only [h0, h1, dif_pos, dif_neg, not_false_eq_true, show k.val - 16 < 64 by omega]
  by_cases h2 : k.val < 144
  · simp only [h0, h1, h2, dif_pos, dif_neg, not_false_eq_true, show ¬ k.val - 16 < 64 by omega,
      show k.val - 16 - 64 < 64 by omega]
    exact congrArg (fun t => b1 (ix2 t l)) (Fin.ext (by simp only []; omega))
  by_cases h3 : k.val < 208
  · simp only [h0, h1, h2, h3, dif_pos, dif_neg, not_false_eq_true, show ¬ k.val - 16 < 64 by omega,
      show ¬ k.val - 16 - 64 < 64 by omega, show k.val - 16 - 64 - 64 < 64 by omega]
    exact congrArg (fun t => b2 (ix2 t l)) (Fin.ext (by simp only []; omega))
  · simp only [h0, h1, h2, h3, dif_neg, not_false_eq_true, show ¬ k.val - 16 < 64 by omega,
      show ¬ k.val - 16 - 64 < 64 by omega, show ¬ k.val - 16 - 64 - 64 < 64 by omega]

/-- One parity's half of one key head, the other half zero. -/
def half (g par : Fin 2) (k : FVec Ideal S256x128 .f32) : FVec Ideal S256x128 .f32 :=
  ![![keepLow k, keepHigh (swap k)], ![keepLow (swap k), keepHigh k]] g par

theorem low_iff : ∀ l : Fin 128, IntOp.cmpi .slt (BitVec.ofNat 32 l.val) 64#32 = 1#1 ↔ l.val < 64 := by decide +kernel

theorem keepLow_apply (a : FVec Ideal S256x128 .f32) (k : Fin 256) (l : Fin 128) :
    keepLow a (ix2 k l) = if l.val < 64 then a (ix2 k l) else 0 := by
  pointwise [keepLow, lowLanes, zeros]
  exact select_of (low_iff l) _ _

theorem keepHigh_apply (a : FVec Ideal S256x128 .f32) (k : Fin 256) (l : Fin 128) :
    keepHigh a (ix2 k l) = if l.val < 64 then 0 else a (ix2 k l) := by
  pointwise [keepHigh, lowLanes, zeros]
  exact select_of (low_iff l) _ _

theorem swap_apply (a : FVec Ideal S256x128 .f32) (k : Fin 256) (l : Fin 128) :
    swap a (ix2 k l) = a (ix2 k ⟨(l.val + 64) % 128, Nat.mod_lt _ (by decide)⟩) := by
  pointwise [swap]
  exact congrArg (fun t => a (ix2 k t)) (Fin.ext (by simp only []; omega))

/-- A half's lane: the key head's own lane where the parity is the half's, zero otherwise. -/
theorem half_apply (g par par' : Fin 2) (a : FVec Ideal S256x128 .f32) (k : Fin 256) (d : Fin 64) :
    half g par a (ix2 k ⟨64 * par'.val + d.val, by omega⟩)
      = if par' = par then a (ix2 k ⟨64 * g.val + d.val, by omega⟩) else 0 := by
  fin_cases g <;> fin_cases par <;> fin_cases par' <;>
    simp [half, keepLow_apply, keepHigh_apply, swap_apply] <;>
    first
      | done
      | (intro h; exact congrArg (fun t => a (ix2 k t)) (Fin.ext (by simp only []; omega)))
      | exact congrArg (fun t => a (ix2 k t)) (Fin.ext (by simp only []; omega))

/-- A sum over 128 lanes in its two halves. -/
theorem sum_lanes (f : Fin 128 → EReal) : ∑ x, f x = ∑ par : Fin 2, ∑ j : Fin 64, f ⟨64 * par.val + j.val, by omega⟩ := by
  rw [Fin.sum_univ_two_halves 64 64 rfl f, Fin.sum_univ_two]
  congr 1
  all_goals exact Finset.sum_congr rfl fun j _ => congrArg f (Fin.ext (by simp))

/-- The product of a row of queries with a half is the sum over the head's 64 lanes. -/
theorem half_dot (g par : Fin 2) (a : FVec Ideal S256x128 .f32) (f : Fin 128 → EReal) (k : Fin 256) :
    ∑ x, f x * half g par a (ix2 k x)
      = ∑ j : Fin 64, f ⟨64 * par.val + j.val, by omega⟩ * a (ix2 k ⟨64 * g.val + j.val, by omega⟩) := by
  rw [sum_lanes]
  rw [Finset.sum_eq_single par]
  · exact Finset.sum_congr rfl fun j _ => by rw [half_apply, if_pos rfl]
  · intro par' _ hne
    exact Finset.sum_eq_zero fun j _ => by rw [half_apply, if_neg hne, mul_zero]
  · intro h; exact absurd (Finset.mem_univ _) h

theorem first_word : ∀ n : Fin 128, Scalar.addi 16#32 (Scalar.muli (Scalar.maxsi (Scalar.subi 2#32 (BitVec.ofNat 32 n.val)) 0#32) 64#32)
    = BitVec.ofNat 32 (16 + (2 - n.val) * 64) := by decide +kernel

theorem seen_word : ∀ (t : Fin 3) (c : Fin 256),
    IntOp.andi (IntOp.cmpi .slt (BitVec.ofNat 32 c.val) 208#32)
      (IntOp.ori (IntOp.cmpi .slt (BitVec.ofNat 32 c.val) 16#32)
        (IntOp.cmpi .sge (BitVec.ofNat 32 c.val) (BitVec.ofNat 32 (16 + t.val * 64)))) = 1#1
      ↔ c.val < 208 ∧ (c.val < 16 ∨ 16 + t.val * 64 ≤ c.val) := by decide +kernel

theorem score_apply (n : Fin 128) (q : FVec Ideal S256x128 .bf16) (k : FVec Ideal S256x128 .f32) (r c : Fin 256) :
    score (BitVec.ofNat 32 n.val) q k (ix2 r c)
      = ∑ x, q (ix2 r x) * k (ix2 c x) + if c.val < 208 ∧ Vis n.val c.val then 0 else ⊥ := by
  pointwise [score, bias, seen]
  rw [first_word n, select_of (seen_word ⟨2 - n.val, by omega⟩ c), ofBits_negInf]
  rfl

theorem weights_apply (s : FVec Ideal S1024x256 .f32) (r : Fin 1024) (c : Fin 256) :
    weights s (ix2 r c) = Ideal.exp (s (ix2 r c) - Finset.fold max ⊥ (fun x => s (ix2 r x)) Finset.univ) := by
  pointwise [weights]
  rw [ofBits_negInf]

theorem sink_iff : ∀ c : Fin 256, IntOp.cmpi .eq (BitVec.ofNat 32 c.val) 208#32 = 1#1 ↔ c.val = 208 := by decide +kernel

theorem head0_apply (s : Vec Ideal S1x1 .f32) (x : FVec Ideal S256x256 .f32) (r : Fin 64) (c : Fin 256) :
    head0 s x (ix2 r c) = if c.val = 208 then s (ix2 0 0) else x (ix2 ⟨0 * 64 + r.val, by omega⟩ c) := by
  pointwise [head0, sinkIn, sinkCol]
  simpa using select_of (sink_iff c) (s (ix2 0 0)) (x (ix2 ⟨r.val, by omega⟩ c))

theorem head64_apply (s : Vec Ideal S1x1 .f32) (x : FVec Ideal S256x256 .f32) (r : Fin 64) (c : Fin 256) :
    head64 s x (ix2 r c) = if c.val = 208 then s (ix2 0 0) else x (ix2 ⟨1 * 64 + r.val, by omega⟩ c) := by
  pointwise [head64, sinkIn, sinkCol]
  exact select_of (sink_iff c) _ _

theorem head128_apply (s : Vec Ideal S1x1 .f32) (x : FVec Ideal S256x256 .f32) (r : Fin 64) (c : Fin 256) :
    head128 s x (ix2 r c) = if c.val = 208 then s (ix2 0 0) else x (ix2 ⟨2 * 64 + r.val, by omega⟩ c) := by
  pointwise [head128, sinkIn, sinkCol]
  exact select_of (sink_iff c) _ _

theorem head192_apply (s : Vec Ideal S1x1 .f32) (x : FVec Ideal S256x256 .f32) (r : Fin 64) (c : Fin 256) :
    head192 s x (ix2 r c) = if c.val = 208 then s (ix2 0 0) else x (ix2 ⟨3 * 64 + r.val, by omega⟩ c) := by
  pointwise [head192, sinkIn, sinkCol]
  exact select_of (sink_iff c) _ _

theorem ones_word : ∀ r : Fin 256, IntOp.cmpi .sle (BitVec.ofNat 32 r.val) 208#32 = 1#1 ↔ r.val ≤ 208 := by decide +kernel

/-- A bit widened to a word and made a float. -/
theorem bit_float (b : BitVec 1) : FloatOps.sitofp (F := Ideal) .f32 (BitVec.setWidth 32 b) = if b = 1#1 then 1 else 0 := by
  have h : b = 0#1 ∨ b = 1#1 := by revert b; decide
  rcases h with rfl | rfl
  · show (((BitVec.setWidth 32 0#1).toInt : ℝ) : EReal) = _
    simp
  · show (((BitVec.setWidth 32 1#1).toInt : ℝ) : EReal) = _
    simp

theorem vals_low (v : FVec Ideal S256x128 .f32) (r : Fin 256) (c : Fin 128) :
    vals v (ix2 r ⟨c.val, by omega⟩) = v (ix2 r c) := by
  pointwise [vals, ones]

theorem vals_high (v : FVec Ideal S256x128 .f32) (r : Fin 256) (c : Fin 128) :
    vals v (ix2 r ⟨128 + c.val, by omega⟩) = if r.val ≤ 208 then 1 else 0 := by
  pointwise [vals, ones]
  simp [bit_float, ones_word]

theorem mix_apply (e v : FVec Ideal S256x256 .bf16) (r : Fin 256) (c : Fin 128) :
    mix e v (ix2 r c) = Ideal.div (∑ x, e (ix2 r x) * v (ix2 x ⟨c.val, by omega⟩)) (∑ x, e (ix2 r x) * v (ix2 x ⟨128 + c.val, by omega⟩)) := by
  pointwise [mix]

/-! ## The pieces side by side -/

/-- Four pairs of heads' queries, read at a pair and a row of it. -/
theorem qStack_apply (q : Fin 4 → Vec Ideal S64x128 .bf16) (p : Fin 4) (r : Fin 64) (l : Fin 128) :
    qStack (q 0) (q 1) (q 2) (q 3) (ix2 ⟨p.val * 64 + r.val, by omega⟩ l) = q p (ix2 r l) := by
  have h := concatenate_ofFn_apply (t := S256x128) (s₁ := S64x128) 0 (fun n : Fin 4 => shapeCast S64x128 (q n) shapeCasts_S64x128_S64x128)
    concatenates_S64x128_S64x128_S64x128_S64x128_S256x128_d0 rfl 64 rfl (ix2 ⟨p.val * 64 + r.val, by omega⟩ l) p
    (by show (p.val * 64 + r.val) / 64 = p.val; omega) (ix2 r l) (by show r.val = (p.val * 64 + r.val) % 64; omega)
    (by intro b hb; fin_cases b; · exact absurd rfl hb
        · rfl)
  refine Eq.trans h ?_
  pointwise

/-- One head's rows of scores, its sink in the sink's column. -/
def headRows (o : Fin 4) (s : Vec Ideal S1x1 .f32) (x : FVec Ideal S256x256 .f32) : FVec Ideal S64x256 .f32 :=
  ![head0 s x, head64 s x, head128 s x, head192 s x] o

theorem headRows_apply (o : Fin 4) (s : Vec Ideal S1x1 .f32) (x : FVec Ideal S256x256 .f32) (r : Fin 64) (c : Fin 256) :
    headRows o s x (ix2 r c) = if c.val = 208 then s (ix2 0 0) else x (ix2 ⟨o.val * 64 + r.val, by omega⟩ c) := by
  fin_cases o
  · exact head0_apply s x r c
  · exact head64_apply s x r c
  · exact head128_apply s x r c
  · exact head192_apply s x r c

/-- Which head stands at place `n` of the scores: pair `n % 4` of key head `n / 8`, parity `n / 4 % 2`. -/
def headAt (n : Fin 16) : Fin 16 := ⟨8 * (n.val / 8) + 2 * (n.val % 4) + n.val / 4 % 2, by omega⟩

theorem scores_apply (x : Fin 4 → FVec Ideal S256x256 .f32) (s : Fin 16 → Vec Ideal S1x1 .f32) (n : Fin 16) (r : Fin 64) (c : Fin 256) :
    scores (x 0) (x 1) (x 2) (x 3) (s 0) (s 1) (s 2) (s 3) (s 4) (s 5) (s 6) (s 7) (s 8) (s 9) (s 10) (s 11) (s 12) (s 13) (s 14) (s 15)
        (ix2 ⟨n.val * 64 + r.val, by omega⟩ c)
      = if c.val = 208 then s (headAt n) (ix2 0 0)
        else x ⟨n.val / 4, by omega⟩ (ix2 ⟨n.val % 4 * 64 + r.val, by omega⟩ c) := by
  have h := concatenate_ofFn_apply (t := S1024x256) (s₁ := S64x256) 0
    (fun n : Fin 16 => headRows ⟨n.val % 4, by omega⟩ (s (headAt n)) (x ⟨n.val / 4, by omega⟩))
    concatenates_S64x256_S64x256_S64x256_S64x256_S64x256_S64x256_S64x256_S64x256_S64x256_S64x256_S64x256_S64x256_S64x256_S64x256_S64x256_S64x256_S1024x256_d0 rfl 64 rfl (ix2 ⟨n.val * 64 + r.val, by omega⟩ c) n
    (by show (n.val * 64 + r.val) / 64 = n.val; omega) (ix2 r c) (by show r.val = (n.val * 64 + r.val) % 64; omega)
    (by intro b hb; fin_cases b; · exact absurd rfl hb
        · rfl)
  refine Eq.trans ?_ (h.trans (headRows_apply _ _ _ r c))
  rfl

theorem sides_apply (t : Fin 2 → FVec Ideal S256x128 .f32) (n : Fin 8) (r : Fin 64) (l : Fin 128) :
    sides (t 0) (t 1) (ix2 r ⟨n.val * 128 + l.val, by omega⟩)
      = t ⟨n.val / 4, by omega⟩ (ix2 ⟨n.val % 4 * 64 + r.val, by omega⟩ l) := by
  have h := concatenate_ofFn_apply (t := S64x1024) (s₁ := S64x128) 1
    (fun n : Fin 8 => ![extractStridedSlice S64x128 ![0, 0] (t ⟨n.val / 4, by omega⟩) slices_S256x128_o0_0_S64x128,
      extractStridedSlice S64x128 ![64, 0] (t ⟨n.val / 4, by omega⟩) slices_S256x128_o64_0_S64x128,
      extractStridedSlice S64x128 ![128, 0] (t ⟨n.val / 4, by omega⟩) slices_S256x128_o128_0_S64x128,
      extractStridedSlice S64x128 ![192, 0] (t ⟨n.val / 4, by omega⟩) slices_S256x128_o192_0_S64x128] (⟨n.val % 4, by omega⟩ : Fin 4))
    concatenates_S64x128_S64x128_S64x128_S64x128_S64x128_S64x128_S64x128_S64x128_S64x1024_d1 rfl 128 rfl (ix2 r ⟨n.val * 128 + l.val, by omega⟩) n
    (by show (n.val * 128 + l.val) / 128 = n.val; omega) (ix2 r l) (by show l.val = (n.val * 128 + l.val) % 128; omega)
    (by intro b hb; fin_cases b; · rfl
        · exact absurd rfl hb)
  refine Eq.trans (b := (concatenate S64x1024 1 _ _) _) rfl (h.trans ?_)
  generalize (⟨n.val / 4, _⟩ : Fin 2) = g
  generalize ho : (⟨n.val % 4, _⟩ : Fin 4) = o
  have ho' : n.val % 4 = o.val := congrArg Fin.val ho
  simp only [ho']
  clear h
  fin_cases o
  all_goals (pointwise)
  all_goals simp

end Cert.Band
-- ==== Proof.AttnHead.lean ====
/- The chunk's attention, one head and one query at a time, at the ideal instance. -/
module

public import proofs.«01_k».proof.Proof.AttnRead

@[expose] public section

set_option maxRecDepth 16384

noncomputable section

namespace Cert.Band

open Cert.KernelIdeal Cert.KernelIdeal.Gen Idealize.ShloMosaic

section

variable (n : Fin 128) (k v : FVec Ideal S256x128 .f32) (q : Fin 8 → Vec Ideal S64x128 .bf16) (s : Fin 16 → Vec Ideal S1x1 .f32)

/-- Head `h`, query `r`: the score of column `c`; the sink at column 208, minus infinity at a column not seen. -/
def logit (h : Fin 16) (r : Fin 64) (c : Fin 256) : EReal :=
  if c.val = 208 then s h (ix2 0 0)
  else ∑ j : Fin 64, q ⟨h.val / 2, by omega⟩ (ix2 r ⟨64 * (h.val % 2) + j.val, by omega⟩)
      * k (ix2 c ⟨64 * (h.val / 8) + j.val, by omega⟩) + if c.val < 208 ∧ Vis n.val c.val then 0 else ⊥

/-- The weight of column `c`: the exponential of its score less the row's maximum. -/
def weight (h : Fin 16) (r : Fin 64) (c : Fin 256) : EReal :=
  Ideal.exp (logit n k q s h r c - Finset.fold max ⊥ (fun x => logit n k q s h r x) Finset.univ)

/-- The sum of a row's weights, the sink's among them. -/
def total (h : Fin 16) (r : Fin 64) : EReal :=
  ∑ c : Fin 256, weight n k q s h r c * if c.val ≤ 208 then 1 else 0

/-- The scores of half `i`: key head `i / 2`, parity `i % 2`. -/
def halfScore (i : Fin 4) : FVec Ideal S256x256 .f32 :=
  score (BitVec.ofNat 32 n.val)
    (qStack (q ⟨4 * (i.val / 2) + 0, by omega⟩) (q ⟨4 * (i.val / 2) + 1, by omega⟩) (q ⟨4 * (i.val / 2) + 2, by omega⟩)
      (q ⟨4 * (i.val / 2) + 3, by omega⟩)) (half ⟨i.val / 2, by omega⟩ ⟨i.val % 2, by omega⟩ k)

/-- Every weight of the chunk. -/
def allWeights : FVec Ideal S1024x256 .bf16 :=
  weights (scores (halfScore n k q 0) (halfScore n k q 1) (halfScore n k q 2) (halfScore n k q 3)
    (s 0) (s 1) (s 2) (s 3) (s 4) (s 5) (s 6) (s 7) (s 8) (s 9) (s 10) (s 11) (s 12) (s 13) (s 14) (s 15))

theorem halfScore_apply (i p : Fin 4) (r : Fin 64) (c : Fin 256) :
    halfScore n k q i (ix2 ⟨p.val * 64 + r.val, by omega⟩ c)
      = ∑ j : Fin 64, q ⟨4 * (i.val / 2) + p.val, by omega⟩ (ix2 r ⟨64 * (i.val % 2) + j.val, by omega⟩)
          * k (ix2 c ⟨64 * (i.val / 2) + j.val, by omega⟩) + if c.val < 208 ∧ Vis n.val c.val then 0 else ⊥ := by
  rw [halfScore, score_apply, half_dot]
  have hq := qStack_apply (fun p : Fin 4 => q ⟨4 * (i.val / 2) + p.val, by omega⟩) p r
  refine congrArg (· + _) (Finset.sum_congr rfl fun j _ => congrArg (· * _) ?_)
  exact hq _

theorem allWeights_apply (i p : Fin 4) (r : Fin 64) (c : Fin 256) :
    allWeights n k q s (ix2 ⟨i.val * 256 + (p.val * 64 + r.val), by omega⟩ c)
      = weight n k q s ⟨8 * (i.val / 2) + 2 * p.val + i.val % 2, by omega⟩ r c := by
  have key : ∀ x : Fin 256, scores (halfScore n k q 0) (halfScore n k q 1) (halfScore n k q 2) (halfScore n k q 3)
      (s 0) (s 1) (s 2) (s 3) (s 4) (s 5) (s 6) (s 7) (s 8) (s 9) (s 10) (s 11) (s 12) (s 13) (s 14) (s 15)
      (ix2 ⟨i.val * 256 + (p.val * 64 + r.val), by omega⟩ x)
        = logit n k q s ⟨8 * (i.val / 2) + 2 * p.val + i.val % 2, by omega⟩ r x := by
    intro x
    have e : (⟨i.val * 256 + (p.val * 64 + r.val), by omega⟩ : Fin 1024) = ⟨(⟨i.val * 4 + p.val, by omega⟩ : Fin 16).val * 64 + r.val, by show (i.val * 4 + p.val) * 64 + r.val < 1024; omega⟩ :=
      Fin.ext (by show i.val * 256 + (p.val * 64 + r.val) = (i.val * 4 + p.val) * 64 + r.val; omega)
    rw [e, scores_apply (halfScore n k q)]
    have e1 : headAt ⟨i.val * 4 + p.val, by omega⟩ = ⟨8 * (i.val / 2) + 2 * p.val + i.val % 2, by omega⟩ :=
      Fin.ext (by simp only [headAt]; omega)
    have e2 : (⟨(i.val * 4 + p.val) / 4, by omega⟩ : Fin 4) = i := Fin.ext (by simp only []; omega)
    have e3 : (⟨(i.val * 4 + p.val) % 4 * 64 + r.val, by omega⟩ : Fin 256) = ⟨p.val * 64 + r.val, by omega⟩ := Fin.ext (by simp only []; omega)
    rw [e1, logit]
    refine if_congr Iff.rfl rfl ?_
    simp only [e2, e3]
    rw [halfScore_apply]
    refine congrArg (· + _) (Finset.sum_congr rfl fun j _ => ?_)
    refine congrArg₂ (· * ·) ?_ ?_
    · refine congrArg₂ (fun a b => q a (ix2 r b)) (Fin.ext ?_) (Fin.ext ?_) <;> simp only [] <;> omega
    · refine congrArg (fun b => k (ix2 x b)) (Fin.ext ?_); simp only []; omega
  rw [allWeights, weights_apply, weight]
  simp only [key]

/-- A quarter of the weights: one parity of one key head. -/
def quarter (e : FVec Ideal S1024x256 .bf16) (i : Fin 4) : FVec Ideal S256x256 .bf16 :=
  ![extractStridedSlice S256x256 ![0, 0] e slices_S1024x256_o0_0_S256x256,
    extractStridedSlice S256x256 ![256, 0] e slices_S1024x256_o256_0_S256x256,
    extractStridedSlice S256x256 ![512, 0] e slices_S1024x256_o512_0_S256x256,
    extractStridedSlice S256x256 ![768, 0] e slices_S1024x256_o768_0_S256x256] i

theorem quarter_apply (e : FVec Ideal S1024x256 .bf16) (i : Fin 4) (r c : Fin 256) :
    quarter e i (ix2 r c) = e (ix2 ⟨i.val * 256 + r.val, by omega⟩ c) := by
  fin_cases i
  all_goals (simp only [quarter]; pointwise)
  all_goals simp

/-- One key head's four pairs, both parities added. -/
def pairSum (e : FVec Ideal S1024x256 .bf16) (g : Fin 2) : FVec Ideal S256x128 .f32 :=
  addf (mix (quarter e ⟨2 * g.val, by omega⟩) (vals (half g 0 v))) (mix (quarter e ⟨2 * g.val + 1, by omega⟩) (vals (half g 1 v)))

theorem fromWeights_eq (e : FVec Ideal S1024x256 .bf16) : fromWeights e v = sides (pairSum v e 0) (pairSum v e 1) := rfl

theorem attend_eq : attend (BitVec.ofNat 32 n.val) k v (q 0) (q 1) (q 2) (q 3) (q 4) (q 5) (q 6) (q 7)
    (s 0) (s 1) (s 2) (s 3) (s 4) (s 5) (s 6) (s 7) (s 8) (s 9) (s 10) (s 11) (s 12) (s 13) (s 14) (s 15)
      = fromWeights (allWeights n k q s) v := rfl

/-- One parity's part of a pair's result: the head's weighted values over the weights' sum where the lane is the head's. -/
theorem part_apply (g par par' : Fin 2) (p : Fin 4) (r : Fin 64) (d : Fin 64)
    (hZ : total n k q s ⟨8 * g.val + 2 * p.val + par.val, by omega⟩ r ≠ 0) :
    mix (quarter (allWeights n k q s) ⟨2 * g.val + par.val, by omega⟩) (vals (half g par v))
        (ix2 ⟨p.val * 64 + r.val, by omega⟩ ⟨64 * par'.val + d.val, by omega⟩)
      = if par' = par then Ideal.div (∑ c : Fin 256, weight n k q s ⟨8 * g.val + 2 * p.val + par.val, by omega⟩ r c
            * v (ix2 c ⟨64 * g.val + d.val, by omega⟩)) (total n k q s ⟨8 * g.val + 2 * p.val + par.val, by omega⟩ r)
        else 0 := by
  have hw : ∀ c : Fin 256, quarter (allWeights n k q s) ⟨2 * g.val + par.val, by omega⟩ (ix2 ⟨p.val * 64 + r.val, by omega⟩ c)
      = weight n k q s ⟨8 * g.val + 2 * p.val + par.val, by omega⟩ r c := by
    intro c
    rw [quarter_apply, allWeights_apply n k q s ⟨2 * g.val + par.val, by omega⟩ p r c]
    refine congrArg (fun h => weight n k q s h r c) (Fin.ext ?_)
    simp only []; omega
  rw [mix_apply]
  have hd : (∑ x, quarter (allWeights n k q s) ⟨2 * g.val + par.val, by omega⟩ (ix2 ⟨p.val * 64 + r.val, by omega⟩ x)
      * vals (half g par v) (ix2 x ⟨128 + (64 * par'.val + d.val), by omega⟩))
        = total n k q s ⟨8 * g.val + 2 * p.val + par.val, by omega⟩ r := by
    rw [total]
    refine Finset.sum_congr rfl fun c _ => ?_
    rw [hw, vals_high _ c ⟨64 * par'.val + d.val, by omega⟩]
  have hn : ∀ x : Fin 256, vals (half g par v) (ix2 x ⟨64 * par'.val + d.val, by omega⟩)
      = if par' = par then v (ix2 x ⟨64 * g.val + d.val, by omega⟩) else 0 := by
    intro x
    rw [vals_low _ x ⟨64 * par'.val + d.val, by omega⟩, half_apply]
  simp only [hn, hw] at hd ⊢
  by_cases hp : par' = par
  · simp only [if_pos hp]
    exact congrArg _ hd
  · simp only [if_neg hp, mul_zero, Finset.sum_const_zero]
    refine (congrArg (Ideal.div 0) hd).trans ?_
    rw [Ideal.div, if_neg hZ, zero_mul]

/-- THE CHUNK'S RESULT: head `h`'s weighted values over its weights' sum. -/
theorem attend_apply (h : Fin 16) (r : Fin 64) (d : Fin 64) (hZ : ∀ h, total n k q s h r ≠ 0) :
    attend (BitVec.ofNat 32 n.val) k v (q 0) (q 1) (q 2) (q 3) (q 4) (q 5) (q 6) (q 7)
        (s 0) (s 1) (s 2) (s 3) (s 4) (s 5) (s 6) (s 7) (s 8) (s 9) (s 10) (s 11) (s 12) (s 13) (s 14) (s 15)
        (ix2 r ⟨h.val * 64 + d.val, by omega⟩)
      = Ideal.div (∑ c : Fin 256, weight n k q s h r c * v (ix2 c ⟨64 * (h.val / 8) + d.val, by omega⟩)) (total n k q s h r) := by
  rw [attend_eq, fromWeights_eq]
  obtain ⟨g, p, par, rfl⟩ : ∃ (g : Fin 2) (p : Fin 4) (par : Fin 2), h = ⟨8 * g.val + 2 * p.val + par.val, by omega⟩ :=
    ⟨⟨h.val / 8, by omega⟩, ⟨h.val % 8 / 2, by omega⟩, ⟨h.val % 2, by omega⟩, Fin.ext (by simp only []; omega)⟩
  have ei : (⟨(8 * g.val + 2 * p.val + par.val) * 64 + d.val, by omega⟩ : Fin 1024)
      = ⟨(⟨4 * g.val + p.val, by omega⟩ : Fin 8).val * 128 + (⟨64 * par.val + d.val, by omega⟩ : Fin 128).val,
          by show (4 * g.val + p.val) * 128 + (64 * par.val + d.val) < 1024; omega⟩ :=
    Fin.ext (by show _ = (4 * g.val + p.val) * 128 + (64 * par.val + d.val); simp only []; omega)
  have hs := sides_apply (pairSum v (allWeights n k q s)) ⟨4 * g.val + p.val, by omega⟩ r ⟨64 * par.val + d.val, by omega⟩
  refine ((congrArg (fun t => sides (pairSum v (allWeights n k q s) 0) (pairSum v (allWeights n k q s) 1) (ix2 r t)) ei).trans hs).trans ?_
  have e1 : (⟨(4 * g.val + p.val) / 4, by omega⟩ : Fin 2) = g := Fin.ext (by simp only []; omega)
  have e2 : (⟨(4 * g.val + p.val) % 4 * 64 + r.val, by omega⟩ : Fin 256) = ⟨p.val * 64 + r.val, by omega⟩ :=
    Fin.ext (by simp only []; omega)
  have e3 : (8 * g.val + 2 * p.val + par.val) / 8 = g.val := by omega
  simp only [e1, e2, e3]
  have h0 := part_apply n k v q s g 0 par p r d (hZ _)
  have h1 := part_apply n k v q s g 1 par p r d (hZ _)
  refine (congrArg₂ (· + ·) h0 h1).trans ?_
  fin_cases par
  · simp
  · simp

end

end Cert.Band
-- ==== Proof.Spec.lean ====
module

public import Idealize.ShloMosaic.Lib.Pointwise

@[expose] public section

noncomputable section

namespace Cert.Band

open Idealize.ShloMosaic

/-! Soft attention with one sink, as plain mathematics over the extended reals: 208 keys' logits `x`, the sink's logit `s`. -/

/-- The greatest logit, the sink's included. -/
def peak (s : EReal) (x : Fin 208 → EReal) : EReal := max s (Finset.univ.sup x)

/-- The sum of the exponentials, the sink's included. -/
def mass (s : EReal) (x : Fin 208 → EReal) : EReal :=
  Ideal.exp (s - peak s x) + ∑ i : Fin 208, Ideal.exp (x i - peak s x)

/-- The weighted mean of the values. -/
def soft (s : EReal) (x V : Fin 208 → EReal) : EReal :=
  ∑ i : Fin 208, V i * Ideal.div (Ideal.exp (x i - peak s x)) (mass s x)

theorem exp_bot : Ideal.exp ⊥ = 0 := rfl

theorem exp_coe (r : ℝ) : Ideal.exp (r : EReal) = (Real.exp r : EReal) := rfl

theorem exp_nonneg (x : EReal) : 0 ≤ Ideal.exp x := by
  induction x with
  | bot => exact le_refl _
  | top => exact (le_top : (0 : EReal) ≤ ⊤)
  | coe r => rw [exp_coe]; exact EReal.coe_nonneg.2 (Real.exp_pos r).le

theorem exp_bot_sub (m : EReal) : Ideal.exp (⊥ - m) = 0 := by
  rw [sub_eq_add_neg, EReal.bot_add, exp_bot]

theorem exp_coe_pos (r : ℝ) : 0 < Ideal.exp (r : EReal) := by
  rw [exp_coe]; exact EReal.coe_pos.2 (Real.exp_pos r)

theorem sum_real {n : Nat} (f : Fin n → EReal) (h : ∀ i, ∃ x : ℝ, f i = x) : ∃ x : ℝ, ∑ i, f i = x := by
  choose g hg using h
  refine ⟨∑ i, g i, ?_⟩
  simp only [hg]
  exact (map_sum ({ toFun := fun x => (x : EReal), map_zero' := rfl, map_add' := EReal.coe_add } : ℝ →+ EReal) g Finset.univ).symm

theorem sum_mul_of_nonneg {ι : Type} (S : Finset ι) (f : ι → EReal) {c : EReal} (h0 : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 ht, ih]

theorem div_of_ne {x z : EReal} (h : z ≠ 0) : Ideal.div x z = x * z⁻¹ := by
  simp [Ideal.div, h]

theorem mass_nonneg (s : EReal) (x : Fin 208 → EReal) : 0 ≤ mass s x :=
  add_nonneg (exp_nonneg _) (Finset.sum_nonneg fun _ _ => exp_nonneg _)

/-- Where the sink is a number and no logit is infinite upwards, the sum is not zero. -/
theorem mass_ne_zero {s : EReal} {x : Fin 208 → EReal} (hb : s ≠ ⊥) (ht : s ≠ ⊤) (hx : ∀ i, x i ≠ ⊤) : mass s x ≠ 0 := by
  have h1 : peak s x ≠ ⊥ := fun h => hb (le_bot_iff.1 (h ▸ le_max_left _ _))
  have h2 : peak s x ≠ ⊤ := by
    have : Finset.univ.sup x < ⊤ := (Finset.sup_lt_iff bot_lt_top).2 fun i _ => lt_top_iff_ne_top.2 (hx i)
    exact (max_lt (lt_top_iff_ne_top.2 ht) this).ne
  unfold mass
  generalize peak s x = M at *
  lift M to ℝ using ⟨h2, h1⟩
  lift s to ℝ using ⟨ht, hb⟩
  have : 0 < Ideal.exp ((s : EReal) - (M : EReal)) := by
    rw [← EReal.coe_sub]; exact exp_coe_pos _
  exact (lt_of_lt_of_le this (le_add_of_nonneg_right (Finset.sum_nonneg fun _ _ => exp_nonneg _))).ne'

/-- One division at the end is the division of every weight. -/
theorem div_sum_eq_soft {s : EReal} {x : Fin 208 → EReal} (V : Fin 208 → EReal) (hz : mass s x ≠ 0) :
    Ideal.div (∑ i : Fin 208, Ideal.exp (x i - peak s x) * V i) (mass s x) = soft s x V := by
  unfold soft
  have h0 := mass_nonneg s x
  generalize mass s x = Z at *
  rw [div_of_ne hz, sum_mul_of_nonneg _ _ (EReal.inv_nonneg_of_nonneg h0)
    (fun h => hz (by
      induction Z with
      | bot => simp at h
      | top => simp at h
      | coe r => exact absurd h (by rw [← EReal.coe_inv]; exact EReal.coe_ne_top _)))]
  refine Finset.sum_congr rfl fun i _ => ?_
  rw [div_of_ne hz, mul_comm (Ideal.exp _) (V i), mul_assoc]

/-- Values of hidden keys do not count. -/
theorem soft_congr {s : EReal} {x V W : Fin 208 → EReal} (hz : mass s x ≠ 0) (h : ∀ i, x i ≠ ⊥ → V i = W i) : soft s x V = soft s x W := by
  refine Finset.sum_congr rfl fun i _ => ?_
  by_cases hi : x i = ⊥
  · rw [hi, exp_bot_sub, div_of_ne hz]; simp
  · rw [h i hi]

/-- A sum over 256 columns of which those past 208 are zero. -/
theorem sum_256 (f : Fin 256 → EReal) (h : ∀ c : Fin 256, 208 < c.val → f c = 0) :
    ∑ c : Fin 256, f c = f 208 + ∑ i : Fin 208, f ⟨i.val, by omega⟩ := by
  rw [Fin.sum_univ_two_halves 208 48 rfl f, add_comm]
  congr 1
  rw [Finset.sum_eq_single (0 : Fin 48)]
  · rfl
  · intro b _ hb
    exact h _ (by have := Fin.val_ne_of_ne hb; simp at this ⊢; omega)
  · simp

theorem fold_max_eq_sup {n : Nat} (f : Fin n → EReal) : Finset.fold max ⊥ f Finset.univ = Finset.univ.sup f := rfl

theorem sup_256 {s : EReal} {x : Fin 208 → EReal} (f : Fin 256 → EReal) (hs : f 208 = s) (hx : ∀ i : Fin 208, f ⟨i.val, by omega⟩ = x i)
    (hr : ∀ c : Fin 256, 208 < c.val → f c = ⊥) : Finset.fold max ⊥ f Finset.univ = peak s x := by
  rw [fold_max_eq_sup, peak]
  refine le_antisymm (Finset.sup_le fun c _ => ?_) (max_le ?_ (Finset.sup_le fun i _ => ?_))
  · rcases lt_trichotomy c.val 208 with h | h | h
    · exact le_max_of_le_right ((hx ⟨c.val, h⟩).le.trans (Finset.le_sup (f := x) (Finset.mem_univ _)))
    · exact le_max_of_le_left (by rw [← hs, show c = 208 from Fin.ext h])
    · rw [hr c h]; exact bot_le
  · rw [← hs]; exact Finset.le_sup (f := f) (Finset.mem_univ _)
  · rw [← hx i]; exact Finset.le_sup (f := f) (Finset.mem_univ _)

theorem sup_209 {s : EReal} {x : Fin 208 → EReal} (f : Fin 209 → EReal) (hs : f 0 = s) (hx : ∀ i : Fin 208, f i.succ = x i) :
    Finset.fold max ⊥ f Finset.univ = peak s x := by
  rw [fold_max_eq_sup, peak]
  refine le_antisymm (Finset.sup_le fun c _ => ?_) (max_le ?_ (Finset.sup_le fun i _ => ?_))
  · induction c using Fin.cases with
    | zero => exact le_max_of_le_left hs.le
    | succ i => exact le_max_of_le_right ((hx i).le.trans (Finset.le_sup (f := x) (Finset.mem_univ _)))
  · rw [← hs]; exact Finset.le_sup (f := f) (Finset.mem_univ _)
  · rw [← hx i]; exact Finset.le_sup (f := f) (Finset.mem_univ _)

/-! The band attention's keys. -/

/-- Which row of the keys key number `j` of a chunk is: 16 meta rows first, then the chunks `c - 2`, `c - 1`, `c`. -/
def keyRow (c : Nat) (j : Nat) : Nat := if j < 16 then j else 16 + 64 * (c + (j - 16) / 64 - 2) + (j - 16) % 64

theorem keyRow_lt (c : Fin 128) (j : Fin 208) : keyRow c.val j.val < 8208 := by
  unfold keyRow; split <;> omega

/-- Whether key number `j` exists for the queries of chunk `n`. -/
abbrev Seen (n j : Nat) : Prop := j < 16 ∨ 16 + (2 - n) * 64 ≤ j

/-- The logits of one query row of one head. -/
def logits (q : Fin 8208 → Fin 1024 → EReal) (k : Fin 8208 → Fin 128 → EReal) (scale : EReal) (c : Fin 128) (r : Fin 64) (h : Fin 16)
    (j : Fin 208) : EReal :=
  if Seen c.val j.val then
    (∑ d : Fin 64, k ⟨keyRow c.val j.val, keyRow_lt c j⟩ ⟨64 * (h.val / 8) + d.val, by omega⟩ *
      q ⟨16 + (64 * c.val + r.val), by omega⟩ ⟨h.val * 64 + d.val, by omega⟩) * scale
  else ⊥

/-- The band attention: row `r` of chunk `c`, head `h`, lane `d`. -/
def band (q : Fin 8208 → Fin 1024 → EReal) (s : Fin 16 → EReal) (k v : Fin 8208 → Fin 128 → EReal) (scale : EReal)
    (c : Fin 128) (r : Fin 64) (h : Fin 16) (d : Fin 64) : EReal :=
  soft (s h) (logits q k scale c r h) fun j => v ⟨keyRow c.val j.val, keyRow_lt c j⟩ ⟨64 * (h.val / 8) + d.val, by omega⟩

/-- With finite queries and keys no logit is infinite upwards. -/
theorem logits_ne_top {q : Fin 8208 → Fin 1024 → EReal} {k : Fin 8208 → Fin 128 → EReal} {scale : ℝ}
    (hq : ∀ i j, ∃ x : ℝ, q i j = x) (hk : ∀ i j, ∃ x : ℝ, k i j = x) (c : Fin 128) (r : Fin 64) (h : Fin 16) (j : Fin 208) :
    logits q k scale c r h j ≠ ⊤ := by
  unfold logits
  split
  · choose q' hq using hq
    choose k' hk using hk
    obtain ⟨x, hx⟩ := sum_real (fun d : Fin 64 => k ⟨keyRow c.val j.val, keyRow_lt c j⟩ ⟨64 * (h.val / 8) + d.val, by omega⟩ *
      q ⟨16 + (64 * c.val + r.val), by omega⟩ ⟨h.val * 64 + d.val, by omega⟩) fun d => ⟨_, by rw [hq, hk, ← EReal.coe_mul]⟩
    rw [hx, ← EReal.coe_mul]
    exact EReal.coe_ne_top _
  · exact bot_ne_top

end Cert.Band
-- ==== Proof.Chunk.lean ====
module

public import proofs.«01_k».proof.Proof.AttnHead
public import proofs.«01_k».proof.Proof.Spec

@[expose] public section

set_option maxRecDepth 16384
set_option backward.proofsInPublic true

noncomputable section

namespace Cert.Band

open Cert.KernelIdeal Cert.KernelIdeal.Gen Idealize.ShloMosaic

/-! One chunk's attention is the band attention: the columns of the score matrix are the 208 keys, the sink and 47 columns that
do not count. -/

theorem mul_to_front (a b c : EReal) : a * b * c = c * a * b := by
  rw [mul_comm (a * b) c, mul_assoc]

section

variable {q : Fin 8208 → Fin 1024 → EReal} {s : Fin 16 → EReal} {k v : Fin 8208 → Fin 128 → EReal}
  {n : Fin 128} {K V : FVec Ideal S256x128 .f32} {Q : Fin 8 → Vec Ideal S64x128 .bf16} {S : Fin 16 → Vec Ideal S1x1 .f32}
  (hK : ∀ (j : Fin 208) (z : Fin 128), Seen n.val j.val → K (ix2 ⟨j.val, by omega⟩ z) = k ⟨keyRow n.val j.val, keyRow_lt n j⟩ z)
  (hQ : ∀ (p : Fin 8) (r : Fin 64) (z : Fin 128), Q p (ix2 r z) =
    q ⟨16 + (64 * n.val + r.val), by omega⟩ ⟨128 * p.val + z.val, by omega⟩ * ((1 / 8 : ℝ) : EReal))
  (hS : ∀ h : Fin 16, S h (ix2 0 0) = s h)

include hK hQ in
theorem logit_key (h : Fin 16) (r : Fin 64) (j : Fin 208) :
    logit n K Q S h r ⟨j.val, by omega⟩ = logits q k ((1 / 8 : ℝ) : EReal) n r h j := by
  unfold logit logits
  rw [if_neg (by show ¬ j.val = 208; omega)]
  by_cases hs : Seen n.val j.val
  · rw [if_pos ⟨j.isLt, hs⟩, if_pos hs, add_zero, sum_mul_of_nonneg _ _ (EReal.coe_nonneg.2 (by norm_num)) (EReal.coe_ne_top _)]
    refine Finset.sum_congr rfl fun d _ => ?_
    rw [hK j _ hs, hQ]
    have e : (⟨128 * (⟨h.val / 2, by omega⟩ : Fin 8).val + (⟨64 * (h.val % 2) + d.val, by omega⟩ : Fin 128).val, by simp only; omega⟩ : Fin 1024)
        = ⟨h.val * 64 + d.val, by omega⟩ := Fin.ext (by simp only; omega)
    rw [e]
    exact mul_to_front _ _ _
  · rw [if_neg fun h => hs h.2, if_neg hs, EReal.add_bot]

include hS in
theorem logit_sink (h : Fin 16) (r : Fin 64) : logit n K Q S h r 208 = s h := by
  unfold logit
  rw [if_pos (by rfl), hS]

theorem logit_rest (h : Fin 16) (r : Fin 64) (c : Fin 256) (hc : 208 < c.val) : logit n K Q S h r c = ⊥ := by
  unfold logit
  rw [if_neg (by omega), if_neg (by omega), EReal.add_bot]

include hK hQ hS in
theorem weight_eq (h : Fin 16) (r : Fin 64) (c : Fin 256) :
    weight n K Q S h r c = Ideal.exp (logit n K Q S h r c - peak (s h) (logits q k ((1 / 8 : ℝ) : EReal) n r h)) := by
  unfold weight
  rw [sup_256 _ (logit_sink hS h r) (fun i => logit_key hK hQ h r i) fun c hc => logit_rest h r c hc]

include hK hQ hS in
theorem total_eq (h : Fin 16) (r : Fin 64) : total n K Q S h r = mass (s h) (logits q k ((1 / 8 : ℝ) : EReal) n r h) := by
  unfold total mass
  rw [sum_256 _ fun c hc => by rw [if_neg (by omega), mul_zero]]
  refine congrArg₂ (· + ·) ?_ (Finset.sum_congr rfl fun i _ => ?_)
  · rw [weight_eq hK hQ hS, logit_sink hS, if_pos (by decide), mul_one]
  · rw [weight_eq hK hQ hS, logit_key hK hQ, if_pos (by simp only; omega), mul_one]

include hK hQ hS in
theorem attend_band
    (hV : ∀ (j : Fin 208) (z : Fin 128), Seen n.val j.val → V (ix2 ⟨j.val, by omega⟩ z) = v ⟨keyRow n.val j.val, keyRow_lt n j⟩ z)
    (hV0 : ∀ z : Fin 128, V (ix2 208 z) = 0)
    (hz : ∀ (h : Fin 16) (r : Fin 64), mass (s h) (logits q k ((1 / 8 : ℝ) : EReal) n r h) ≠ 0) (h : Fin 16) (r d : Fin 64) :
    attend (BitVec.ofNat 32 n.val) K V (Q 0) (Q 1) (Q 2) (Q 3) (Q 4) (Q 5) (Q 6) (Q 7)
        (S 0) (S 1) (S 2) (S 3) (S 4) (S 5) (S 6) (S 7) (S 8) (S 9) (S 10) (S 11) (S 12) (S 13) (S 14) (S 15)
        (ix2 r ⟨h.val * 64 + d.val, by omega⟩) = band q s k v ((1 / 8 : ℝ) : EReal) n r h d := by
  rw [attend_apply n K V Q S h r d fun h => by rw [total_eq hK hQ hS]; exact hz h r, total_eq hK hQ hS,
    sum_256 _ fun c hc => by rw [weight_eq hK hQ hS, logit_rest h r c hc, exp_bot_sub, zero_mul], hV0, mul_zero, zero_add]
  unfold band
  have hc := soft_congr (s := s h) (x := logits q k ((1 / 8 : ℝ) : EReal) n r h)
    (V := fun j : Fin 208 => V (ix2 ⟨j.val, by omega⟩ ⟨64 * (h.val / 8) + d.val, by omega⟩))
    (W := fun j => v ⟨keyRow n.val j.val, keyRow_lt n j⟩ ⟨64 * (h.val / 8) + d.val, by omega⟩) (hz h r) fun j hj =>
      hV j _ (by by_contra hs; exact hj (if_neg hs))
  rw [← hc, ← div_sum_eq_soft _ (hz h r)]
  congr 1
  exact Finset.sum_congr rfl fun i _ => by rw [weight_eq hK hQ hS, logit_key hK hQ]

end

/-- A window's rows, from the rows of its parts: where a key exists, the row is the one `keyRow` names. -/
theorem stack_rows {k : Fin 8208 → Fin 128 → EReal} (n : Fin 128) (a : Vec Ideal S16x128 .f32) (b0 b1 b2 : Vec Ideal S64x128 .f32)
    (ha : ∀ (y : Fin 16) (z : Fin 128), a (ix2 y z) = k ⟨y.val, by omega⟩ z)
    (h0 : ∀ (y : Fin 64) (z : Fin 128), b0 (ix2 y z) = k ⟨16 + 64 * (n.val - 2) + y.val, by omega⟩ z)
    (h1 : ∀ (y : Fin 64) (z : Fin 128), b1 (ix2 y z) = k ⟨16 + 64 * (n.val + 1 - 2) + y.val, by omega⟩ z)
    (h2 : ∀ (y : Fin 64) (z : Fin 128), b2 (ix2 y z) = k ⟨16 + 64 * n.val + y.val, by omega⟩ z)
    (j : Fin 208) (z : Fin 128) : stack a b0 b1 b2 (ix2 ⟨j.val, by omega⟩ z) = k ⟨keyRow n.val j.val, keyRow_lt n j⟩ z := by
  rw [stack_apply]
  have hj := j.isLt
  by_cases g0 : j.val < 16
  · rw [dif_pos (by exact g0), ha]
    exact congrArg (fun i => k i z) (Fin.ext (by simp only [keyRow]; rw [if_pos g0]))
  rw [dif_neg (by exact g0)]
  by_cases g1 : j.val < 80
  · rw [dif_pos (by exact g1), h0]
    exact congrArg (fun i => k i z) (Fin.ext (by simp only [keyRow]; rw [if_neg g0]; omega))
  rw [dif_neg (by exact g1)]
  by_cases g2 : j.val < 144
  · rw [dif_pos (by exact g2), h1]
    exact congrArg (fun i => k i z) (Fin.ext (by simp only [keyRow]; rw [if_neg g0]; omega))
  rw [dif_neg (by exact g2), dif_pos (by exact hj), h2]
  exact congrArg (fun i => k i z) (Fin.ext (by simp only [keyRow]; rw [if_neg g0]; omega))

theorem stack_sink (a : Vec Ideal S16x128 .f32) (b0 b1 b2 : Vec Ideal S64x128 .f32) (z : Fin 128) : stack a b0 b1 b2 (ix2 208 z) = 0 := by
  rw [stack_apply, dif_neg (by decide), dif_neg (by decide), dif_neg (by decide), dif_neg (by decide)]

end Cert.Band
-- ==== Proof.Blocks.lean ====
module

public import proofs.«01_k».proof.Proof.Gen.KernelIdeal.Value
public import Idealize.ShloMosaic.Lib.Pipeline.ValueKit
public import proofs.«01_k».proof.Proof.Pieces
public import proofs.«01_k».proof.Proof.Chunk

@[expose] public section

set_option maxRecDepth 16384

noncomputable section

namespace Cert.Band

open Cert.KernelIdeal Cert.KernelIdeal.Gen Idealize.ShloMosaic Idealize.ShloMosaic.TcCoe

variable (m : (ℓ : Loc nD τ sig) → Buf (Elt Ideal) ℓ) (c : Dev nD)

/-! ## The blocks the grid points read -/

theorem at_0 : ∀ t : Fin cfg0.N, win0_0.index t = ![16 + 256 * t.val, 0] :=
  (by decide +kernel : ∀ t : Fin grid0.N, win0_0.index t = ![16 + 256 * t.val, 0])

theorem at_1 : ∀ t : Fin cfg0.N, win0_1.index t = ![0, 0] := (by decide +kernel : ∀ t : Fin grid0.N, win0_1.index t = ![0, 0])

/-- The queries' block: rows from `16 + 256 t` of the queries times one eighth. -/
theorem blk_0 (t : Fin cfg0.N) (y : Fin 256) (z : Fin 1024) :
    iblk m c 0 t (ix2 y z) = FloatOps.mulf (F := Ideal) (φ := .f32)
      (m ((c : Thread nD τ).loc main_arg0) (ix2 ⟨16 + 256 * t.val + y.val, by have : t.val < 32 := t.isLt; omega⟩ z)) (Ideal.ofBits .f32 0x3E000000#32) := by
  unfold iblk
  rw [View.read_apply]
  have e : ((cfg0.win 0).blk t).view.emb (ix2 y z) = ix2 ⟨16 + 256 * t.val + y.val, by have : t.val < 32 := t.isLt; omega⟩ z := by
    funext a
    match a with
    | ⟨0, _⟩ => exact Fin.ext (by show win0_0.index t 0 + 1 * y.val = _; rw [at_0]; simp)
    | ⟨1, _⟩ => exact Fin.ext (by show win0_0.index t 1 + 1 * z.val = _; rw [at_0]; simp)
  rw [e]
  show V m c main_v2 (ix2 _ z) = _
  entry_read
  pointwise []

theorem blk_1 (t : Fin cfg0.N) (z : Fin 16) : iblk m c 1 t (ix2 0 z) = m ((c : Thread nD τ).loc main_arg1) (ix1 z) := by
  unfold iblk
  rw [View.read_apply]
  have e : ((cfg0.win 1).blk t).view.emb (ix2 0 z) = ix2 0 z := by
    funext a
    match a with
    | ⟨0, _⟩ => exact Fin.ext (by show win0_1.index t 0 * 1 + 1 * 0 = _; rw [at_1]; simp)
    | ⟨1, _⟩ => exact Fin.ext (by show win0_1.index t 1 * 16 + 1 * z.val = _; rw [at_1]; simp)
  rw [e]
  show V m c main_v3 (ix2 0 z) = _
  entry_read
  pointwise []

theorem at_2 : ∀ t : Fin cfg0.N, win0_2.index t = ![0, 0] := (by decide +kernel : ∀ t : Fin grid0.N, win0_2.index t = ![0, 0])

theorem blk_2 (t : Fin cfg0.N) (y : Fin 16) (z : Fin 128) :
    iblk m c 2 t (ix2 y z) = m ((c : Thread nD τ).loc main_arg2) (ix2 ⟨y.val, by omega⟩ z) := by
  unfold iblk
  rw [View.read_apply]
  refine (congrFun (V_main_arg2 m c) _).trans (congrArg _ ?_)
  funext a
  match a with
  | ⟨0, _⟩ => exact Fin.ext (by show win0_2.index t 0 * 16 + 1 * y.val = _; rw [at_2]; simp)
  | ⟨1, _⟩ => exact Fin.ext (by show win0_2.index t 1 * 128 + 1 * z.val = _; rw [at_2]; simp)

theorem at_3 : ∀ t : Fin cfg0.N, win0_3.index t = ![16 + 64 * (4 * t.val + 0 - 2), 0] :=
  (by decide +kernel : ∀ t : Fin grid0.N, win0_3.index t = ![16 + 64 * (4 * t.val + 0 - 2), 0])

theorem blk_3 (t : Fin cfg0.N) (y : Fin 64) (z : Fin 128) :
    iblk m c 3 t (ix2 y z) = m ((c : Thread nD τ).loc main_arg2) (ix2 ⟨16 + 64 * (4 * t.val + 0 - 2) + y.val, by have : t.val < 32 := t.isLt; omega⟩ z) := by
  unfold iblk
  rw [View.read_apply]
  refine (congrFun (V_main_arg2 m c) _).trans (congrArg _ ?_)
  funext a
  match a with
  | ⟨0, _⟩ => exact Fin.ext (by show win0_3.index t 0 + 1 * y.val = _; rw [at_3]; simp)
  | ⟨1, _⟩ => exact Fin.ext (by show win0_3.index t 1 + 1 * z.val = _; rw [at_3]; simp)

theorem at_4 : ∀ t : Fin cfg0.N, win0_4.index t = ![16 + 64 * (4 * t.val + 1 - 2), 0] :=
  (by decide +kernel : ∀ t : Fin grid0.N, win0_4.index t = ![16 + 64 * (4 * t.val + 1 - 2), 0])

theorem blk_4 (t : Fin cfg0.N) (y : Fin 64) (z : Fin 128) :
    iblk m c 4 t (ix2 y z) = m ((c : Thread nD τ).loc main_arg2) (ix2 ⟨16 + 64 * (4 * t.val + 1 - 2) + y.val, by have : t.val < 32 := t.isLt; omega⟩ z) := by
  unfold iblk
  rw [View.read_apply]
  refine (congrFun (V_main_arg2 m c) _).trans (congrArg _ ?_)
  funext a
  match a with
  | ⟨0, _⟩ => exact Fin.ext (by show win0_4.index t 0 + 1 * y.val = _; rw [at_4]; simp)
  | ⟨1, _⟩ => exact Fin.ext (by show win0_4.index t 1 + 1 * z.val = _; rw [at_4]; simp)

theorem at_5 : ∀ t : Fin cfg0.N, win0_5.index t = ![16 + 64 * (4 * t.val + 2 - 2), 0] :=
  (by decide +kernel : ∀ t : Fin grid0.N, win0_5.index t = ![16 + 64 * (4 * t.val + 2 - 2), 0])

theorem blk_5 (t : Fin cfg0.N) (y : Fin 64) (z : Fin 128) :
    iblk m c 5 t (ix2 y z) = m ((c : Thread nD τ).loc main_arg2) (ix2 ⟨16 + 64 * (4 * t.val + 2 - 2) + y.val, by have : t.val < 32 := t.isLt; omega⟩ z) := by
  unfold iblk
  rw [View.read_apply]
  refine (congrFun (V_main_arg2 m c) _).trans (congrArg _ ?_)
  funext a
  match a with
  | ⟨0, _⟩ => exact Fin.ext (by show win0_5.index t 0 + 1 * y.val = _; rw [at_5]; simp)
  | ⟨1, _⟩ => exact Fin.ext (by show win0_5.index t 1 + 1 * z.val = _; rw [at_5]; simp)

theorem at_6 : ∀ t : Fin cfg0.N, win0_6.index t = ![16 + 64 * (4 * t.val + 3 - 2), 0] :=
  (by decide +kernel : ∀ t : Fin grid0.N, win0_6.index t = ![16 + 64 * (4 * t.val + 3 - 2), 0])

theorem blk_6 (t : Fin cfg0.N) (y : Fin 64) (z : Fin 128) :
    iblk m c 6 t (ix2 y z) = m ((c : Thread nD τ).loc main_arg2) (ix2 ⟨16 + 64 * (4 * t.val + 3 - 2) + y.val, by have : t.val < 32 := t.isLt; omega⟩ z) := by
  unfold iblk
  rw [View.read_apply]
  refine (congrFun (V_main_arg2 m c) _).trans (congrArg _ ?_)
  funext a
  match a with
  | ⟨0, _⟩ => exact Fin.ext (by show win0_6.index t 0 + 1 * y.val = _; rw [at_6]; simp)
  | ⟨1, _⟩ => exact Fin.ext (by show win0_6.index t 1 + 1 * z.val = _; rw [at_6]; simp)

theorem at_7 : ∀ t : Fin cfg0.N, win0_7.index t = ![16 + 64 * (4 * t.val + 4 - 2), 0] :=
  (by decide +kernel : ∀ t : Fin grid0.N, win0_7.index t = ![16 + 64 * (4 * t.val + 4 - 2), 0])

theorem blk_7 (t : Fin cfg0.N) (y : Fin 64) (z : Fin 128) :
    iblk m c 7 t (ix2 y z) = m ((c : Thread nD τ).loc main_arg2) (ix2 ⟨16 + 64 * (4 * t.val + 4 - 2) + y.val, by have : t.val < 32 := t.isLt; omega⟩ z) := by
  unfold iblk
  rw [View.read_apply]
  refine (congrFun (V_main_arg2 m c) _).trans (congrArg _ ?_)
  funext a
  match a with
  | ⟨0, _⟩ => exact Fin.ext (by show win0_7.index t 0 + 1 * y.val = _; rw [at_7]; simp)
  | ⟨1, _⟩ => exact Fin.ext (by show win0_7.index t 1 + 1 * z.val = _; rw [at_7]; simp)

theorem at_8 : ∀ t : Fin cfg0.N, win0_8.index t = ![16 + 64 * (4 * t.val + 5 - 2), 0] :=
  (by decide +kernel : ∀ t : Fin grid0.N, win0_8.index t = ![16 + 64 * (4 * t.val + 5 - 2), 0])

theorem blk_8 (t : Fin cfg0.N) (y : Fin 64) (z : Fin 128) :
    iblk m c 8 t (ix2 y z) = m ((c : Thread nD τ).loc main_arg2) (ix2 ⟨16 + 64 * (4 * t.val + 5 - 2) + y.val, by have : t.val < 32 := t.isLt; omega⟩ z) := by
  unfold iblk
  rw [View.read_apply]
  refine (congrFun (V_main_arg2 m c) _).trans (congrArg _ ?_)
  funext a
  match a with
  | ⟨0, _⟩ => exact Fin.ext (by show win0_8.index t 0 + 1 * y.val = _; rw [at_8]; simp)
  | ⟨1, _⟩ => exact Fin.ext (by show win0_8.index t 1 + 1 * z.val = _; rw [at_8]; simp)

theorem at_9 : ∀ t : Fin cfg0.N, win0_9.index t = ![0, 0] := (by decide +kernel : ∀ t : Fin grid0.N, win0_9.index t = ![0, 0])

theorem blk_9 (t : Fin cfg0.N) (y : Fin 16) (z : Fin 128) :
    iblk m c 9 t (ix2 y z) = m ((c : Thread nD τ).loc main_arg3) (ix2 ⟨y.val, by omega⟩ z) := by
  unfold iblk
  rw [View.read_apply]
  refine (congrFun (V_main_arg3 m c) _).trans (congrArg _ ?_)
  funext a
  match a with
  | ⟨0, _⟩ => exact Fin.ext (by show win0_9.index t 0 * 16 + 1 * y.val = _; rw [at_9]; simp)
  | ⟨1, _⟩ => exact Fin.ext (by show win0_9.index t 1 * 128 + 1 * z.val = _; rw [at_9]; simp)

theorem at_10 : ∀ t : Fin cfg0.N, win0_10.index t = ![16 + 64 * (4 * t.val + 0 - 2), 0] :=
  (by decide +kernel : ∀ t : Fin grid0.N, win0_10.index t = ![16 + 64 * (4 * t.val + 0 - 2), 0])

theorem blk_10 (t : Fin cfg0.N) (y : Fin 64) (z : Fin 128) :
    iblk m c 10 t (ix2 y z) = m ((c : Thread nD τ).loc main_arg3) (ix2 ⟨16 + 64 * (4 * t.val + 0 - 2) + y.val, by have : t.val < 32 := t.isLt; omega⟩ z) := by
  unfold iblk
  rw [View.read_apply]
  refine (congrFun (V_main_arg3 m c) _).trans (congrArg _ ?_)
  funext a
  match a with
  | ⟨0, _⟩ => exact Fin.ext (by show win0_10.index t 0 + 1 * y.val = _; rw [at_10]; simp)
  | ⟨1, _⟩ => exact Fin.ext (by show win0_10.index t 1 + 1 * z.val = _; rw [at_10]; simp)

theorem at_11 : ∀ t : Fin cfg0.N, win0_11.index t = ![16 + 64 * (4 * t.val + 1 - 2), 0] :=
  (by decide +kernel : ∀ t : Fin grid0.N, win0_11.index t = ![16 + 64 * (4 * t.val + 1 - 2), 0])

theorem blk_11 (t : Fin cfg0.N) (y : Fin 64) (z : Fin 128) :
    iblk m c 11 t (ix2 y z) = m ((c : Thread nD τ).loc main_arg3) (ix2 ⟨16 + 64 * (4 * t.val + 1 - 2) + y.val, by have : t.val < 32 := t.isLt; omega⟩ z) := by
  unfold iblk
  rw [View.read_apply]
  refine (congrFun (V_main_arg3 m c) _).trans (congrArg _ ?_)
  funext a
  match a with
  | ⟨0, _⟩ => exact Fin.ext (by show win0_11.index t 0 + 1 * y.val = _; rw [at_11]; simp)
  | ⟨1, _⟩ => exact Fin.ext (by show win0_11.index t 1 + 1 * z.val = _; rw [at_11]; simp)

theorem at_12 : ∀ t : Fin cfg0.N, win0_12.index t = ![16 + 64 * (4 * t.val + 2 - 2), 0] :=
  (by decide +kernel : ∀ t : Fin grid0.N, win0_12.index t = ![16 + 64 * (4 * t.val + 2 - 2), 0])

theorem blk_12 (t : Fin cfg0.N) (y : Fin 64) (z : Fin 128) :
    iblk m c 12 t (ix2 y z) = m ((c : Thread nD τ).loc main_arg3) (ix2 ⟨16 + 64 * (4 * t.val + 2 - 2) + y.val, by have : t.val < 32 := t.isLt; omega⟩ z) := by
  unfold iblk
  rw [View.read_apply]
  refine (congrFun (V_main_arg3 m c) _).trans (congrArg _ ?_)
  funext a
  match a with
  | ⟨0, _⟩ => exact Fin.ext (by show win0_12.index t 0 + 1 * y.val = _; rw [at_12]; simp)
  | ⟨1, _⟩ => exact Fin.ext (by show win0_12.index t 1 + 1 * z.val = _; rw [at_12]; simp)

theorem at_13 : ∀ t : Fin cfg0.N, win0_13.index t = ![16 + 64 * (4 * t.val + 3 - 2), 0] :=
  (by decide +kernel : ∀ t : Fin grid0.N, win0_13.index t = ![16 + 64 * (4 * t.val + 3 - 2), 0])

theorem blk_13 (t : Fin cfg0.N) (y : Fin 64) (z : Fin 128) :
    iblk m c 13 t (ix2 y z) = m ((c : Thread nD τ).loc main_arg3) (ix2 ⟨16 + 64 * (4 * t.val + 3 - 2) + y.val, by have : t.val < 32 := t.isLt; omega⟩ z) := by
  unfold iblk
  rw [View.read_apply]
  refine (congrFun (V_main_arg3 m c) _).trans (congrArg _ ?_)
  funext a
  match a with
  | ⟨0, _⟩ => exact Fin.ext (by show win0_13.index t 0 + 1 * y.val = _; rw [at_13]; simp)
  | ⟨1, _⟩ => exact Fin.ext (by show win0_13.index t 1 + 1 * z.val = _; rw [at_13]; simp)

theorem at_14 : ∀ t : Fin cfg0.N, win0_14.index t = ![16 + 64 * (4 * t.val + 4 - 2), 0] :=
  (by decide +kernel : ∀ t : Fin grid0.N, win0_14.index t = ![16 + 64 * (4 * t.val + 4 - 2), 0])

theorem blk_14 (t : Fin cfg0.N) (y : Fin 64) (z : Fin 128) :
    iblk m c 14 t (ix2 y z) = m ((c : Thread nD τ).loc main_arg3) (ix2 ⟨16 + 64 * (4 * t.val + 4 - 2) + y.val, by have : t.val < 32 := t.isLt; omega⟩ z) := by
  unfold iblk
  rw [View.read_apply]
  refine (congrFun (V_main_arg3 m c) _).trans (congrArg _ ?_)
  funext a
  match a with
  | ⟨0, _⟩ => exact Fin.ext (by show win0_14.index t 0 + 1 * y.val = _; rw [at_14]; simp)
  | ⟨1, _⟩ => exact Fin.ext (by show win0_14.index t 1 + 1 * z.val = _; rw [at_14]; simp)

theorem at_15 : ∀ t : Fin cfg0.N, win0_15.index t = ![16 + 64 * (4 * t.val + 5 - 2), 0] :=
  (by decide +kernel : ∀ t : Fin grid0.N, win0_15.index t = ![16 + 64 * (4 * t.val + 5 - 2), 0])

theorem blk_15 (t : Fin cfg0.N) (y : Fin 64) (z : Fin 128) :
    iblk m c 15 t (ix2 y z) = m ((c : Thread nD τ).loc main_arg3) (ix2 ⟨16 + 64 * (4 * t.val + 5 - 2) + y.val, by have : t.val < 32 := t.isLt; omega⟩ z) := by
  unfold iblk
  rw [View.read_apply]
  refine (congrFun (V_main_arg3 m c) _).trans (congrArg _ ?_)
  funext a
  match a with
  | ⟨0, _⟩ => exact Fin.ext (by show win0_15.index t 0 + 1 * y.val = _; rw [at_15]; simp)
  | ⟨1, _⟩ => exact Fin.ext (by show win0_15.index t 1 + 1 * z.val = _; rw [at_15]; simp)

end Cert.Band
-- ==== Proof.RefRead.lean ====
module

public import proofs.«01_k».proof.Proof.Gen.ReferenceIdeal.Read
public import proofs.«01_k».proof.Proof.Spec

@[expose] public section

set_option maxRecDepth 16384

noncomputable section

namespace Cert.Band

open Cert.ReferenceIdeal Cert.ReferenceIdeal.Gen Cert.ReferenceIdeal.Read Idealize.ShloMosaic

variable (q : (⟨S8208x1024, .f32⟩ : BufTy).Contents (Elt Ideal)) (s : (⟨S16, .f32⟩ : BufTy).Contents (Elt Ideal))
  (k v : (⟨S8208x128, .f32⟩ : BufTy).Contents (Elt Ideal))

/-- The reference's one eighth, and its zero and −∞. -/
theorem eighth : Ideal.ofBits .f32 0x3E000000#32 = ((1 / 8 : ℝ) : EReal) := by
  simp [Ideal.ofBits, Ideal.ieee]
  rw [← EReal.coe_mul]
  norm_num

theorem negInf : Ideal.ofBits .f32 0xFF800000#32 = ⊥ := by
  simp [Ideal.ofBits, Ideal.ieee]

theorem v7_apply (c : Fin 128) (r : Fin 64) (g : Fin 2) (u : Fin 8) (d : Fin 64) :
    val_main_v7 (F := Ideal) q (ix5 c r g u d) = q (ix2 ⟨16 + (64 * c.val + r.val), by omega⟩ ⟨(8 * g.val + u.val) * 64 + d.val, by omega⟩) := by
  pointwise [val_main_v7, val_main_v6, val_main_v0]
  congr 2 <;> exact Fin.ext (by simp; omega)

/-- Two chunks of zeros before the band's rows (of the keys; of the values the same). -/
def padded (x : (⟨S8208x128, .f32⟩ : BufTy).Contents (Elt Ideal)) (i : Fin 8320) (g : Fin 2) (d : Fin 64) : EReal :=
  if h : i.val < 128 then Ideal.ofBits .f32 0#32 else x (ix2 ⟨16 + (i.val - 128), by omega⟩ ⟨g.val * 64 + d.val, by omega⟩)

theorem v10_apply (i : Fin 8320) (g : Fin 2) (d : Fin 64) : val_main_v10 (F := Ideal) k (ix3 i g d) = padded k i g d := by
  unfold padded
  pointwise [val_main_v10, val_main_v9, val_main_v1, val_main_v8, val_main_cst]

theorem v13_apply (i : Fin 8320) (g : Fin 2) (d : Fin 64) : val_main_v13 (F := Ideal) v (ix3 i g d) = padded v i g d := by
  unfold padded
  pointwise [val_main_v13, val_main_v12, val_main_v2, val_main_v8, val_main_cst]

theorem v18_apply (c : Fin 128) (i : Fin 192) (g : Fin 2) (d : Fin 64) :
    val_main_v18 (F := Ideal) k (ix4 c i g d) = padded k ⟨c.val * 64 + i.val, by omega⟩ g d := by
  pointwise [val_main_v18, val_main_v15, val_main_v16, val_main_v17, val_main_v11]
  simp only [v10_apply]
  split
  · rfl
  · split
    · congr 1; exact Fin.ext (by simp; omega)
    · congr 1; exact Fin.ext (by simp; omega)

theorem v22_apply (c : Fin 128) (i : Fin 192) (g : Fin 2) (d : Fin 64) :
    val_main_v22 (F := Ideal) v (ix4 c i g d) = padded v ⟨c.val * 64 + i.val, by omega⟩ g d := by
  pointwise [val_main_v22, val_main_v19, val_main_v20, val_main_v21, val_main_v14]
  simp only [v13_apply]
  split
  · rfl
  · split
    · congr 1; exact Fin.ext (by simp; omega)
    · congr 1; exact Fin.ext (by simp; omega)

theorem mask_word : ∀ (c : Fin 128) (w : Fin 3),
    IntOp.cmpi CmpIPredicate.sge (IntOp.addi (IntOp.subi (BitVec.ofNat 32 c.val) 2#32) (BitVec.ofNat 32 w.val)) 0#32 =
      if 2 ≤ c.val + w.val then 1#1 else 0#1 := by
  decide +kernel

theorem v35_apply (c : Fin 128) (i : Fin 192) : val_main_v35 (F := Ideal) (ix2 c i) = if 2 ≤ c.val + i.val / 64 then 1#1 else 0#1 := by
  pointwise [val_main_v35, val_main_v34, val_main_v33, val_main_v32, val_main_v31, val_main_v30, val_main_v29, val_main_v28, val_main_v27, val_main_v26, val_main_v25, val_main_v24, val_main_v23, val_main_c, val_main_c_0]
  exact mask_word c ⟨i.val / 64, by omega⟩

/-- The scores of the band's keys: −∞ where there is no such chunk. -/
theorem v45_apply (c : Fin 128) (g : Fin 2) (u : Fin 8) (r : Fin 64) (i : Fin 192) :
    val_main_v45 (F := Ideal) q k (ix5 c g u r i) = if 2 ≤ c.val + i.val / 64 then
      (∑ d : Fin 64, padded k ⟨c.val * 64 + i.val, by omega⟩ g d *
        q (ix2 ⟨16 + (64 * c.val + r.val), by omega⟩ ⟨(8 * g.val + u.val) * 64 + d.val, by omega⟩)) * ((1 / 8 : ℝ) : EReal) else ⊥ := by
  pointwise [val_main_v45, val_main_v43, val_main_v41, val_main_v40, val_main_v42, val_main_call0_v1, val_main_call0_v2, val_main_v44, val_main_call0_v0, val_main_cst_2, val_main_cst_3]
  rw [v35_apply]
  simp only [v18_apply, v7_apply, eighth, negInf]
  split
  · simp [Scalar.select]
  · simp only [Scalar.select]
    exact negInf

theorem v39_apply (c : Fin 128) (g : Fin 2) (u : Fin 8) (r : Fin 64) (i : Fin 16) :
    val_main_v39 (F := Ideal) q k (ix5 c g u r i) =
      (∑ d : Fin 64, k (ix2 ⟨i.val, by omega⟩ ⟨g.val * 64 + d.val, by omega⟩) *
        q (ix2 ⟨16 + (64 * c.val + r.val), by omega⟩ ⟨(8 * g.val + u.val) * 64 + d.val, by omega⟩)) * ((1 / 8 : ℝ) : EReal) := by
  pointwise [val_main_v39, val_main_v38, val_main_v37, val_main_v36, val_main_v4, val_main_v1, val_main_cst_1]
  simp only [v7_apply, eighth]

/-- The arguments by row and lane. -/
abbrev rows {n m : Nat} (x : (⟨2, ![n, m]⟩ : Shape).Idx → EReal) : Fin n → Fin m → EReal := fun i j => x (ix2 i j)

abbrev hd (g : Fin 2) (u : Fin 8) : Fin 16 := ⟨8 * g.val + u.val, by omega⟩

theorem padded_seen (c : Fin 128) (i : Fin 192) (g : Fin 2) (u : Fin 8) (d : Fin 64) (h : 2 ≤ c.val + i.val / 64) :
    padded k ⟨c.val * 64 + i.val, by omega⟩ g d =
      k (ix2 ⟨keyRow c.val (16 + i.val), keyRow_lt c ⟨16 + i.val, by omega⟩⟩ ⟨64 * ((hd g u).val / 8) + d.val, by simp only [hd]; omega⟩) := by
  unfold padded
  rw [dif_neg (by simp only; omega)]
  congr 2
  · exact Fin.ext (by simp only [keyRow]; rw [if_neg (by omega)]; omega)
  · exact Fin.ext (by simp only [hd]; omega)

theorem logits_v46 (c : Fin 128) (g : Fin 2) (u : Fin 8) (r : Fin 64) (i : Fin 208) :
    val_main_v46 (F := Ideal) q k (ix5 c g u r i) = logits (rows q) (rows k) ((1 / 8 : ℝ) : EReal) c r (hd g u) i := by
  pointwise [val_main_v46]
  simp only [logits, rows]
  by_cases h : i.val < 16
  · refine (dif_pos h).trans ?_
    rw [v39_apply, if_pos (Or.inl h)]
    congr 1
    refine Finset.sum_congr rfl fun d _ => ?_
    congr 3
    · exact Fin.ext (by simp only [keyRow, h, if_true])
    · exact Fin.ext (by simp only [hd]; omega)
  · refine (dif_neg h).trans ?_
    rw [v45_apply]
    by_cases h2 : 2 ≤ c.val + (i.val - 16) / 64
    · rw [if_pos (by exact h2), if_pos (Or.inr (by omega))]
      congr 1
      refine Finset.sum_congr rfl fun d _ => ?_
      rw [padded_seen k c ⟨i.val - 16, by omega⟩ g u d h2]
      have hi : 16 + (i.val - 16) = i.val := by omega
      simp only [hi]
    · rw [if_neg (by exact h2), if_neg (by omega)]

theorem v49_apply (c : Fin 128) (g : Fin 2) (u : Fin 8) (r : Fin 64) (i : Fin 209) :
    val_main_v49 (F := Ideal) q s k (ix5 c g u r i) =
      if h : i.val < 1 then s (ix1 (hd g u)) else logits (rows q) (rows k) ((1 / 8 : ℝ) : EReal) c r (hd g u) ⟨i.val - 1, by omega⟩ := by
  pointwise [val_main_v49, val_main_v48, val_main_v47, val_main_v3]
  simp only [logits_v46]
  refine dite_congr rfl (fun _ => congrArg (fun x => s (ix1 x)) (Fin.ext (show g.val * 8 + u.val = 8 * g.val + u.val by omega))) fun _ => rfl

theorem max_apply (x : FVec Ideal S128x2x8x64x209 .f32) (z : FVec Ideal S_ .f32) (c : Fin 128) (g : Fin 2) (u : Fin 8) (r : Fin 64) :
    Host.reduce FloatOps.maximumf x z reducesTo_S128x2x8x64x209_S128x2x8x64_d4 h_S_ (ix4 c g u r) =
      Finset.fold max (z ix0) (fun i => x (ix5 c g u r i)) Finset.univ := by
  pointwise []
  rw [show Shape.Idx.first h_S_ = ix0 from funext fun a => a.elim0]

theorem v52_apply (c : Fin 128) (g : Fin 2) (u : Fin 8) (r : Fin 64) :
    val_main_v52 (F := Ideal) q s k (ix4 c g u r) = peak (s (ix1 (hd g u))) (logits (rows q) (rows k) ((1 / 8 : ℝ) : EReal) c r (hd g u)) := by
  have h50 : val_main_v50 (F := Ideal) q s k (ix4 c g u r) = peak (s (ix1 (hd g u))) (logits (rows q) (rows k) ((1 / 8 : ℝ) : EReal) c r (hd g u)) := by
    unfold val_main_v50
    rw [max_apply]
    simp only [v49_apply]
    rw [show val_main_cst_4 (F := Ideal) ix0 = ⊥ from negInf]
    exact sup_209 _ rfl fun i => rfl
  rw [val_main_v52_apply, h50]
  exact (congrArg (fun z => max z _) (show val_main_v51 (F := Ideal) (ix4 c g u r) = ⊥ from negInf)).trans (max_eq_right bot_le)

theorem v60_apply (c : Fin 128) (g : Fin 2) (u : Fin 8) (r : Fin 64) (i : Fin 208) :
    val_main_v60 (F := Ideal) q s k (ix5 c g u r ⟨1 + i.val, by omega⟩) =
      Ideal.div (Ideal.exp (logits (rows q) (rows k) ((1 / 8 : ℝ) : EReal) c r (hd g u) i -
        peak (s (ix1 (hd g u))) (logits (rows q) (rows k) ((1 / 8 : ℝ) : EReal) c r (hd g u))))
        (mass (s (ix1 (hd g u))) (logits (rows q) (rows k) ((1 / 8 : ℝ) : EReal) c r (hd g u))) := by
  pointwise [val_main_v60, val_main_v59,val_main_v58,val_main_v57,val_main_v56,val_main_v55,val_main_v54,val_main_v53, val_main_cst_6]
  simp only [v52_apply, v49_apply]
  rw [Fin.sum_univ_succ]
  refine congrArg₂ Ideal.div (congrArg (fun x => Ideal.exp (x - _)) ?_) ?_
  · exact (dif_neg (by omega)).trans (congrArg _ (Fin.ext (by simp)))
  · rfl

/-- The reference at a row of a chunk and a lane of a head is the band attention. -/
theorem v68_apply (c : Fin 128) (g : Fin 2) (u : Fin 8) (r : Fin 64) (d : Fin 64)
    (hz : mass (s (ix1 (hd g u))) (logits (rows q) (rows k) ((1 / 8 : ℝ) : EReal) c r (hd g u)) ≠ 0) :
    val_main_v68 (F := Ideal) q s k v (ix5 c r g u d) =
      band (rows q) (fun h => s (ix1 h)) (rows k) (rows v) ((1 / 8 : ℝ) : EReal) c r (hd g u) d := by
  unfold band
  have hc := soft_congr (W := fun j : Fin 208 => if h : j.val < 16 then v (ix2 ⟨j.val, by omega⟩ ⟨g.val * 64 + d.val, by omega⟩)
    else padded v ⟨c.val * 64 + (j.val - 16), by omega⟩ g d)
    (V := fun j => rows v ⟨keyRow c.val j.val, keyRow_lt c j⟩ ⟨64 * ((hd g u).val / 8) + d.val, by simp only [hd]; omega⟩) hz (by
      intro j hj
      by_cases h : j.val < 16
      · rw [dif_pos h]
        exact congrArg v (congrArg₂ ix2 (Fin.ext (by show keyRow c.val j.val = j.val; simp only [keyRow, h, if_true]))
          (Fin.ext (show 64 * ((8 * g.val + u.val) / 8) + d.val = g.val * 64 + d.val by omega)))
      · have h2 : 2 ≤ c.val + (j.val - 16) / 64 := by
          by_contra h2
          exact hj (if_neg (by omega))
        rw [dif_neg h, padded_seen v c ⟨j.val - 16, by omega⟩ g u d h2]
        congr 3
        simp only; congr 1; omega)
  refine Eq.trans ?_ hc.symm
  unfold soft
  rw [Fin.sum_univ_two_halves 16 192 rfl]
  pointwise [val_main_v68, val_main_v67,val_main_v66,val_main_v65,val_main_v64,val_main_v63,val_main_v62,val_main_v61]
  congr 1
  · refine Finset.sum_congr rfl fun i _ => ?_
    rw [v60_apply q s k c g u r ⟨i.val, by omega⟩]
    congr 1
    pointwise [val_main_v5, val_main_v2]
  · refine Finset.sum_congr rfl fun i _ => ?_
    rw [v60_apply q s k c g u r ⟨16 + i.val, by omega⟩, v22_apply]
    all_goals simp

theorem ref_apply (c : Fin 128) (h : Fin 16) (r : Fin 64) (d : Fin 64)
    (hz : mass (s (ix1 h)) (logits (rows q) (rows k) ((1 / 8 : ℝ) : EReal) c r h) ≠ 0) :
    val_main_v70 (F := Ideal) q s k v (ix2 ⟨64 * c.val + r.val, by omega⟩ ⟨h.val * 64 + d.val, by omega⟩) =
      band (rows q) (fun h => s (ix1 h)) (rows k) (rows v) ((1 / 8 : ℝ) : EReal) c r h d := by
  have he : hd ⟨h.val / 8, by omega⟩ ⟨h.val % 8, by omega⟩ = h := Fin.ext (by simp only [hd]; omega)
  have hv := v68_apply q s k v c ⟨h.val / 8, by omega⟩ ⟨h.val % 8, by omega⟩ r d (by rw [he]; exact hz)
  rw [he] at hv
  rw [← hv, val_main_v70_apply, val_main_v69_apply]
  refine (show FloatOps.truncf (F := Ideal) .bf16 bitsLt_bf16_f32 (val_main_v68 (F := Ideal) q s k v _) = val_main_v68 (F := Ideal) q s k v _ from rfl).trans
    (congrArg (val_main_v68 (F := Ideal) q s k v) ?_)
  funext a
  match a with
  | ⟨0, _⟩ => exact Fin.ext (by simp; omega)
  | ⟨1, _⟩ => exact Fin.ext (by simp; omega)
  | ⟨2, _⟩ => exact Fin.ext (by simp; omega)
  | ⟨3, _⟩ => exact Fin.ext (by simp; omega)
  | ⟨4, _⟩ => exact Fin.ext (by simp; omega)

end Cert.Band
-- ==== Proof.Result.lean ====
module

public import proofs.«01_k».proof.Proof.Blocks
public import proofs.«01_k».proof.Proof.RefRead
public import proofs.«01_k».proof.Proof.Gen.Pre_finite_scores

@[expose] public section

set_option maxRecDepth 16384
set_option backward.proofsInPublic true
set_option maxHeartbeats 2000000

noncomputable section

namespace Cert.Band

open Cert.KernelIdeal Cert.KernelIdeal.Gen Idealize.ShloMosaic Idealize.ShloMosaic.TcCoe

variable (m : (ℓ : Loc nD τ sig) → Buf (Elt Ideal) ℓ) (c : Dev nD)

/-- The queries, the sinks, the keys and the values, by row and lane. -/
abbrev qs : Fin 8208 → Fin 1024 → EReal := fun i j => m ((c : Thread nD τ).loc main_arg0) (ix2 i j)
abbrev ss : Fin 16 → EReal := fun i => m ((c : Thread nD τ).loc main_arg1) (ix1 i)
abbrev kk : Fin 8208 → Fin 128 → EReal := fun i j => m ((c : Thread nD τ).loc main_arg2) (ix2 i j)
abbrev vv : Fin 8208 → Fin 128 → EReal := fun i j => m ((c : Thread nD τ).loc main_arg3) (ix2 i j)

/-- The whole result. -/
def result : S8192x1024.Idx → EReal := fun i =>
  band (qs m c) (ss m c) (kk m c) (vv m c) ((1 / 8 : ℝ) : EReal)
    ⟨(i 0).val / 64, by have h : (i 0).val < 8192 := (i 0).isLt; omega⟩ ⟨(i 0).val % 64, by omega⟩
    ⟨(i 1).val / 64, by have h : (i 1).val < 1024 := (i 1).isLt; omega⟩ ⟨(i 1).val % 64, by omega⟩

theorem chunkNo_eq : ∀ (t : Fin cfg0.N) (h : Fin 4), chunkNo (grid0.coords t) (BitVec.ofNat 32 h.val) = BitVec.ofNat 32 (4 * t.val + h.val) :=
  (by decide +kernel : ∀ (t : Fin grid0.N) (h : Fin 4), chunkNo (grid0.coords t) (BitVec.ofNat 32 h.val) = BitVec.ofNat 32 (4 * t.val + h.val))

variable (hz : ∀ (n : Fin 128) (h : Fin 16) (r : Fin 64), mass (ss m c h) (logits (qs m c) (kk m c) ((1 / 8 : ℝ) : EReal) n r h) ≠ 0)

theorem sinks_eq (t : Fin cfg0.N) (h : Fin 16) :
    (![View.ld (iblk m c 1 t) r0_6, View.ld (iblk m c 1 t) r0_10, View.ld (iblk m c 1 t) r0_7, View.ld (iblk m c 1 t) r0_11, View.ld (iblk m c 1 t) r0_8, View.ld (iblk m c 1 t) r0_12, View.ld (iblk m c 1 t) r0_9, View.ld (iblk m c 1 t) r0_13, View.ld (iblk m c 1 t) r0_18, View.ld (iblk m c 1 t) r0_22, View.ld (iblk m c 1 t) r0_19, View.ld (iblk m c 1 t) r0_23, View.ld (iblk m c 1 t) r0_20, View.ld (iblk m c 1 t) r0_24, View.ld (iblk m c 1 t) r0_21, View.ld (iblk m c 1 t) r0_25 ] : Fin 16 → Vec Ideal S1x1 .f32) h (ix2 0 0) = ss m c h := by
  fin_cases h <;> exact (congrArg (iblk m c 1 t) (funext fun a => match a with | ⟨0, _⟩ => rfl | ⟨1, _⟩ => rfl)).trans (blk_1 m c t _)

theorem ld_16 (a : Vec Ideal S16x128 .f32) (y : Fin 16) (z : Fin 128) : View.ld a r0_0 (ix2 y z) = a (ix2 y z) :=
  congrArg a (funext fun x => match x with
    | ⟨0, _⟩ => Fin.ext (by simp [Rect.idx_unit_val])
    | ⟨1, _⟩ => Fin.ext (by simp [Rect.idx_unit_val]))

theorem ld_64 (a : Vec Ideal S64x128 .f32) (y : Fin 64) (z : Fin 128) : View.ld a r0_1 (ix2 y z) = a (ix2 y z) :=
  congrArg a (funext fun x => match x with
    | ⟨0, _⟩ => Fin.ext (by simp [Rect.idx_unit_val])
    | ⟨1, _⟩ => Fin.ext (by simp [Rect.idx_unit_val]))

theorem queries0 (t : Fin cfg0.N) (ht : 4 * t.val + 0 < 128) (p : Fin 8) (r : Fin 64) (z : Fin 128) :
    (![View.ld (iblk m c 0 t) r0_2, View.ld (iblk m c 0 t) r0_3, View.ld (iblk m c 0 t) r0_4, View.ld (iblk m c 0 t) r0_5, View.ld (iblk m c 0 t) r0_14, View.ld (iblk m c 0 t) r0_15, View.ld (iblk m c 0 t) r0_16, View.ld (iblk m c 0 t) r0_17] : Fin 8 → Vec Ideal S64x128 .bf16) p (ix2 r z) =
      qs m c ⟨16 + (64 * (4 * t.val + 0) + r.val), by omega⟩ ⟨128 * p.val + z.val, by omega⟩ * ((1 / 8 : ℝ) : EReal) := by
  have key : ∀ (y : S256x1024.Idx), (y 0).val = 0 + r.val → (y 1).val = 128 * p.val + z.val → iblk m c 0 t y =
      qs m c ⟨16 + (64 * (4 * t.val + 0) + r.val), by omega⟩ ⟨128 * p.val + z.val, by omega⟩ * ((1 / 8 : ℝ) : EReal) := by
    intro y h0 h1
    have e : y = ix2 ⟨0 + r.val, by omega⟩ ⟨128 * p.val + z.val, by omega⟩ := by
      funext a
      match a with
      | ⟨0, _⟩ => exact Fin.ext h0
      | ⟨1, _⟩ => exact Fin.ext h1
    rw [e, blk_0, eighth]
    refine congrArg (fun x => x * ((1 / 8 : ℝ) : EReal)) (congrArg (fun i => qs m c i ⟨128 * p.val + z.val, by omega⟩) (Fin.ext ?_))
    simp only; omega
  fin_cases p <;> exact key _ (by simp [Rect.idx_unit_val]) (by simp [Rect.idx_unit_val])

include hz in
theorem piece0_eq (t : Fin cfg0.N) (ht : 4 * t.val + 0 < 128) (h : Fin 16) (r d : Fin 64) :
    piece0 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨h.val * 64 + d.val, by omega⟩)
      = band (qs m c) (ss m c) (kk m c) (vv m c) ((1 / 8 : ℝ) : EReal) ⟨4 * t.val + 0, ht⟩ r h d := by
  unfold piece0
  rw [show chunkNo (grid0.coords t) 0#32 = BitVec.ofNat 32 (4 * t.val + 0) from chunkNo_eq t 0]
  exact attend_band (n := ⟨4 * t.val + 0, ht⟩) (q := qs m c) (s := ss m c) (k := kk m c) (v := vv m c)
    (Q := ![View.ld (iblk m c 0 t) r0_2, View.ld (iblk m c 0 t) r0_3, View.ld (iblk m c 0 t) r0_4, View.ld (iblk m c 0 t) r0_5, View.ld (iblk m c 0 t) r0_14, View.ld (iblk m c 0 t) r0_15, View.ld (iblk m c 0 t) r0_16, View.ld (iblk m c 0 t) r0_17]) (S := ![View.ld (iblk m c 1 t) r0_6, View.ld (iblk m c 1 t) r0_10, View.ld (iblk m c 1 t) r0_7, View.ld (iblk m c 1 t) r0_11, View.ld (iblk m c 1 t) r0_8, View.ld (iblk m c 1 t) r0_12, View.ld (iblk m c 1 t) r0_9, View.ld (iblk m c 1 t) r0_13, View.ld (iblk m c 1 t) r0_18, View.ld (iblk m c 1 t) r0_22, View.ld (iblk m c 1 t) r0_19, View.ld (iblk m c 1 t) r0_23, View.ld (iblk m c 1 t) r0_20, View.ld (iblk m c 1 t) r0_24, View.ld (iblk m c 1 t) r0_21, View.ld (iblk m c 1 t) r0_25])
    (fun j z _ => stack_rows (k := kk m c) _ _ _ _ _ (fun y z => (ld_16 _ _ _).trans (blk_2 m c t y z)) (fun y z => (ld_64 _ _ _).trans (blk_3 m c t y z))
      (fun y z => (ld_64 _ _ _).trans (blk_4 m c t y z)) (fun y z => (ld_64 _ _ _).trans (blk_5 m c t y z)) j z)
    (fun p r z => queries0 m c t ht p r z) (fun h => sinks_eq m c t h)
    (fun j z _ => stack_rows (k := vv m c) _ _ _ _ _ (fun y z => (ld_16 _ _ _).trans (blk_9 m c t y z)) (fun y z => (ld_64 _ _ _).trans (blk_10 m c t y z))
      (fun y z => (ld_64 _ _ _).trans (blk_11 m c t y z)) (fun y z => (ld_64 _ _ _).trans (blk_12 m c t y z)) j z)
    (fun z => stack_sink _ _ _ _ z) (fun h r => hz _ h r) h r d

theorem queries1 (t : Fin cfg0.N) (ht : 4 * t.val + 1 < 128) (p : Fin 8) (r : Fin 64) (z : Fin 128) :
    (![View.ld (iblk m c 0 t) r0_27, View.ld (iblk m c 0 t) r0_28, View.ld (iblk m c 0 t) r0_29, View.ld (iblk m c 0 t) r0_30, View.ld (iblk m c 0 t) r0_31, View.ld (iblk m c 0 t) r0_32, View.ld (iblk m c 0 t) r0_33, View.ld (iblk m c 0 t) r0_34] : Fin 8 → Vec Ideal S64x128 .bf16) p (ix2 r z) =
      qs m c ⟨16 + (64 * (4 * t.val + 1) + r.val), by omega⟩ ⟨128 * p.val + z.val, by omega⟩ * ((1 / 8 : ℝ) : EReal) := by
  have key : ∀ (y : S256x1024.Idx), (y 0).val = 64 + r.val → (y 1).val = 128 * p.val + z.val → iblk m c 0 t y =
      qs m c ⟨16 + (64 * (4 * t.val + 1) + r.val), by omega⟩ ⟨128 * p.val + z.val, by omega⟩ * ((1 / 8 : ℝ) : EReal) := by
    intro y h0 h1
    have e : y = ix2 ⟨64 + r.val, by omega⟩ ⟨128 * p.val + z.val, by omega⟩ := by
      funext a
      match a with
      | ⟨0, _⟩ => exact Fin.ext h0
      | ⟨1, _⟩ => exact Fin.ext h1
    rw [e, blk_0, eighth]
    refine congrArg (fun x => x * ((1 / 8 : ℝ) : EReal)) (congrArg (fun i => qs m c i ⟨128 * p.val + z.val, by omega⟩) (Fin.ext ?_))
    simp only; omega
  fin_cases p <;> exact key _ (by simp [Rect.idx_unit_val]) (by simp [Rect.idx_unit_val])

include hz in
theorem piece1_eq (t : Fin cfg0.N) (ht : 4 * t.val + 1 < 128) (h : Fin 16) (r d : Fin 64) :
    piece1 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨h.val * 64 + d.val, by omega⟩)
      = band (qs m c) (ss m c) (kk m c) (vv m c) ((1 / 8 : ℝ) : EReal) ⟨4 * t.val + 1, ht⟩ r h d := by
  unfold piece1
  rw [show chunkNo (grid0.coords t) 1#32 = BitVec.ofNat 32 (4 * t.val + 1) from chunkNo_eq t 1]
  exact attend_band (n := ⟨4 * t.val + 1, ht⟩) (q := qs m c) (s := ss m c) (k := kk m c) (v := vv m c)
    (Q := ![View.ld (iblk m c 0 t) r0_27, View.ld (iblk m c 0 t) r0_28, View.ld (iblk m c 0 t) r0_29, View.ld (iblk m c 0 t) r0_30, View.ld (iblk m c 0 t) r0_31, View.ld (iblk m c 0 t) r0_32, View.ld (iblk m c 0 t) r0_33, View.ld (iblk m c 0 t) r0_34]) (S := ![View.ld (iblk m c 1 t) r0_6, View.ld (iblk m c 1 t) r0_10, View.ld (iblk m c 1 t) r0_7, View.ld (iblk m c 1 t) r0_11, View.ld (iblk m c 1 t) r0_8, View.ld (iblk m c 1 t) r0_12, View.ld (iblk m c 1 t) r0_9, View.ld (iblk m c 1 t) r0_13, View.ld (iblk m c 1 t) r0_18, View.ld (iblk m c 1 t) r0_22, View.ld (iblk m c 1 t) r0_19, View.ld (iblk m c 1 t) r0_23, View.ld (iblk m c 1 t) r0_20, View.ld (iblk m c 1 t) r0_24, View.ld (iblk m c 1 t) r0_21, View.ld (iblk m c 1 t) r0_25])
    (fun j z _ => stack_rows (k := kk m c) _ _ _ _ _ (fun y z => (ld_16 _ _ _).trans (blk_2 m c t y z)) (fun y z => (ld_64 _ _ _).trans (blk_4 m c t y z))
      (fun y z => (ld_64 _ _ _).trans (blk_5 m c t y z)) (fun y z => (ld_64 _ _ _).trans (blk_6 m c t y z)) j z)
    (fun p r z => queries1 m c t ht p r z) (fun h => sinks_eq m c t h)
    (fun j z _ => stack_rows (k := vv m c) _ _ _ _ _ (fun y z => (ld_16 _ _ _).trans (blk_9 m c t y z)) (fun y z => (ld_64 _ _ _).trans (blk_11 m c t y z))
      (fun y z => (ld_64 _ _ _).trans (blk_12 m c t y z)) (fun y z => (ld_64 _ _ _).trans (blk_13 m c t y z)) j z)
    (fun z => stack_sink _ _ _ _ z) (fun h r => hz _ h r) h r d

theorem queries2 (t : Fin cfg0.N) (ht : 4 * t.val + 2 < 128) (p : Fin 8) (r : Fin 64) (z : Fin 128) :
    (![View.ld (iblk m c 0 t) r0_36, View.ld (iblk m c 0 t) r0_37, View.ld (iblk m c 0 t) r0_38, View.ld (iblk m c 0 t) r0_39, View.ld (iblk m c 0 t) r0_40, View.ld (iblk m c 0 t) r0_41, View.ld (iblk m c 0 t) r0_42, View.ld (iblk m c 0 t) r0_43] : Fin 8 → Vec Ideal S64x128 .bf16) p (ix2 r z) =
      qs m c ⟨16 + (64 * (4 * t.val + 2) + r.val), by omega⟩ ⟨128 * p.val + z.val, by omega⟩ * ((1 / 8 : ℝ) : EReal) := by
  have key : ∀ (y : S256x1024.Idx), (y 0).val = 128 + r.val → (y 1).val = 128 * p.val + z.val → iblk m c 0 t y =
      qs m c ⟨16 + (64 * (4 * t.val + 2) + r.val), by omega⟩ ⟨128 * p.val + z.val, by omega⟩ * ((1 / 8 : ℝ) : EReal) := by
    intro y h0 h1
    have e : y = ix2 ⟨128 + r.val, by omega⟩ ⟨128 * p.val + z.val, by omega⟩ := by
      funext a
      match a with
      | ⟨0, _⟩ => exact Fin.ext h0
      | ⟨1, _⟩ => exact Fin.ext h1
    rw [e, blk_0, eighth]
    refine congrArg (fun x => x * ((1 / 8 : ℝ) : EReal)) (congrArg (fun i => qs m c i ⟨128 * p.val + z.val, by omega⟩) (Fin.ext ?_))
    simp only; omega
  fin_cases p <;> exact key _ (by simp [Rect.idx_unit_val]) (by simp [Rect.idx_unit_val])

include hz in
theorem piece2_eq (t : Fin cfg0.N) (ht : 4 * t.val + 2 < 128) (h : Fin 16) (r d : Fin 64) :
    piece2 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨h.val * 64 + d.val, by omega⟩)
      = band (qs m c) (ss m c) (kk m c) (vv m c) ((1 / 8 : ℝ) : EReal) ⟨4 * t.val + 2, ht⟩ r h d := by
  unfold piece2
  rw [show chunkNo (grid0.coords t) 2#32 = BitVec.ofNat 32 (4 * t.val + 2) from chunkNo_eq t 2]
  exact attend_band (n := ⟨4 * t.val + 2, ht⟩) (q := qs m c) (s := ss m c) (k := kk m c) (v := vv m c)
    (Q := ![View.ld (iblk m c 0 t) r0_36, View.ld (iblk m c 0 t) r0_37, View.ld (iblk m c 0 t) r0_38, View.ld (iblk m c 0 t) r0_39, View.ld (iblk m c 0 t) r0_40, View.ld (iblk m c 0 t) r0_41, View.ld (iblk m c 0 t) r0_42, View.ld (iblk m c 0 t) r0_43]) (S := ![View.ld (iblk m c 1 t) r0_6, View.ld (iblk m c 1 t) r0_10, View.ld (iblk m c 1 t) r0_7, View.ld (iblk m c 1 t) r0_11, View.ld (iblk m c 1 t) r0_8, View.ld (iblk m c 1 t) r0_12, View.ld (iblk m c 1 t) r0_9, View.ld (iblk m c 1 t) r0_13, View.ld (iblk m c 1 t) r0_18, View.ld (iblk m c 1 t) r0_22, View.ld (iblk m c 1 t) r0_19, View.ld (iblk m c 1 t) r0_23, View.ld (iblk m c 1 t) r0_20, View.ld (iblk m c 1 t) r0_24, View.ld (iblk m c 1 t) r0_21, View.ld (iblk m c 1 t) r0_25])
    (fun j z _ => stack_rows (k := kk m c) _ _ _ _ _ (fun y z => (ld_16 _ _ _).trans (blk_2 m c t y z)) (fun y z => (ld_64 _ _ _).trans (blk_5 m c t y z))
      (fun y z => (ld_64 _ _ _).trans (blk_6 m c t y z)) (fun y z => (ld_64 _ _ _).trans (blk_7 m c t y z)) j z)
    (fun p r z => queries2 m c t ht p r z) (fun h => sinks_eq m c t h)
    (fun j z _ => stack_rows (k := vv m c) _ _ _ _ _ (fun y z => (ld_16 _ _ _).trans (blk_9 m c t y z)) (fun y z => (ld_64 _ _ _).trans (blk_12 m c t y z))
      (fun y z => (ld_64 _ _ _).trans (blk_13 m c t y z)) (fun y z => (ld_64 _ _ _).trans (blk_14 m c t y z)) j z)
    (fun z => stack_sink _ _ _ _ z) (fun h r => hz _ h r) h r d

theorem queries3 (t : Fin cfg0.N) (ht : 4 * t.val + 3 < 128) (p : Fin 8) (r : Fin 64) (z : Fin 128) :
    (![View.ld (iblk m c 0 t) r0_45, View.ld (iblk m c 0 t) r0_46, View.ld (iblk m c 0 t) r0_47, View.ld (iblk m c 0 t) r0_48, View.ld (iblk m c 0 t) r0_49, View.ld (iblk m c 0 t) r0_50, View.ld (iblk m c 0 t) r0_51, View.ld (iblk m c 0 t) r0_52] : Fin 8 → Vec Ideal S64x128 .bf16) p (ix2 r z) =
      qs m c ⟨16 + (64 * (4 * t.val + 3) + r.val), by omega⟩ ⟨128 * p.val + z.val, by omega⟩ * ((1 / 8 : ℝ) : EReal) := by
  have key : ∀ (y : S256x1024.Idx), (y 0).val = 192 + r.val → (y 1).val = 128 * p.val + z.val → iblk m c 0 t y =
      qs m c ⟨16 + (64 * (4 * t.val + 3) + r.val), by omega⟩ ⟨128 * p.val + z.val, by omega⟩ * ((1 / 8 : ℝ) : EReal) := by
    intro y h0 h1
    have e : y = ix2 ⟨192 + r.val, by omega⟩ ⟨128 * p.val + z.val, by omega⟩ := by
      funext a
      match a with
      | ⟨0, _⟩ => exact Fin.ext h0
      | ⟨1, _⟩ => exact Fin.ext h1
    rw [e, blk_0, eighth]
    refine congrArg (fun x => x * ((1 / 8 : ℝ) : EReal)) (congrArg (fun i => qs m c i ⟨128 * p.val + z.val, by omega⟩) (Fin.ext ?_))
    simp only; omega
  fin_cases p <;> exact key _ (by simp [Rect.idx_unit_val]) (by simp [Rect.idx_unit_val])

include hz in
theorem piece3_eq (t : Fin cfg0.N) (ht : 4 * t.val + 3 < 128) (h : Fin 16) (r d : Fin 64) :
    piece3 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨h.val * 64 + d.val, by omega⟩)
      = band (qs m c) (ss m c) (kk m c) (vv m c) ((1 / 8 : ℝ) : EReal) ⟨4 * t.val + 3, ht⟩ r h d := by
  unfold piece3
  rw [show chunkNo (grid0.coords t) 3#32 = BitVec.ofNat 32 (4 * t.val + 3) from chunkNo_eq t 3]
  exact attend_band (n := ⟨4 * t.val + 3, ht⟩) (q := qs m c) (s := ss m c) (k := kk m c) (v := vv m c)
    (Q := ![View.ld (iblk m c 0 t) r0_45, View.ld (iblk m c 0 t) r0_46, View.ld (iblk m c 0 t) r0_47, View.ld (iblk m c 0 t) r0_48, View.ld (iblk m c 0 t) r0_49, View.ld (iblk m c 0 t) r0_50, View.ld (iblk m c 0 t) r0_51, View.ld (iblk m c 0 t) r0_52]) (S := ![View.ld (iblk m c 1 t) r0_6, View.ld (iblk m c 1 t) r0_10, View.ld (iblk m c 1 t) r0_7, View.ld (iblk m c 1 t) r0_11, View.ld (iblk m c 1 t) r0_8, View.ld (iblk m c 1 t) r0_12, View.ld (iblk m c 1 t) r0_9, View.ld (iblk m c 1 t) r0_13, View.ld (iblk m c 1 t) r0_18, View.ld (iblk m c 1 t) r0_22, View.ld (iblk m c 1 t) r0_19, View.ld (iblk m c 1 t) r0_23, View.ld (iblk m c 1 t) r0_20, View.ld (iblk m c 1 t) r0_24, View.ld (iblk m c 1 t) r0_21, View.ld (iblk m c 1 t) r0_25])
    (fun j z _ => stack_rows (k := kk m c) _ _ _ _ _ (fun y z => (ld_16 _ _ _).trans (blk_2 m c t y z)) (fun y z => (ld_64 _ _ _).trans (blk_6 m c t y z))
      (fun y z => (ld_64 _ _ _).trans (blk_7 m c t y z)) (fun y z => (ld_64 _ _ _).trans (blk_8 m c t y z)) j z)
    (fun p r z => queries3 m c t ht p r z) (fun h => sinks_eq m c t h)
    (fun j z _ => stack_rows (k := vv m c) _ _ _ _ _ (fun y z => (ld_16 _ _ _).trans (blk_9 m c t y z)) (fun y z => (ld_64 _ _ _).trans (blk_13 m c t y z))
      (fun y z => (ld_64 _ _ _).trans (blk_14 m c t y z)) (fun y z => (ld_64 _ _ _).trans (blk_15 m c t y z)) j z)
    (fun z => stack_sink _ _ _ _ z) (fun h r => hz _ h r) h r d

theorem at_16 : ∀ t : Fin cfg0.N, win0_16.index t = ![t.val, 0] := (by decide +kernel : ∀ t : Fin grid0.N, win0_16.index t = ![t.val, 0])

/-- A piece's value at a local index is the result at the block's place of it. -/
theorem place (t : Fin cfg0.N) (h : Fin 4) (y : S256x1024.Idx) (x : S64x1024.Idx) (h0 : (y 0).val = 64 * h.val + (x 0).val) (h1 : (y 1).val = (x 1).val)
    (w : EReal) (f : S64x1024.Idx → EReal)
    (hf : ∀ (g : Fin 16) (r d : Fin 64), f (ix2 r ⟨g.val * 64 + d.val, by omega⟩) =
      band (qs m c) (ss m c) (kk m c) (vv m c) ((1 / 8 : ℝ) : EReal) ⟨4 * t.val + h.val, by have : t.val < 32 := t.isLt; omega⟩ r g d)
    (i : S8192x1024.Idx) (hi0 : (i 0).val = 256 * t.val + (y 0).val) (hi1 : (i 1).val = (y 1).val) : f x = result m c i := by
  have hx0 : (x 0).val < 64 := (x 0).isLt
  have hx1 : (x 1).val < 1024 := (x 1).isLt
  have e : x = ix2 ⟨(x 0).val, hx0⟩ ⟨(⟨(x 1).val / 64, by omega⟩ : Fin 16).val * 64 + (⟨(x 1).val % 64, by omega⟩ : Fin 64).val, by simp only; omega⟩ := by
    funext a
    match a with
    | ⟨0, _⟩ => rfl
    | ⟨1, _⟩ => exact Fin.ext (by show (x 1).val = (x 1).val / 64 * 64 + (x 1).val % 64; omega)
  rw [e, hf]
  unfold result
  congr 1
  all_goals exact Fin.ext (by simp only; omega)

include hz in
/-- After the kernel's run the output array is the band attention. -/
theorem array_eq : (dats m 0 c).arrAt 16 cfg0.N = result m c := by
  refine (dats m 0 c).arrAt_eq_of_covers 16 _ (by decide +kernel) fun t hf y => ?_
  have ht : t.val < 32 := t.isLt
  show (dats m 0 c).after 16 t y = _
  rw [after0_16, out_eq]
  have hi0 : ((((cfg0.win 16).blk t).view.emb y) 0).val = 256 * t.val + (y 0).val := by
    show win0_16.index t 0 * 256 + 1 * (y 0).val = _
    rw [at_16]; simp only [Matrix.cons_val_zero]; omega
  have hi1 : ((((cfg0.win 16).blk t).view.emb y) 1).val = (y 1).val := by
    show win0_16.index t 1 * 1024 + 1 * (y 1).val = _
    rw [at_16]; simp
  generalize ((cfg0.win 16).blk t).view.emb y = i at hi0 hi1
  canon_tiles x h
  · exact place m c t 3 y x (by simp at *; omega) (by simp at *; omega) 0 _ (fun g r d => piece3_eq m c hz t (by omega) g r d) i hi0 hi1
  · exact place m c t 2 y x (by simp at *; omega) (by simp at *; omega) 0 _ (fun g r d => piece2_eq m c hz t (by omega) g r d) i hi0 hi1
  · exact place m c t 1 y x (by simp at *; omega) (by simp at *; omega) 0 _ (fun g r d => piece1_eq m c hz t (by omega) g r d) i hi0 hi1
  · exact place m c t 0 y x (by simp at *; omega) (by simp at *; omega) 0 _ (fun g r d => piece0_eq m c hz t (by omega) g r d) i hi0 hi1

end Cert.Band
-- ==== Proof.Assemble.lean ====
module

public import proofs.«01_k».proof.Proof.Result
public import proofs.«01_k».proof.Defs
public import proofs.«01_k».proof.Proof.Gen.Pre_finite_scores
public import proofs.«01_k».proof.Proof.Gen.ReferenceIdeal.Run
public import Idealize.ShloMosaic.Adequacy
public import Idealize.ShloMosaic.Init

@[expose] public section

set_option maxRecDepth 16384
set_option backward.proofsInPublic true

noncomputable section

namespace Cert.Band

open Cert.KernelIdeal Cert.KernelIdeal.Gen Idealize.ShloMosaic Idealize.ShloMosaic.TcCoe Idealize.SL.Sem

theorem posInf : Ideal.ofBits .f32 0x7F800000#32 = ⊤ := by
  simp [Ideal.ofBits, Ideal.ieee]

/-- A number whose absolute value is below +∞ is finite. -/
theorem finite_of_lt (x : EReal) (h : FloatOps.cmpf (F := Ideal) (φ := .f32) .olt (FloatOps.absf (F := Ideal) (φ := .f32) x) (Ideal.ofBits .f32 0x7F800000#32) = 1#1) :
    x ≠ ⊥ ∧ x ≠ ⊤ := by
  rw [posInf] at h
  constructor
  · rintro rfl
    revert h
    show ¬ Ideal.cmp .olt (max ⊥ (-⊥)) ⊤ = 1#1
    simp [Ideal.cmp]
  · rintro rfl
    revert h
    show ¬ Ideal.cmp .olt (max ⊤ (-⊤)) ⊤ = 1#1
    simp [Ideal.cmp]

theorem real_of_ne {x : EReal} (h : x ≠ ⊥ ∧ x ≠ ⊤) : ∃ r : ℝ, x = r := by
  lift x to ℝ using ⟨h.2, h.1⟩
  exact ⟨x, rfl⟩

section

variable (m : (ℓ : Loc nD τ sig) → Buf (Elt Ideal) ℓ)

/-- Under the precondition no row's sum of weights is zero. -/
theorem mass_of_pre (hp : Cert.Pre_KernelIdeal_finite_scores m) (c : Dev nD) (n : Fin 128) (h : Fin 16) (r : Fin 64) :
    mass (ss m c h) (logits (qs m c) (kk m c) ((1 / 8 : ℝ) : EReal) n r h) ≠ 0 := by
  obtain ⟨h0, h1, h2⟩ := hp c
  have hs := finite_of_lt (ss m c h) (congrFun h1 (ix1 h))
  exact mass_ne_zero hs.1 hs.2 fun j => logits_ne_top (fun i j => real_of_ne (finite_of_lt _ (congrFun h0 (ix2 i j))))
    (fun i j => real_of_ne (finite_of_lt _ (congrFun h2 (ix2 i j)))) n r h j

/-- The reference's result is the band attention of the same arguments. -/
theorem reference_eq (hp : Cert.Pre_KernelIdeal_finite_scores m) (c : Dev nD) :
    Cert.ReferenceIdeal.Read.val_main_v70 (F := Ideal) (m ((c : Thread nD τ).loc main_arg0)) (m ((c : Thread nD τ).loc main_arg1))
      (m ((c : Thread nD τ).loc main_arg2)) (m ((c : Thread nD τ).loc main_arg3)) = result m c := by
  funext i
  have h0 : (i 0).val < 8192 := (i 0).isLt
  have h1 : (i 1).val < 1024 := (i 1).isLt
  have e : i = ix2 ⟨64 * (⟨(i 0).val / 64, by omega⟩ : Fin 128).val + (⟨(i 0).val % 64, by omega⟩ : Fin 64).val, by simp only; omega⟩
      ⟨(⟨(i 1).val / 64, by omega⟩ : Fin 16).val * 64 + (⟨(i 1).val % 64, by omega⟩ : Fin 64).val, by simp only; omega⟩ := by
    funext a
    match a with
    | ⟨0, _⟩ => exact Fin.ext (by show (i 0).val = 64 * ((i 0).val / 64) + (i 0).val % 64; omega)
    | ⟨1, _⟩ => exact Fin.ext (by show (i 1).val = (i 1).val / 64 * 64 + (i 1).val % 64; omega)
  refine (congrArg _ e).trans ?_
  exact ref_apply _ _ _ _ ⟨(i 0).val / 64, by omega⟩ ⟨(i 1).val / 64, by omega⟩ ⟨(i 0).val % 64, by omega⟩ ⟨(i 1).val % 64, by omega⟩
    (mass_of_pre m hp c _ _ _)

end

/-- The kernel and the reference give the same array. -/
theorem band_attention : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hp hag
  refine ⟨fun c => result m c, ?_, ?_⟩
  · exact (θ_run _ _ _).mono (fun _ h c => ⟨(h c).1.trans (array_eq m c (mass_of_pre m hp c)), (h c).2⟩) (Cert.KernelIdeal.Value.run_blocks m g)
  · refine (θ_run _ _ _).mono (fun _ h c => ⟨(h c).1.trans ?_, (h c).2⟩) (Cert.ReferenceIdeal.Value.run m' g')
    obtain ⟨e0, e1, e2, e3⟩ := hag c
    rw [Cert.ReferenceIdeal.Read.val_main_v70_eq, e0, e1, e2, e3]
    exact reference_eq m hp c

/-- The reference declares no counter at all. -/
theorem reference_counters (f : GSem Cert.ReferenceIdeal.nD Cert.ReferenceIdeal.τ Cert.ReferenceIdeal.sig → Int) : f = fun _ => 0 := by
  funext s
  obtain ⟨_, s | s⟩ := s
  · exact Fin.elim0 s
  · exact Fin.elim0 s

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun _ h => ⟨fun c => (h c).2, reference_counters _⟩) (Cert.ReferenceIdeal.Value.run m g)

end Cert.Band
-- ==== Proof.FfnSpec.lean ====
/- The feed-forward layer with a causal convolution of its gate, written at an index. -/
module

public import Idealize.ShloMosaic.Lib.Pointwise

@[expose] public section

noncomputable section

namespace Cert.Feed

open Idealize.ShloMosaic

/-- One over the root of the mean square of a row, a small number added to the mean. -/
def scale (x : Fin 2048 → EReal) : EReal :=
  Ideal.rsqrt (Ideal.div (∑ k, x k * x k) (Ideal.ofBits .f32 0x45000000#32) + Ideal.ofBits .f32 0x358637BD#32)

/-- A row over its root mean square, times the weights `g`. -/
def normed (x g : Fin 2048 → EReal) (k : Fin 2048) : EReal := x k * scale x * g k

/-- The hyperbolic tangent form of the Gaussian error linear unit. -/
def gelu (z : EReal) : EReal :=
  Ideal.ofBits .f32 0x3F000000#32 * z * (1 + Ideal.tanh (Ideal.ofBits .f32 0x3F4C422A#32 * (z + Ideal.ofBits .f32 0x3D372713#32 * z * z * z)))

section
variable (x : Fin 8208 → Fin 2048 → EReal) (g : Fin 2048 → EReal) (wu : Fin 2048 → Fin 12288 → EReal)
  (cw : Fin 3 → Fin 6144 → EReal) (cb : Fin 6144 → EReal) (wd : Fin 6144 → Fin 2048 → EReal) (gp : Fin 2048 → EReal)

/-- Row `r` of the normed input against column `n` of the up projection. -/
def up (r : Fin 8208) (n : Fin 12288) : EReal := ∑ k, normed (x r) g k * wu k n

/-- The gate's column `n`. -/
def gate (r : Fin 8208) (n : Fin 6144) : EReal := up x g wu r ⟨n.val, by omega⟩

/-- The value's column `n`. -/
def val (r : Fin 8208) (n : Fin 6144) : EReal := up x g wu r ⟨6144 + n.val, by omega⟩

/-- The convolution of the gate over three rows, at frame `r` (sixteen rows stand before the frames). -/
def conv (r : Fin 8192) (n : Fin 6144) : EReal :=
  cb n + gate x g wu ⟨14 + r.val, by omega⟩ n * cw 0 n + gate x g wu ⟨15 + r.val, by omega⟩ n * cw 1 n + gate x g wu ⟨16 + r.val, by omega⟩ n * cw 2 n

/-- The hidden layer at frame `r`. -/
def hidden (r : Fin 8192) (n : Fin 6144) : EReal := gelu (conv x g wu cw cb r n) * val x g wu ⟨16 + r.val, by omega⟩ n

/-- The down projection. -/
def down (r : Fin 8192) (d : Fin 2048) : EReal := ∑ n, hidden x g wu cw cb r n * wd n d

/-- The layer's result: the input plus the normed down projection. -/
def layer (r : Fin 8192) (d : Fin 2048) : EReal := x ⟨16 + r.val, by omega⟩ d + normed (down x g wu cw cb wd r) gp d

end

/-- Twelve groups of 512 columns are the 6144 columns. -/
theorem sum_groups (f : Fin 6144 → EReal) :
    ∑ j : Fin 12, ∑ n : Fin 512, f ⟨512 * j.val + n.val, by omega⟩ = ∑ n, f n := by
  rw [← Fintype.sum_prod_type']
  refine Fintype.sum_equiv (finProdFinEquiv (m := 12) (n := 512)) _ f fun p => congrArg f (Fin.ext ?_)
  show 512 * p.1.val + p.2.val = p.2.val + 512 * p.1.val
  omega

end Cert.Feed
-- ==== Proof.FfnCase.lean ====
/- What one grid point of the feed-forward kernel leaves in its buffers. -/
module

public import proofs.«01_k».proof.Proof.Gen.FfnIdeal.Value
public import Idealize.ShloMosaic.Lib.Pipeline.ValueKit
public import Idealize.ShloMosaic.Lib.VecWindow

@[expose] public section

set_option maxRecDepth 16384

noncomputable section

namespace Cert.Feed

open Cert.FfnIdeal Cert.FfnIdeal.Gen Idealize.ShloMosaic Idealize.ShloMosaic.TcCoe

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- One row of the convolution's weights. -/
def tap (w : Vec F S3x512 .f32) (k : ℕ) (h : ∀ a, (![k, 0] : Fin 2 → Nat) a + S1x512.size a ≤ S3x512.size a) : Vec F S1x512 .f32 :=
  View.ld w (Rect.unit (s := S3x512) ![k, 0] S1x512.size h)

/-- What one grid point adds to the output block: a group of 512 hidden columns, made from the normalized rows `h`, times its rows of
    the second weight. -/
def step (h : Vec F S1040x2048 .bf16) (wg wv : Vec F S2048x512 .bf16) (wd : Vec F S512x2048 .bf16) (cw : Vec F S3x512 .f32)
    (cb : Vec F S1x512 .f32) (acc : Vec F S1024x2048 .f32) : Vec F S1024x2048 .f32 :=
  k0_pay1 (k0_pay8 h wv)
    (k0_pay10 h wg cb (tap cw 0 inb_S3x512_S1x512_0_0) (tap cw 1 inb_S3x512_S1x512_1_0) (tap cw 2 inb_S3x512_S1x512_2_0))
    (k0_pay11 h wg cb (tap cw 0 inb_S3x512_S1x512_0_0) (tap cw 1 inb_S3x512_S1x512_1_0) (tap cw 2 inb_S3x512_S1x512_2_0))
    (k0_pay12 h wg cb (tap cw 0 inb_S3x512_S1x512_0_0) (tap cw 1 inb_S3x512_S1x512_1_0) (tap cw 2 inb_S3x512_S1x512_2_0)) acc wd

/-- The normalized rows a block keeps: the sixteen rows before it, then its own. -/
def rows0 (x : Vec F S1024x2048 .f32) (halo : Vec F S16x2048 .f32) (g : Vec F S1x2048 .f32) : Vec F S1040x2048 .bf16 :=
  View.canon [⟨Rect.unit (s := S1040x2048) ![16, 0] S1024x2048.size inb_S1040x2048_S1024x2048_16_0, k0_pay5 x g⟩,
    ⟨Rect.unit (s := S1040x2048) ![0, 0] S16x2048.size inb_S1040x2048_S16x2048_0_0, k0_pay4 halo g⟩]

/-- Reading a whole buffer back gives what was written to it. -/
theorem whole_load (v : View sig .tc .vmem S1040x2048 .bf16) (L : List (View.Piece (Elt F) S1040x2048 .bf16))
    (inb : ∀ a, (![0, 0] : Fin 2 → ℕ) a + S1040x2048.size a ≤ S1040x2048.size a) :
    v.readCov L (Rect.unit (s := S1040x2048) ![0, 0] S1040x2048.size inb).toLoadRect = View.canon L :=
  (View.readCov_eq_canon' v L _).trans (View.ld_unit_zero (S := S1040x2048) zero2 inb (View.canon L))

section
variable (c : Dev nD) (i : grid0.Coords)
  (a2 : Memref sig .tc .vmem S1024x2048 .f32) (h2 : a2.IsWhole)
  (a3 : Memref sig .tc .vmem S16x2048 .f32) (h3 : a3.IsWhole)
  (a4 : Memref sig .tc .vmem S1x2048 .f32) (h4 : a4.IsWhole)
  (a5 : Memref sig .tc .vmem S2048x512 .bf16) (h5 : a5.IsWhole)
  (a6 : Memref sig .tc .vmem S2048x512 .bf16) (h6 : a6.IsWhole)
  (a7 : Memref sig .tc .vmem S512x2048 .bf16) (h7 : a7.IsWhole)
  (a8 : Memref sig .tc .vmem S3x512 .f32) (h8 : a8.IsWhole)
  (a9 : Memref sig .tc .vmem S1x512 .f32) (h9 : a9.IsWhole)
  (a10 : Memref sig .tc .vmem S1x2048 .f32) (h10 : a10.IsWhole)
  (a11 : Memref sig .tc .vmem S1024x2048 .f32) (h11 : a11.IsWhole)
  (a12 : Memref sig .tc .vmem S1x8x512 .f32) (h12 : a12.IsWhole)
  (a13 : Memref sig .tc .vmem S1040x2048 .bf16) (h13 : a13.IsWhole)
  (x0 : Vec F S1024x2048 .f32) (x1 : Vec F S16x2048 .f32) (x2 : Vec F S1x2048 .f32) (x3 : Vec F S2048x512 .bf16) (x4 : Vec F S2048x512 .bf16) (x5 : Vec F S512x2048 .bf16) (x6 : Vec F S3x512 .f32) (x7 : Vec F S1x512 .f32) (x8 : Vec F S1x2048 .f32)
  (acc : Vec F S1024x2048 .f32) (hid : Vec F S1040x2048 .bf16)

/-- At the first point of a row block the kept rows are made, and the sum starts from nothing. -/
theorem out_A (n0 : cond0_0 i) (n1 : ¬cond0_1 i) :
    out0_A_9 c i a2 h2 a3 h3 a4 h4 a5 h5 a6 h6 a7 h7 a8 h8 a9 h9 a10 h10 a11 h11 a12 h12 a13 h13 n0 n1 x0 x1 x2 x3 x4 x5 x6 x7 x8 = step (rows0 x0 x1 x2) x3 x4 x5 x6 x7 k0_pay6 := by
  unfold out0_A_9
  rw [View.read_writes_eq_canon _ _ _ (fun y => cover0_A_9 (y := y) ..)]
  unfold kernelRun0_A
  dsimp only
  sl_unfold_words
  rw [View.canon_cons_unit_zero zero2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x2048) zero2, View.ld_unit_zero (S := S16x2048) zero2, View.ld_unit_zero (S := S1x2048) zero2, View.ld_unit_zero (S := S2048x512) zero2, View.ld_unit_zero (S := S512x2048) zero2, View.ld_unit_zero (S := S1x512) zero2, View.ld_unit_zero (S := S1040x2048) zero2]
  rw [View.readCov_full]
  rw [whole_load]
  rfl

/-- At a middle point the group is added to the sum. -/
theorem out_B (n0 : ¬cond0_0 i) (n1 : ¬cond0_1 i) :
    out0_B_9 c i a2 h2 a3 h3 a4 h4 a5 h5 a6 h6 a7 h7 a8 h8 a9 h9 a10 h10 a11 h11 a12 h12 a13 h13 n0 n1 x0 x1 x2 x3 x4 x5 x6 x7 x8 acc hid = step hid x3 x4 x5 x6 x7 acc := by
  unfold out0_B_9
  rw [View.read_writes_eq_canon _ _ _ (fun y => cover0_B_9 (y := y) ..)]
  unfold kernelRun0_B
  dsimp only
  sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x2048) zero2, View.ld_unit_zero (S := S16x2048) zero2, View.ld_unit_zero (S := S1x2048) zero2, View.ld_unit_zero (S := S2048x512) zero2, View.ld_unit_zero (S := S512x2048) zero2, View.ld_unit_zero (S := S1x512) zero2, View.ld_unit_zero (S := S1040x2048) zero2]
  rfl

/-- At the last point the group is added, and the whole sum is normalized and added to the block. -/
theorem out_C (n0 : ¬cond0_0 i) (n1 : cond0_1 i) :
    out0_C_9 c i a2 h2 a3 h3 a4 h4 a5 h5 a6 h6 a7 h7 a8 h8 a9 h9 a10 h10 a11 h11 a12 h12 a13 h13 n0 n1 x0 x1 x2 x3 x4 x5 x6 x7 x8 acc hid = k0_pay3 x0 (step hid x3 x4 x5 x6 x7 acc) x8 := by
  unfold out0_C_9
  rw [View.read_writes_eq_canon _ _ _ (fun y => cover0_C_9 (y := y) ..)]
  unfold kernelRun0_C
  dsimp only
  sl_unfold_words
  rw [View.canon_cons_unit_zero zero2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x2048) zero2, View.ld_unit_zero (S := S16x2048) zero2, View.ld_unit_zero (S := S1x2048) zero2, View.ld_unit_zero (S := S2048x512) zero2, View.ld_unit_zero (S := S512x2048) zero2, View.ld_unit_zero (S := S1x512) zero2, View.ld_unit_zero (S := S1040x2048) zero2]
  congr 1
  rw [View.readCov_full]
  rfl

/-- The last rows of the gate, from the rows just made. -/
theorem tail_A (n0 : cond0_0 i) (n1 : ¬cond0_1 i) :
    out0_A_10 c i a2 h2 a3 h3 a4 h4 a5 h5 a6 h6 a7 h7 a8 h8 a9 h9 a10 h10 a11 h11 a12 h12 a13 h13 n0 n1 x0 x1 x2 x3 x4 x5 x6 x7 x8 = k0_pay2 (k0_pay9 (rows0 x0 x1 x2) x3) := by
  unfold out0_A_10
  rw [View.read_writes_eq_canon _ _ _ (fun y => cover0_A_10 (y := y) ..)]
  unfold kernelRun0_A
  dsimp only
  sl_unfold_words
  rw [View.canon_unit_zero zero3]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x2048) zero2, View.ld_unit_zero (S := S16x2048) zero2, View.ld_unit_zero (S := S1x2048) zero2, View.ld_unit_zero (S := S2048x512) zero2, View.ld_unit_zero (S := S512x2048) zero2, View.ld_unit_zero (S := S1x512) zero2, View.ld_unit_zero (S := S1040x2048) zero2]
  rw [whole_load]
  rfl

/-- The last rows of the gate, from the kept rows. -/
theorem tail_B (n0 : ¬cond0_0 i) (n1 : ¬cond0_1 i) :
    out0_B_10 c i a2 h2 a3 h3 a4 h4 a5 h5 a6 h6 a7 h7 a8 h8 a9 h9 a10 h10 a11 h11 a12 h12 a13 h13 n0 n1 x0 x1 x2 x3 x4 x5 x6 x7 x8 acc hid = k0_pay2 (k0_pay9 hid x3) := by
  unfold out0_B_10
  rw [View.read_writes_eq_canon _ _ _ (fun y => cover0_B_10 (y := y) ..)]
  unfold kernelRun0_B
  dsimp only
  sl_unfold_words
  rw [View.canon_unit_zero zero3]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x2048) zero2, View.ld_unit_zero (S := S16x2048) zero2, View.ld_unit_zero (S := S1x2048) zero2, View.ld_unit_zero (S := S2048x512) zero2, View.ld_unit_zero (S := S512x2048) zero2, View.ld_unit_zero (S := S1x512) zero2, View.ld_unit_zero (S := S1040x2048) zero2]

/-- The same at the last point. -/
theorem tail_C (n0 : ¬cond0_0 i) (n1 : cond0_1 i) :
    out0_C_10 c i a2 h2 a3 h3 a4 h4 a5 h5 a6 h6 a7 h7 a8 h8 a9 h9 a10 h10 a11 h11 a12 h12 a13 h13 n0 n1 x0 x1 x2 x3 x4 x5 x6 x7 x8 acc hid = k0_pay2 (k0_pay9 hid x3) := by
  unfold out0_C_10
  rw [View.read_writes_eq_canon _ _ _ (fun y => cover0_C_10 (y := y) ..)]
  unfold kernelRun0_C
  dsimp only
  sl_unfold_words
  rw [View.canon_unit_zero zero3]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x2048) zero2, View.ld_unit_zero (S := S16x2048) zero2, View.ld_unit_zero (S := S1x2048) zero2, View.ld_unit_zero (S := S2048x512) zero2, View.ld_unit_zero (S := S512x2048) zero2, View.ld_unit_zero (S := S1x512) zero2, View.ld_unit_zero (S := S1040x2048) zero2]

/-- The rows kept at the first point. -/
theorem kept_A (n0 : cond0_0 i) (n1 : ¬cond0_1 i) :
    sout0_A_0 c i a2 h2 a3 h3 a4 h4 a5 h5 a6 h6 a7 h7 a8 h8 a9 h9 a10 h10 a11 h11 a12 h12 a13 h13 n0 n1 x0 x1 x2 x3 x4 x5 x6 x7 x8 = rows0 x0 x1 x2 := by
  unfold sout0_A_0
  rw [View.read_writes_eq_canon _ _ _ (fun y => scover0_A_0 (y := y) ..)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x2048) zero2, View.ld_unit_zero (S := S16x2048) zero2, View.ld_unit_zero (S := S1x2048) zero2, View.ld_unit_zero (S := S2048x512) zero2, View.ld_unit_zero (S := S512x2048) zero2, View.ld_unit_zero (S := S1x512) zero2, View.ld_unit_zero (S := S1040x2048) zero2]
  rfl

end

end Cert.Feed

end
-- ==== Proof.FfnRead.lean ====
/- The feed-forward kernel's arithmetic at an index, at the ideal instance. -/
module

public import proofs.«01_k».proof.Proof.FfnSpec
public import proofs.«01_k».proof.Proof.FfnCase

@[expose] public section

set_option maxRecDepth 16384
set_option backward.proofsInPublic true

noncomputable section

namespace Cert.Feed

open Cert.FfnIdeal Cert.FfnIdeal.Gen Idealize.ShloMosaic

/-- The sixteen rows before a block, normalized. -/
theorem pay4_apply (x : Vec Ideal S16x2048 .f32) (g : Vec Ideal S1x2048 .f32) (y : Fin 16) (k : Fin 2048) :
    k0_pay4 x g (ix2 y k) = normed (fun i => x (ix2 y i)) (fun i => g (ix2 0 i)) k := by
  pointwise [k0_pay4]
  rfl

/-- The block's own rows, normalized. -/
theorem pay5_apply (x : Vec Ideal S1024x2048 .f32) (g : Vec Ideal S1x2048 .f32) (y : Fin 1024) (k : Fin 2048) :
    k0_pay5 x g (ix2 y k) = normed (fun i => x (ix2 y i)) (fun i => g (ix2 0 i)) k := by
  pointwise [k0_pay5]
  rfl

/-- The last point's write: the block plus the normalized sum. -/
theorem pay3_apply (x acc : Vec Ideal S1024x2048 .f32) (g : Vec Ideal S1x2048 .f32) (y : Fin 1024) (k : Fin 2048) :
    k0_pay3 x acc g (ix2 y k) = x (ix2 y k) + normed (fun i => acc (ix2 y i)) (fun i => g (ix2 0 i)) k := by
  pointwise [k0_pay3]
  rfl

/-- The sum starts at zero. -/
theorem pay6_apply (y : Fin 1024) (k : Fin 2048) : (k0_pay6 (F := Ideal)) (ix2 y k) = 0 := by
  pointwise [k0_pay6]

/-- Row `r` of the kept rows against column `n` of a weight's group. -/
def colsum (h : Vec Ideal S1040x2048 .bf16) (w : Vec Ideal S2048x512 .bf16) (r : Fin 1040) (n : Fin 512) : EReal :=
  ∑ k : Fin 2048, h (ix2 r k) * w (ix2 k n)

theorem pay8_apply (h : Vec Ideal S1040x2048 .bf16) (w : Vec Ideal S2048x512 .bf16) (y : Fin 1024) (n : Fin 512) :
    k0_pay8 h w (ix2 y n) = colsum h w ⟨16 + y.val, by omega⟩ n := by
  pointwise [k0_pay8]
  rfl

/-- The convolution of three rows of the gate. -/
def mixed (h : Vec Ideal S1040x2048 .bf16) (w : Vec Ideal S2048x512 .bf16) (b c0 c1 c2 : Vec Ideal S1x512 .f32) (y : Fin 1024) (n : Fin 512) : EReal :=
  b (ix2 0 n) + colsum h w ⟨14 + y.val, by omega⟩ n * c0 (ix2 0 n) + colsum h w ⟨15 + y.val, by omega⟩ n * c1 (ix2 0 n)
    + colsum h w ⟨16 + y.val, by omega⟩ n * c2 (ix2 0 n)

theorem pay10_apply (h : Vec Ideal S1040x2048 .bf16) (w : Vec Ideal S2048x512 .bf16) (b c0 c1 c2 : Vec Ideal S1x512 .f32) (y : Fin 1024) (n : Fin 512) :
    k0_pay10 h w b c0 c1 c2 (ix2 y n) = mixed h w b c0 c1 c2 y n := by
  pointwise [k0_pay10, k0_pay9, k0_pay7]
  have e2 : (16 + y.val + 1040 - 2) % 1040 = 14 + y.val := by omega
  have e1 : (16 + y.val + 1040 - 1) % 1040 = 15 + y.val := by omega
  simp only [e2, e1]
  rfl

theorem pay11_apply (h : Vec Ideal S1040x2048 .bf16) (w : Vec Ideal S2048x512 .bf16) (b c0 c1 c2 : Vec Ideal S1x512 .f32) (y : Fin 1024) (n : Fin 512) :
    k0_pay11 h w b c0 c1 c2 (ix2 y n) = Ideal.ofBits .f32 0x3F000000#32 * mixed h w b c0 c1 c2 y n := by
  rw [← pay10_apply]
  pointwise [k0_pay11]

theorem pay12_apply (h : Vec Ideal S1040x2048 .bf16) (w : Vec Ideal S2048x512 .bf16) (b c0 c1 c2 : Vec Ideal S1x512 .f32) (y : Fin 1024) (n : Fin 512) :
    k0_pay12 h w b c0 c1 c2 (ix2 y n) = Ideal.ofBits .f32 0x3D372713#32 * mixed h w b c0 c1 c2 y n := by
  rw [← pay10_apply]
  pointwise [k0_pay12]

theorem pay1_apply (v10 v30 v32 v34 : Vec Ideal S1024x512 .f32) (acc : Vec Ideal S1024x2048 .f32) (w : Vec Ideal S512x2048 .bf16) (y : Fin 1024) (k : Fin 2048) :
    k0_pay1 v10 v30 v32 v34 acc w (ix2 y k) = acc (ix2 y k) + ∑ n : Fin 512, v32 (ix2 y n) * (1 + Ideal.tanh (Ideal.ofBits .f32 0x3F4C422A#32 *
      (v30 (ix2 y n) + v34 (ix2 y n) * v30 (ix2 y n) * v30 (ix2 y n)))) * v10 (ix2 y n) * w (ix2 n k) := by
  pointwise [k0_pay1]

theorem tap_apply (w : Vec Ideal S3x512 .f32) (k : Fin 3) (h : ∀ a, (![k.val, 0] : Fin 2 → Nat) a + S1x512.size a ≤ S3x512.size a) (n : Fin 512) :
    tap w k.val h (ix2 0 n) = w (ix2 k n) := by
  unfold tap
  refine congrArg w (funext fun a => ?_)
  match a with
  | ⟨0, _⟩ => exact Fin.ext (by simp)
  | ⟨1, _⟩ => exact Fin.ext (by simp)

/-- A grid point's step: the group's hidden columns against its rows of the second weight, added. -/
theorem step_apply (h : Vec Ideal S1040x2048 .bf16) (wg wv : Vec Ideal S2048x512 .bf16) (wd : Vec Ideal S512x2048 .bf16) (cw : Vec Ideal S3x512 .f32)
    (cb : Vec Ideal S1x512 .f32) (acc : Vec Ideal S1024x2048 .f32) (y : Fin 1024) (k : Fin 2048) :
    step h wg wv wd cw cb acc (ix2 y k) = acc (ix2 y k) + ∑ n : Fin 512,
      gelu (cb (ix2 0 n) + colsum h wg ⟨14 + y.val, by omega⟩ n * cw (ix2 0 n) + colsum h wg ⟨15 + y.val, by omega⟩ n * cw (ix2 1 n)
        + colsum h wg ⟨16 + y.val, by omega⟩ n * cw (ix2 2 n)) * colsum h wv ⟨16 + y.val, by omega⟩ n * wd (ix2 n k) := by
  unfold step
  rw [pay1_apply]
  refine congrArg _ (Finset.sum_congr rfl fun n _ => ?_)
  rw [pay8_apply, pay10_apply, pay11_apply, pay12_apply]
  unfold mixed gelu
  have t0 : tap cw 0 inb_S3x512_S1x512_0_0 (ix2 0 n) = cw (ix2 0 n) := tap_apply cw 0 _ n
  have t1 : tap cw 1 inb_S3x512_S1x512_1_0 (ix2 0 n) = cw (ix2 1 n) := tap_apply cw 1 _ n
  have t2 : tap cw 2 inb_S3x512_S1x512_2_0 (ix2 0 n) = cw (ix2 2 n) := tap_apply cw 2 _ n
  rw [t0, t1, t2]

/-- The last eight rows of the gate. -/
theorem tail_apply (h : Vec Ideal S1040x2048 .bf16) (w : Vec Ideal S2048x512 .bf16) (s : Fin 8) (n : Fin 512) :
    k0_pay2 (k0_pay9 h w) (ix3 0 s n) = colsum h w ⟨1032 + s.val, by omega⟩ n := by
  pointwise [k0_pay2, k0_pay9, k0_pay7]
  unfold colsum
  refine Finset.sum_congr rfl fun k _ => ?_
  congr 3
  all_goals (try exact Fin.ext (by simp; omega))

section
variable (w : S1024x2048.Idx → Elt Ideal .bf16) (v : S16x2048.Idx → Elt Ideal .bf16)

/-- Two writes, of the block's rows and of the sixteen before them. -/
abbrev twoWrites : List (View.Piece (Elt Ideal) S1040x2048 .bf16) :=
  [⟨Rect.unit (s := S1040x2048) ![16, 0] S1024x2048.size inb_S1040x2048_S1024x2048_16_0, w⟩,
    ⟨Rect.unit (s := S1040x2048) ![0, 0] S16x2048.size inb_S1040x2048_S16x2048_0_0, v⟩]

/-- The rows of the first. -/
theorem twoWrites_own (y : Fin 1024) (k : Fin 2048) : View.canon (twoWrites w v) (ix2 ⟨16 + y.val, by omega⟩ k) = w (ix2 y k) := by
  have e : (ix2 ⟨16 + y.val, by omega⟩ k : S1040x2048.Idx)
      = (Rect.unit (s := S1040x2048) ![16, 0] S1024x2048.size inb_S1040x2048_S1024x2048_16_0).emb (ix2 y k : S1024x2048.Idx) := by
    funext a
    match a with
    | ⟨0, _⟩ => exact Fin.ext (by show 16 + y.val = 16 + 1 * y.val; omega)
    | ⟨1, _⟩ => exact Fin.ext (by show k.val = 0 + 1 * k.val; omega)
  rw [e, View.canon_cons]
  exact Rect.overlay_emb _ _ _ _

/-- The rows of the second. -/
theorem twoWrites_halo (y : Fin 16) (k : Fin 2048) : View.canon (twoWrites w v) (ix2 ⟨y.val, by omega⟩ k) = v (ix2 y k) := by
  have e : (ix2 ⟨y.val, by omega⟩ k : S1040x2048.Idx)
      = (Rect.unit (s := S1040x2048) ![0, 0] S16x2048.size inb_S1040x2048_S16x2048_0_0).emb (ix2 y k : S16x2048.Idx) := by
    funext a
    match a with
    | ⟨0, _⟩ => exact Fin.ext (by show y.val = 0 + 1 * y.val; omega)
    | ⟨1, _⟩ => exact Fin.ext (by show k.val = 0 + 1 * k.val; omega)
  have hm : (ix2 ⟨y.val, by omega⟩ k : S1040x2048.Idx) ∉
      (Rect.unit (s := S1040x2048) ![16, 0] S1024x2048.size inb_S1040x2048_S1024x2048_16_0).set := by
    rw [Rect.mem_set_unit]
    intro h
    have h1 : 16 ≤ y.val := (h (0 : Fin 2)).1
    omega
  rw [View.canon_cons_of_not_mem ⟨Rect.unit (s := S1040x2048) ![16, 0] S1024x2048.size inb_S1040x2048_S1024x2048_16_0, w⟩ _ hm, e, View.canon_cons]
  exact Rect.overlay_emb _ _ _ _

end

/-- The kept rows: the block's own. -/
theorem rows0_own (x : Vec Ideal S1024x2048 .f32) (halo : Vec Ideal S16x2048 .f32) (g : Vec Ideal S1x2048 .f32) (y : Fin 1024) (k : Fin 2048) :
    rows0 x halo g (ix2 ⟨16 + y.val, by omega⟩ k) = normed (fun i => x (ix2 y i)) (fun i => g (ix2 0 i)) k :=
  (twoWrites_own (k0_pay5 x g) (k0_pay4 halo g) y k).trans (pay5_apply x g y k)

/-- The kept rows: the sixteen before the block. -/
theorem rows0_halo (x : Vec Ideal S1024x2048 .f32) (halo : Vec Ideal S16x2048 .f32) (g : Vec Ideal S1x2048 .f32) (y : Fin 16) (k : Fin 2048) :
    rows0 x halo g (ix2 ⟨y.val, by omega⟩ k) = normed (fun i => halo (ix2 y i)) (fun i => g (ix2 0 i)) k :=
  (twoWrites_halo (k0_pay5 x g) (k0_pay4 halo g) y k).trans (pay4_apply halo g y k)

end Cert.Feed
-- ==== Proof.FfnBlocks.lean ====
/- The blocks the feed-forward kernel's grid points read, at an index. -/
module

public import proofs.«01_k».proof.Proof.Gen.FfnIdeal.Value
public import Idealize.ShloMosaic.Lib.Pipeline.ValueKit
public import Idealize.ShloMosaic.Lib.Pointwise

@[expose] public section

set_option maxRecDepth 16384
set_option backward.proofsInPublic true

noncomputable section

namespace Cert.Feed

open Cert.FfnIdeal Cert.FfnIdeal.Gen Idealize.ShloMosaic Idealize.ShloMosaic.TcCoe

variable (m : (ℓ : Loc nD τ sig) → Buf (Elt Ideal) ℓ) (c : Dev nD)

/-- The row block of a grid point. -/
theorem row_lt (t : Fin cfg0.N) : t.val / 12 < 8 := by
  have : t.val < 96 := t.isLt
  omega

/-- The column group of a grid point. -/
theorem col_lt (t : Fin cfg0.N) : t.val % 12 < 12 := Nat.mod_lt _ (by decide)

theorem fat_0 : ∀ t : Fin cfg0.N, win0_0.index t = ![16 + 1024 * (t.val / 12), 0] :=
  (by decide +kernel : ∀ t : Fin grid0.N, win0_0.index t = ![16 + 1024 * (t.val / 12), 0])

/-- A row block of the input. -/
theorem fblk_0 (t : Fin cfg0.N) (y : Fin 1024) (z : Fin 2048) :
    iblk m c 0 t (ix2 y z) = m ((c : Thread nD τ).loc main_arg0) (ix2 ⟨16 + 1024 * (t.val / 12) + y.val, by have := row_lt t; omega⟩ z) := by
  unfold iblk
  rw [View.read_apply]
  refine (congrFun (V_main_arg0 m c) _).trans (congrArg _ ?_)
  funext a
  match a with
  | ⟨0, _⟩ => exact Fin.ext (by show win0_0.index t 0 + 1 * y.val = _; rw [fat_0]; simp <;> omega)
  | ⟨1, _⟩ => exact Fin.ext (by show win0_0.index t 1 + 1 * z.val = _; rw [fat_0]; simp <;> omega)

theorem fat_1 : ∀ t : Fin cfg0.N, win0_1.index t = ![64 * (t.val / 12), 0] :=
  (by decide +kernel : ∀ t : Fin grid0.N, win0_1.index t = ![64 * (t.val / 12), 0])

/-- The sixteen rows before it. -/
theorem fblk_1 (t : Fin cfg0.N) (y : Fin 16) (z : Fin 2048) :
    iblk m c 1 t (ix2 y z) = m ((c : Thread nD τ).loc main_arg0) (ix2 ⟨1024 * (t.val / 12) + y.val, by have := row_lt t; omega⟩ z) := by
  unfold iblk
  rw [View.read_apply]
  refine (congrFun (V_main_arg0 m c) _).trans (congrArg _ ?_)
  funext a
  match a with
  | ⟨0, _⟩ => exact Fin.ext (by show win0_1.index t 0 * 16 + 1 * y.val = _; rw [fat_1]; simp <;> omega)
  | ⟨1, _⟩ => exact Fin.ext (by show win0_1.index t 1 * 2048 + 1 * z.val = _; rw [fat_1]; simp <;> omega)

theorem fat_2 : ∀ t : Fin cfg0.N, win0_2.index t = ![0, 0] :=
  (by decide +kernel : ∀ t : Fin grid0.N, win0_2.index t = ![0, 0])

/-- The first norm's weights. -/
theorem fblk_2 (t : Fin cfg0.N) (z : Fin 2048) :
    iblk m c 2 t (ix2 0 z) = m ((c : Thread nD τ).loc main_arg1) (ix1 z) := by
  unfold iblk
  rw [View.read_apply]
  have e : ((cfg0.win 2).blk t).view.emb (ix2 0 z) = ix2 0 z := by
    funext a
    match a with
    | ⟨0, _⟩ => exact Fin.ext (by show win0_2.index t 0 * 1 + 1 * 0 = _; rw [fat_2]; simp <;> omega)
    | ⟨1, _⟩ => exact Fin.ext (by show win0_2.index t 1 * 2048 + 1 * z.val = _; rw [fat_2]; simp <;> omega)
  rw [e]
  show V m c main_v0 (ix2 _ _) = _
  entry_read
  pointwise []

theorem fat_3 : ∀ t : Fin cfg0.N, win0_3.index t = ![0, t.val % 12] :=
  (by decide +kernel : ∀ t : Fin grid0.N, win0_3.index t = ![0, t.val % 12])

/-- The gate's columns of the up projection. -/
theorem fblk_3 (t : Fin cfg0.N) (y : Fin 2048) (z : Fin 512) :
    iblk m c 3 t (ix2 y z) = m ((c : Thread nD τ).loc main_arg2) (ix2 y ⟨512 * (t.val % 12) + z.val, by have := col_lt t; omega⟩) := by
  unfold iblk
  rw [View.read_apply]
  have e : ((cfg0.win 3).blk t).view.emb (ix2 y z) = ix2 y ⟨512 * (t.val % 12) + z.val, by have := col_lt t; omega⟩ := by
    funext a
    match a with
    | ⟨0, _⟩ => exact Fin.ext (by show win0_3.index t 0 * 2048 + 1 * y.val = _; rw [fat_3]; simp <;> omega)
    | ⟨1, _⟩ => exact Fin.ext (by show win0_3.index t 1 * 512 + 1 * z.val = _; rw [fat_3]; simp <;> omega)
  rw [e]
  show V m c main_v1 (ix2 _ _) = _
  entry_read
  pointwise []

theorem fat_4 : ∀ t : Fin cfg0.N, win0_4.index t = ![0, t.val % 12 + 12] :=
  (by decide +kernel : ∀ t : Fin grid0.N, win0_4.index t = ![0, t.val % 12 + 12])

/-- The value's columns of the up projection. -/
theorem fblk_4 (t : Fin cfg0.N) (y : Fin 2048) (z : Fin 512) :
    iblk m c 4 t (ix2 y z) = m ((c : Thread nD τ).loc main_arg2) (ix2 y ⟨6144 + (512 * (t.val % 12) + z.val), by have := col_lt t; omega⟩) := by
  unfold iblk
  rw [View.read_apply]
  have e : ((cfg0.win 4).blk t).view.emb (ix2 y z) = ix2 y ⟨6144 + (512 * (t.val % 12) + z.val), by have := col_lt t; omega⟩ := by
    funext a
    match a with
    | ⟨0, _⟩ => exact Fin.ext (by show win0_4.index t 0 * 2048 + 1 * y.val = _; rw [fat_4]; simp <;> omega)
    | ⟨1, _⟩ => exact Fin.ext (by show win0_4.index t 1 * 512 + 1 * z.val = _; rw [fat_4]; simp <;> omega)
  rw [e]
  show V m c main_v1 (ix2 _ _) = _
  entry_read
  pointwise []

theorem fat_5 : ∀ t : Fin cfg0.N, win0_5.index t = ![t.val % 12, 0] :=
  (by decide +kernel : ∀ t : Fin grid0.N, win0_5.index t = ![t.val % 12, 0])

/-- The group's rows of the down projection. -/
theorem fblk_5 (t : Fin cfg0.N) (y : Fin 512) (z : Fin 2048) :
    iblk m c 5 t (ix2 y z) = m ((c : Thread nD τ).loc main_arg5) (ix2 ⟨512 * (t.val % 12) + y.val, by have := col_lt t; omega⟩ z) := by
  unfold iblk
  rw [View.read_apply]
  have e : ((cfg0.win 5).blk t).view.emb (ix2 y z) = ix2 ⟨512 * (t.val % 12) + y.val, by have := col_lt t; omega⟩ z := by
    funext a
    match a with
    | ⟨0, _⟩ => exact Fin.ext (by show win0_5.index t 0 * 512 + 1 * y.val = _; rw [fat_5]; simp <;> omega)
    | ⟨1, _⟩ => exact Fin.ext (by show win0_5.index t 1 * 2048 + 1 * z.val = _; rw [fat_5]; simp <;> omega)
  rw [e]
  show V m c main_v2 (ix2 _ _) = _
  entry_read
  pointwise []

theorem fat_6 : ∀ t : Fin cfg0.N, win0_6.index t = ![0, t.val % 12] :=
  (by decide +kernel : ∀ t : Fin grid0.N, win0_6.index t = ![0, t.val % 12])

/-- The group's columns of the convolution's weights. -/
theorem fblk_6 (t : Fin cfg0.N) (y : Fin 3) (z : Fin 512) :
    iblk m c 6 t (ix2 y z) = m ((c : Thread nD τ).loc main_arg3) (ix2 y ⟨512 * (t.val % 12) + z.val, by have := col_lt t; omega⟩) := by
  unfold iblk
  rw [View.read_apply]
  refine (congrFun (V_main_arg3 m c) _).trans (congrArg _ ?_)
  funext a
  match a with
  | ⟨0, _⟩ => exact Fin.ext (by show win0_6.index t 0 * 3 + 1 * y.val = _; rw [fat_6]; simp <;> omega)
  | ⟨1, _⟩ => exact Fin.ext (by show win0_6.index t 1 * 512 + 1 * z.val = _; rw [fat_6]; simp <;> omega)

theorem fat_7 : ∀ t : Fin cfg0.N, win0_7.index t = ![0, t.val % 12] :=
  (by decide +kernel : ∀ t : Fin grid0.N, win0_7.index t = ![0, t.val % 12])

/-- The group's entries of the convolution's bias. -/
theorem fblk_7 (t : Fin cfg0.N) (z : Fin 512) :
    iblk m c 7 t (ix2 0 z) = m ((c : Thread nD τ).loc main_arg4) (ix1 ⟨512 * (t.val % 12) + z.val, by have := col_lt t; omega⟩) := by
  unfold iblk
  rw [View.read_apply]
  have e : ((cfg0.win 7).blk t).view.emb (ix2 0 z) = ix2 0 ⟨512 * (t.val % 12) + z.val, by have := col_lt t; omega⟩ := by
    funext a
    match a with
    | ⟨0, _⟩ => exact Fin.ext (by show win0_7.index t 0 * 1 + 1 * 0 = _; rw [fat_7]; simp <;> omega)
    | ⟨1, _⟩ => exact Fin.ext (by show win0_7.index t 1 * 512 + 1 * z.val = _; rw [fat_7]; simp <;> omega)
  rw [e]
  show V m c main_v3 (ix2 _ _) = _
  entry_read
  pointwise []

theorem fat_8 : ∀ t : Fin cfg0.N, win0_8.index t = ![0, 0] :=
  (by decide +kernel : ∀ t : Fin grid0.N, win0_8.index t = ![0, 0])

/-- The second norm's weights. -/
theorem fblk_8 (t : Fin cfg0.N) (z : Fin 2048) :
    iblk m c 8 t (ix2 0 z) = m ((c : Thread nD τ).loc main_arg6) (ix1 z) := by
  unfold iblk
  rw [View.read_apply]
  have e : ((cfg0.win 8).blk t).view.emb (ix2 0 z) = ix2 0 z := by
    funext a
    match a with
    | ⟨0, _⟩ => exact Fin.ext (by show win0_8.index t 0 * 1 + 1 * 0 = _; rw [fat_8]; simp <;> omega)
    | ⟨1, _⟩ => exact Fin.ext (by show win0_8.index t 1 * 2048 + 1 * z.val = _; rw [fat_8]; simp <;> omega)
  rw [e]
  show V m c main_v4 (ix2 _ _) = _
  entry_read
  pointwise []

end Cert.Feed
-- ==== Proof.FfnResult.lean ====
/- What the feed-forward kernel's run leaves in its two results. -/
module

public import proofs.«01_k».proof.Proof.FfnRead
public import proofs.«01_k».proof.Proof.FfnBlocks

@[expose] public section

set_option maxRecDepth 16384
set_option backward.proofsInPublic true

noncomputable section

namespace Cert.Feed

open Cert.FfnIdeal Cert.FfnIdeal.Gen Idealize.ShloMosaic Idealize.ShloMosaic.TcCoe

variable (m : (ℓ : Loc nD τ sig) → Buf (Elt Ideal) ℓ) (c : Dev nD)

/-! ## The arguments at their indices -/

def inX : Fin 8208 → Fin 2048 → EReal := fun i j => m ((c : Thread nD τ).loc main_arg0) (ix2 i j)
def inG : Fin 2048 → EReal := fun i => m ((c : Thread nD τ).loc main_arg1) (ix1 i)
def inU : Fin 2048 → Fin 12288 → EReal := fun i j => m ((c : Thread nD τ).loc main_arg2) (ix2 i j)
def inW : Fin 3 → Fin 6144 → EReal := fun i j => m ((c : Thread nD τ).loc main_arg3) (ix2 i j)
def inB : Fin 6144 → EReal := fun i => m ((c : Thread nD τ).loc main_arg4) (ix1 i)
def inD : Fin 6144 → Fin 2048 → EReal := fun i j => m ((c : Thread nD τ).loc main_arg5) (ix2 i j)
def inP : Fin 2048 → EReal := fun i => m ((c : Thread nD τ).loc main_arg6) (ix1 i)

/-! ## What the buffers hold after each point -/

/-- After the first point of a row block. -/
theorem outs_first (t : Fin cfg0.N) (h0 : t.val % 12 = 0) : outsAt0 m c t.val t.isLt =
    (step (rows0 (iblk m c 0 t) (iblk m c 1 t) (iblk m c 2 t)) (iblk m c 3 t) (iblk m c 4 t) (iblk m c 5 t) (iblk m c 6 t) (iblk m c 7 t) (k0_pay6 (F := Ideal)),
      k0_pay2 (k0_pay9 (rows0 (iblk m c 0 t) (iblk m c 1 t) (iblk m c 2 t)) (iblk m c 3 t)),
      rows0 (iblk m c 0 t) (iblk m c 1 t) (iblk m c 2 t)) := by
  rw [outsAt0_A m c t h0 (by omega), out_A, tail_A, kept_A]

/-- After a middle point. -/
theorem outs_next (t : Fin cfg0.N) (h0 : ¬t.val % 12 = 0) (h1 : ¬t.val % 12 = 11) (h : t.val - 1 < cfg0.N) : outsAt0 m c t.val t.isLt =
    (step (outsAt0 m c (t.val - 1) h).2.2 (iblk m c 3 t) (iblk m c 4 t) (iblk m c 5 t) (iblk m c 6 t) (iblk m c 7 t) (outsAt0 m c (t.val - 1) h).1,
      k0_pay2 (k0_pay9 (outsAt0 m c (t.val - 1) h).2.2 (iblk m c 3 t)), (outsAt0 m c (t.val - 1) h).2.2) := by
  rw [outsAt0_B m c t h0 h1, out_B, tail_B]
  rfl

/-- After the last point of a row block. -/
theorem outs_last (t : Fin cfg0.N) (h1 : t.val % 12 = 11) (h : t.val - 1 < cfg0.N) : outsAt0 m c t.val t.isLt =
    (k0_pay3 (iblk m c 0 t) (step (outsAt0 m c (t.val - 1) h).2.2 (iblk m c 3 t) (iblk m c 4 t) (iblk m c 5 t) (iblk m c 6 t) (iblk m c 7 t)
        (outsAt0 m c (t.val - 1) h).1) (iblk m c 8 t),
      k0_pay2 (k0_pay9 (outsAt0 m c (t.val - 1) h).2.2 (iblk m c 3 t)), (outsAt0 m c (t.val - 1) h).2.2) := by
  rw [outsAt0_C m c t (by omega) h1, out_C, tail_C]
  rfl

/-- Kept rows that hold the normed input's rows from `1024 i`. -/
def Holds (h : Vec Ideal S1040x2048 .bf16) (i : ℕ) (hi : i < 8) : Prop :=
  ∀ (r : Fin 1040) (k : Fin 2048), h (ix2 r k) = normed (inX m c ⟨1024 * i + r.val, by omega⟩) (inG m c) k

/-- The rows made at a row block's first point. -/
theorem holds_rows0 (t : Fin cfg0.N) : Holds m c (rows0 (iblk m c 0 t) (iblk m c 1 t) (iblk m c 2 t)) (t.val / 12) (row_lt t) := by
  intro r k
  have hg : (fun i => iblk m c 2 t (ix2 0 i)) = inG m c := funext fun i => fblk_2 m c t i
  by_cases hr : r.val < 16
  · have e : r = ⟨(⟨r.val, hr⟩ : Fin 16).val, by omega⟩ := rfl
    rw [e, rows0_halo, hg]
    congr 1
    funext i
    exact fblk_1 m c t ⟨r.val, hr⟩ i
  · have e : r = ⟨16 + (⟨r.val - 16, by omega⟩ : Fin 1024).val, by simp only; omega⟩ := Fin.ext (by simp only; omega)
    rw [e, rows0_own, hg]
    congr 1
    funext i
    rw [fblk_0]
    unfold inX
    congr 2
    exact Fin.ext (by simp only; omega)

/-- After a row block's first point the kept rows are the row block's. -/
theorem holds_first (t : Fin cfg0.N) (h0 : t.val % 12 = 0) (i : ℕ) (hi : i < 8) (e : t.val / 12 = i) :
    Holds m c (outsAt0 m c t.val t.isLt).2.2 i hi := by
  have e2 := congrArg (fun p => p.2.2) (outs_first m c t h0)
  dsimp only at e2
  intro r k
  subst e
  exact (congrFun e2 (ix2 r k)).trans (holds_rows0 m c t r k)

/-- After every point the kept rows are the row block's. -/
theorem holds (n : ℕ) : ∀ (h : n < cfg0.N) (i : ℕ) (hi : i < 8), n / 12 = i → Holds m c (outsAt0 m c n h).2.2 i hi := by
  induction n with
  | zero => exact fun h i hi e => holds_first m c ⟨0, h⟩ (Nat.zero_mod 12) i hi e
  | succ n ih =>
    intro h i hi e
    by_cases h0 : (n + 1) % 12 = 0
    · exact holds_first m c ⟨n + 1, h⟩ h0 i hi e
    · have hp := ih (Nat.lt_of_succ_lt h) i hi (by omega)
      by_cases h1 : (n + 1) % 12 = 11
      · have := outs_last m c ⟨n + 1, h⟩ h1 (Nat.lt_of_succ_lt h)
        dsimp only at this
        rw [this]
        exact hp
      · have := outs_next m c ⟨n + 1, h⟩ h0 h1 (Nat.lt_of_succ_lt h)
        dsimp only at this
        rw [this]
        exact hp

/-! ## The gate, the value and the hidden columns of a point -/

section
variable (t : Fin cfg0.N) (h : Vec Ideal S1040x2048 .bf16) (hh : Holds m c h (t.val / 12) (row_lt t))
include hh

theorem colsum_gate (r : Fin 1040) (n : Fin 512) : colsum h (iblk m c 3 t) r n =
    gate (inX m c) (inG m c) (inU m c) ⟨1024 * (t.val / 12) + r.val, by have := row_lt t; omega⟩ ⟨512 * (t.val % 12) + n.val, by have := col_lt t; omega⟩ := by
  unfold colsum gate up
  refine Finset.sum_congr rfl fun k _ => ?_
  rw [hh r k, fblk_3]
  rfl

theorem colsum_val (r : Fin 1040) (n : Fin 512) : colsum h (iblk m c 4 t) r n =
    val (inX m c) (inG m c) (inU m c) ⟨1024 * (t.val / 12) + r.val, by have := row_lt t; omega⟩ ⟨512 * (t.val % 12) + n.val, by have := col_lt t; omega⟩ := by
  unfold colsum val up
  refine Finset.sum_congr rfl fun k _ => ?_
  rw [hh r k, fblk_4]
  rfl

/-- A group of 512 hidden columns against their rows of the down projection. -/
def group (r : Fin 8192) (d : Fin 2048) (q : ℕ) : EReal :=
  if hq : q < 12 then ∑ n : Fin 512, hidden (inX m c) (inG m c) (inU m c) (inW m c) (inB m c) r ⟨512 * q + n.val, by omega⟩
    * inD m c ⟨512 * q + n.val, by omega⟩ d else 0

/-- A point adds its group. -/
theorem step_group (acc : Vec Ideal S1024x2048 .f32) (y : Fin 1024) (k : Fin 2048) :
    step h (iblk m c 3 t) (iblk m c 4 t) (iblk m c 5 t) (iblk m c 6 t) (iblk m c 7 t) acc (ix2 y k) =
      acc (ix2 y k) + group m c ⟨1024 * (t.val / 12) + y.val, by have := row_lt t; omega⟩ k (t.val % 12) := by
  rw [step_apply]
  unfold group
  rw [dif_pos (col_lt t)]
  refine congrArg _ (Finset.sum_congr rfl fun n _ => ?_)
  have e14 : 1024 * (t.val / 12) + (14 + y.val) = 14 + (1024 * (t.val / 12) + y.val) := by omega
  have e15 : 1024 * (t.val / 12) + (15 + y.val) = 15 + (1024 * (t.val / 12) + y.val) := by omega
  have e16 : 1024 * (t.val / 12) + (16 + y.val) = 16 + (1024 * (t.val / 12) + y.val) := by omega
  rw [colsum_gate m c t h hh, colsum_gate m c t h hh, colsum_gate m c t h hh, colsum_val m c t h hh, fblk_5, fblk_6, fblk_6, fblk_6, fblk_7]
  unfold hidden conv
  simp only [e14, e15, e16]
  rfl

end

/-- The twelve groups are the down projection. -/
theorem sum_group (r : Fin 8192) (d : Fin 2048) :
    ∑ q ∈ Finset.range 12, group m c r d q = down (inX m c) (inG m c) (inU m c) (inW m c) (inB m c) (inD m c) r d := by
  rw [Finset.sum_range]
  unfold down
  rw [← sum_groups]
  refine Finset.sum_congr rfl fun j _ => ?_
  unfold group
  rw [dif_pos j.isLt]

/-- Before a row block's last point, the output block holds the sum of the groups so far. -/
theorem acc_eq (n : ℕ) : ∀ (h : n < cfg0.N) (i : ℕ) (hi : i < 8), n / 12 = i → n % 12 ≠ 11 → ∀ (y : Fin 1024) (k : Fin 2048),
    (outsAt0 m c n h).1 (ix2 y k) = ∑ q ∈ Finset.range (n % 12 + 1), group m c ⟨1024 * i + y.val, by omega⟩ k q := by
  induction n with
  | zero =>
    intro h i hi e h1 y k
    have := outs_first m c ⟨0, h⟩ rfl
    dsimp only at this
    rw [this]
    subst e
    refine (step_group m c ⟨0, h⟩ _ (holds_rows0 m c ⟨0, h⟩) _ y k).trans ?_
    rw [pay6_apply, zero_add]
    exact (Finset.sum_range_one _).symm
  | succ n ih =>
    intro h i hi e h1 y k
    by_cases h0 : (n + 1) % 12 = 0
    · have := outs_first m c ⟨n + 1, h⟩ h0
      dsimp only at this
      rw [this, h0]
      subst e
      refine (step_group m c ⟨n + 1, h⟩ _ (holds_rows0 m c ⟨n + 1, h⟩) _ y k).trans ?_
      rw [pay6_apply, zero_add]
      show group m c _ k ((n + 1) % 12) = _
      rw [h0]
      exact (Finset.sum_range_one _).symm
    · have := outs_next m c ⟨n + 1, h⟩ h0 h1 (Nat.lt_of_succ_lt h)
      dsimp only at this
      rw [this]
      have e' : n / 12 = (n + 1) / 12 := by omega
      have em : (n + 1) % 12 = n % 12 + 1 := by omega
      subst e
      refine (step_group m c ⟨n + 1, h⟩ _ (holds m c n _ _ _ e') _ y k).trans ?_
      show (outsAt0 m c n _).1 (ix2 y k) + group m c _ k ((n + 1) % 12) = _
      rw [ih (Nat.lt_of_succ_lt h) _ (row_lt ⟨n + 1, h⟩) e' (by omega) y k, em, Finset.sum_range_succ _ (n % 12 + 1)]

/-- At a row block's last point the output block is the layer's. -/
theorem last_eq (t : Fin cfg0.N) (h1 : t.val % 12 = 11) (y : Fin 1024) (k : Fin 2048) : (outsAt0 m c t.val t.isLt).1 (ix2 y k) =
    layer (inX m c) (inG m c) (inU m c) (inW m c) (inB m c) (inD m c) (inP m c) ⟨1024 * (t.val / 12) + y.val, by have := row_lt t; omega⟩ k := by
  have hp : t.val - 1 < cfg0.N := by have := t.isLt; omega
  rw [outs_last m c t h1 hp]
  dsimp only
  rw [pay3_apply, fblk_0]
  have ed : (t.val - 1) / 12 = t.val / 12 := by omega
  have em : (t.val - 1) % 12 + 1 = 11 := by omega
  have eg : (fun i => iblk m c 8 t (ix2 0 i)) = inP m c := funext fun i => fblk_8 m c t i
  have ea : (fun i => step (outsAt0 m c (t.val - 1) hp).2.2 (iblk m c 3 t) (iblk m c 4 t) (iblk m c 5 t) (iblk m c 6 t) (iblk m c 7 t)
      (outsAt0 m c (t.val - 1) hp).1 (ix2 y i)) = down (inX m c) (inG m c) (inU m c) (inW m c) (inB m c) (inD m c)
        ⟨1024 * (t.val / 12) + y.val, by have := row_lt t; omega⟩ := by
    funext d
    rw [step_group m c t _ (holds m c _ hp _ _ ed), acc_eq m c _ hp _ (row_lt t) ed (by omega) y d, em, h1, ← sum_group,
      Finset.sum_range_succ _ 11]
  rw [eg, ea]
  unfold layer inX
  congr 3
  exact Fin.ext (by simp only; omega)

/-- The gate's last rows, at every point. -/
theorem tail_eq (t : Fin cfg0.N) (s : Fin 8) (n : Fin 512) : (outsAt0 m c t.val t.isLt).2.1 (ix3 0 s n) =
    gate (inX m c) (inG m c) (inU m c) ⟨1024 * (t.val / 12) + (1032 + s.val), by have := row_lt t; omega⟩
      ⟨512 * (t.val % 12) + n.val, by have := col_lt t; omega⟩ := by
  have hp : t.val - 1 < cfg0.N := by have := t.isLt; omega
  by_cases h0 : t.val % 12 = 0
  · rw [outs_first m c t h0]
    exact (tail_apply _ _ s n).trans (colsum_gate m c t _ (holds_rows0 m c t) _ n)
  · have hh := holds m c _ hp _ (row_lt t) (by omega)
    by_cases h1 : t.val % 12 = 11
    · rw [outs_last m c t h1 hp]
      exact (tail_apply _ _ s n).trans (colsum_gate m c t _ hh _ n)
    · rw [outs_next m c t h0 h1 hp]
      exact (tail_apply _ _ s n).trans (colsum_gate m c t _ hh _ n)

/-! ## The two arrays after the run -/

/-- The layer's result. -/
def resultY : S8192x2048.Idx → EReal := fun i =>
  layer (inX m c) (inG m c) (inU m c) (inW m c) (inB m c) (inD m c) (inP m c) (i 0) (i 1)

/-- The gate's last eight rows of each row block. -/
def resultT : S8x8x6144.Idx → EReal := fun i =>
  gate (inX m c) (inG m c) (inU m c) ⟨1024 * (i 0).val + (1032 + (i 1).val), by
    have h0 : (i 0).val < 8 := (i 0).isLt
    have h1 : (i 1).val < 8 := (i 1).isLt
    omega⟩ (i 2)

theorem fat_9 : ∀ t : Fin cfg0.N, win0_9.index t = ![t.val / 12, 0] :=
  (by decide +kernel : ∀ t : Fin grid0.N, win0_9.index t = ![t.val / 12, 0])

theorem fat_10 : ∀ t : Fin cfg0.N, win0_10.index t = ![t.val / 12, 0, t.val % 12] :=
  (by decide +kernel : ∀ t : Fin grid0.N, win0_10.index t = ![t.val / 12, 0, t.val % 12])

/-- The output block is written back at a row block's last point only. -/
theorem flush_9 : ∀ t : Fin cfg0.N, win0_9.flush t = true → t.val % 12 = 11 :=
  (by decide +kernel : ∀ t : Fin grid0.N, win0_9.flush t = true → t.val % 12 = 11)

theorem arrayY : (dats m 0 c).arrAt 9 cfg0.N = resultY m c := by
  refine (dats m 0 c).arrAt_eq_of_covers 9 _ (by decide +kernel) fun t hf y => ?_
  show (dats m 0 c).after 9 t y = _
  rw [after0_9]
  have hi0 : ((((cfg0.win 9).blk t).view.emb y) 0).val = 1024 * (t.val / 12) + (y 0).val := by
    show win0_9.index t 0 * 1024 + 1 * (y 0).val = _
    rw [fat_9]; simp only [Matrix.cons_val_zero]; omega
  have hi1 : ((((cfg0.win 9).blk t).view.emb y) 1).val = (y 1).val := by
    show win0_9.index t 1 * 2048 + 1 * (y 1).val = _
    rw [fat_9]; simp
  generalize ((cfg0.win 9).blk t).view.emb y = i at hi0 hi1
  have ey : y = ix2 (y 0) (y 1) := by funext a; match a with | ⟨0, _⟩ => rfl | ⟨1, _⟩ => rfl
  rw [ey]
  refine (last_eq m c t (flush_9 t hf) (y 0) (y 1)).trans ?_
  unfold resultY
  congr 1
  · exact Fin.ext hi0.symm
  · exact Fin.ext hi1.symm

theorem arrayT : (dats m 0 c).arrAt 10 cfg0.N = resultT m c := by
  refine (dats m 0 c).arrAt_eq_of_covers 10 _ (by decide +kernel) fun t hf y => ?_
  show (dats m 0 c).after 10 t y = _
  rw [after0_10]
  have hi0 : ((((cfg0.win 10).blk t).view.emb y) 0).val = t.val / 12 := by
    have h0 : (y 0).val < 1 := (y 0).isLt
    show win0_10.index t 0 * 1 + 1 * (y 0).val = _
    rw [fat_10]; simp only [Matrix.cons_val_zero]; omega
  have hi1 : ((((cfg0.win 10).blk t).view.emb y) 1).val = (y 1).val := by
    show win0_10.index t 1 * 8 + 1 * (y 1).val = _
    rw [fat_10]; simp
  have hi2 : ((((cfg0.win 10).blk t).view.emb y) 2).val = 512 * (t.val % 12) + (y 2).val := by
    show win0_10.index t 2 * 512 + 1 * (y 2).val = _
    rw [fat_10]; simp; omega
  generalize ((cfg0.win 10).blk t).view.emb y = i at hi0 hi1 hi2
  have ey : y = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  rw [ey]
  refine (tail_eq m c t (y 1) (y 2)).trans ?_
  unfold resultT
  congr 1
  · exact Fin.ext (by simp only; rw [hi0, hi1])
  · exact Fin.ext hi2.symm

end Cert.Feed
-- ==== Proof.FfnRef.lean ====
/- What the feed-forward reference computes, at an index. -/
module

public import proofs.«01_k».proof.Proof.Gen.FfnReferenceIdeal.Read
public import proofs.«01_k».proof.Proof.FfnSpec

@[expose] public section

set_option maxRecDepth 16384
set_option backward.proofsInPublic true

noncomputable section

namespace Cert.Feed

open Cert.FfnReferenceIdeal Cert.FfnReferenceIdeal.Read Idealize.ShloMosaic

section
variable (x0 : (⟨S8208x2048, .f32⟩ : BufTy).Contents (Elt Ideal)) (x1 : (⟨S2048, .f32⟩ : BufTy).Contents (Elt Ideal))
  (x2 : (⟨S2048x12288, .f32⟩ : BufTy).Contents (Elt Ideal)) (x3 : (⟨S3x6144, .f32⟩ : BufTy).Contents (Elt Ideal))
  (x4 : (⟨S6144, .f32⟩ : BufTy).Contents (Elt Ideal)) (x5 : (⟨S6144x2048, .f32⟩ : BufTy).Contents (Elt Ideal))
  (x6 : (⟨S2048, .f32⟩ : BufTy).Contents (Elt Ideal))

/-- An array of two axes, as a function of its two indices. -/
abbrev two {n k : ℕ} (a : (⟨2, ![n, k]⟩ : Shape).Idx → EReal) : Fin n → Fin k → EReal := fun i j => a (ix2 i j)

/-- An array of one axis, as a function of its index. -/
abbrev one {n : ℕ} (a : (⟨1, ![n]⟩ : Shape).Idx → EReal) : Fin n → EReal := fun i => a (ix1 i)

theorem ref_norm (r : Fin 8208) (k : Fin 2048) : val_main_v12 (F := Ideal) x0 x1 (ix2 r k) = normed (two x0 r) (one x1) k := by
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]
  rfl

theorem ref_up (r : Fin 8208) (n : Fin 12288) : val_main_v13 (F := Ideal) x0 x1 x2 (ix2 r n) = up (two x0) (one x1) (two x2) r n := by
  pointwise [val_main_v13]
  exact Finset.sum_congr rfl fun k _ => by rw [ref_norm]

theorem ref_padded (r : Fin 8208) (p : Fin 8210) (h : p.val = r.val + 2) (n : Fin 6144) :
    val_main_v17 (F := Ideal) x0 x1 x2 (ix2 p n) = gate (two x0) (one x1) (two x2) r n := by
  pointwise [val_main_v17, val_main_v14]
  rw [dif_neg (by omega), ref_up]
  exact congrArg (fun q => up (two x0) (one x1) (two x2) q ⟨n.val, by omega⟩) (Fin.ext (by simp only []; omega))

theorem ref_conv (r : Fin 8192) (n : Fin 6144) : val_main_v40 (F := Ideal) x0 x1 x2 x3 x4 (ix2 ⟨16 + r.val, by omega⟩ n) =
    conv (two x0) (one x1) (two x2) (two x3) (one x4) r n := by
  pointwise [val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_v20, val_main_v19, val_main_v18]
  rw [ref_padded x0 x1 x2 ⟨14 + r.val, by omega⟩ _ (by simp only []; omega), ref_padded x0 x1 x2 ⟨15 + r.val, by omega⟩ _ (by simp only []; omega),
    ref_padded x0 x1 x2 ⟨16 + r.val, by omega⟩ _ (by simp only []; omega)]
  rfl

theorem ref_hidden (r : Fin 8192) (n : Fin 6144) : val_main_v54 (F := Ideal) x0 x1 x2 x3 x4 (ix2 ⟨16 + r.val, by omega⟩ n) =
    hidden (two x0) (one x1) (two x2) (two x3) (one x4) r n := by
  pointwise [val_main_v54, val_main_v53, val_main_v52, val_main_v51, val_main_cst_6, val_main_v50, val_main_v49, val_main_cst_5, val_main_v48,
    val_main_v47, val_main_v46, val_main_cst_4, val_main_v45, val_main_v44, val_main_v43, val_main_cst_3, val_main_v42, val_main_v41, val_main_v15]
  rw [ref_conv, ref_up]
  show _ = gelu _ * _
  unfold gelu
  generalize conv (two x0) (one x1) (two x2) (two x3) (one x4) r n = z
  rw [mul_left_comm, ← mul_assoc, ← mul_assoc, ← mul_assoc]
  rfl

theorem ref_down (r : Fin 8192) (d : Fin 2048) : val_main_v55 (F := Ideal) x0 x1 x2 x3 x4 x5 (ix2 ⟨16 + r.val, by omega⟩ d) =
    down (two x0) (one x1) (two x2) (two x3) (one x4) (two x5) r d := by
  pointwise [val_main_v55]
  exact Finset.sum_congr rfl fun n _ => by rw [ref_hidden]

theorem ref_layer (r : Fin 8192) (d : Fin 2048) : val_main_v70 (F := Ideal) x0 x1 x2 x3 x4 x5 x6 (ix2 r d) =
    layer (two x0) (one x1) (two x2) (two x3) (one x4) (two x5) (one x6) r d := by
  pointwise [val_main_v70, val_main_v69, val_main_v68, val_main_v67, val_main_v66, val_main_v65, val_main_v64, val_main_v63, val_main_v62, val_main_v61,
    val_main_cst_9, val_main_v60, val_main_v59, val_main_cst_8, val_main_v58, val_main_v57, val_main_cst_7, val_main_v56]
  simp only [ref_down]
  rfl

theorem ref_tail (i s : Fin 8) (n : Fin 6144) : val_main_v73 (F := Ideal) x0 x1 x2 (ix3 i s n) =
    gate (two x0) (one x1) (two x2) ⟨16 + 1024 * i.val + 1016 + s.val, by omega⟩ n := by
  pointwise [val_main_v73, val_main_v72, val_main_v71, val_main_v14]
  rw [ref_up]
  exact congrArg (fun q => up (two x0) (one x1) (two x2) q ⟨n.val, by omega⟩) (Fin.ext (by simp only []; omega))

end

end Cert.Feed
-- ==== Proof.FfnAssemble.lean ====
/- The feed-forward claim: the kernel's two results are the reference's. -/
module

public import proofs.«01_k».proof.Defs
public import proofs.«01_k».proof.Proof.FfnResult
public import proofs.«01_k».proof.Proof.FfnRef
public import proofs.«01_k».proof.Proof.Gen.FfnReferenceIdeal.Run

@[expose] public section

set_option maxRecDepth 16384
set_option backward.proofsInPublic true

noncomputable section

namespace Cert.Feed

open Cert.FfnIdeal Cert.FfnIdeal.Gen Idealize.ShloMosaic Idealize.ShloMosaic.TcCoe Idealize.SL.Sem

variable (m : (ℓ : Loc nD τ sig) → Buf (Elt Ideal) ℓ) (c : Dev nD)

/-- The reference's first result, of the same arguments, is the layer's. -/
theorem refY : Cert.FfnReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = resultY m c := by
  funext i
  have e : i = ix2 (i 0) (i 1) := by funext a; match a with | ⟨0, _⟩ => rfl | ⟨1, _⟩ => rfl
  rw [e]
  exact ref_layer _ _ _ _ _ _ _ (i 0) (i 1)

/-- The reference's second result is the gate's last rows. -/
theorem refT : Cert.FfnReferenceIdeal.Read.val_main_v73 (F := Ideal) (m ((c : Thread nD τ).loc main_arg0)) (m ((c : Thread nD τ).loc main_arg1)) (m ((c : Thread nD τ).loc main_arg2)) = resultT m c := by
  funext i
  have e : i = ix3 (i 0) (i 1) (i 2) := by funext a; match a with | ⟨0, _⟩ => rfl | ⟨1, _⟩ => rfl | ⟨2, _⟩ => rfl
  rw [e]
  refine (ref_tail _ _ _ (i 0) (i 1) (i 2)).trans ?_
  show gate (inX m c) (inG m c) (inU m c) _ _ = gate (inX m c) (inG m c) (inU m c) _ _
  congr 1
  exact Fin.ext (by show 16 + 1024 * (i 0).val + 1016 + (i 1).val = 1024 * (i 0).val + (1032 + (i 1).val); omega)

/-- The kernel's results are the reference's, at the extended reals. -/
theorem feed_forward : Cert.algebraic_FfnIdeal_FfnReferenceIdeal (hFfnIdeal := Cert.FfnIdeal.Gen.facts)
    (hFfnReferenceIdeal := Cert.FfnReferenceIdeal.Gen.facts) := by
  intro m g m' g' _ hag
  refine ⟨fun c => resultY m c, fun c => resultT m c, ?_, ?_⟩
  · exact (θ_run _ _ _).mono (fun _ h c => ⟨(h c).1.trans (arrayY m c), (h c).2.1.trans (arrayT m c), (h c).2.2⟩) (Cert.FfnIdeal.Value.run_blocks m g)
  · refine (θ_run _ _ _).mono (fun _ h c => ⟨(h c).1.trans ?_, (h c).2.1.trans ?_, (h c).2.2⟩) (Cert.FfnReferenceIdeal.Value.run m' g')
    · obtain ⟨e0, e1, e2, e3, e4, e5, e6⟩ := hag c
      rw [Cert.FfnReferenceIdeal.Read.val_main_v70_eq, e0, e1, e2, e3, e4, e5, e6]
      exact refY m c
    · obtain ⟨e0, e1, e2, e3, e4, e5, e6⟩ := hag c
      refine (Cert.FfnReferenceIdeal.Read.val_main_v73_eq _ _ _).trans ?_
      rw [e0, e1, e2]
      exact refT m c

/-- The reference declares no counter. -/
theorem reference_counters (f : GSem Cert.FfnReferenceIdeal.nD Cert.FfnReferenceIdeal.τ Cert.FfnReferenceIdeal.sig → Int) : f = fun _ => 0 := by
  funext s
  obtain ⟨_, s | s⟩ := s
  · exact Fin.elim0 s
  · exact Fin.elim0 s

/-- The reference runs, changes no argument and leaves no counter. -/
theorem reference_frame (m : (ℓ : Loc Cert.FfnReferenceIdeal.nD Cert.FfnReferenceIdeal.τ Cert.FfnReferenceIdeal.sig) → Buf (Elt Ideal) ℓ) (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩
      (fun r => (∀ c : Dev Cert.FfnReferenceIdeal.nD,
        r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
        ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
        ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
        ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
        ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
        ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
        ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0) :=
  (θ_run _ _ _).mono (fun _ h => ⟨fun c => (h c).2.2, reference_counters _⟩) (Cert.FfnReferenceIdeal.Value.run m g)

end Cert.Feed
-- ==== Proof.RowsSpec.lean ====
/- The two projections over the meta rows and the frames, written at an index. -/
module

public import proofs.«01_k».proof.Proof.FfnSpec

@[expose] public section

noncomputable section

namespace Cert.Rows

open Idealize.ShloMosaic Cert.Feed

section
variable (lead : Fin 16 → Fin 2048 → EReal) (x : Fin 8192 → Fin 2048 → EReal) (g : Fin 2048 → EReal)

/-- The sixteen meta rows, then the frames. -/
def rows (r : Fin 8208) : Fin 2048 → EReal := if h : r.val < 16 then lead ⟨r.val, h⟩ else x ⟨r.val - 16, by omega⟩

theorem rows_meta (r : Fin 8208) (h : r.val < 16) : rows lead x r = lead ⟨r.val, h⟩ := dif_pos h

theorem rows_frame (r : Fin 8208) (h : ¬r.val < 16) : rows lead x r = x ⟨r.val - 16, by omega⟩ := dif_neg h

/-- Row `r`, normalized, against column `n` of the input projection. -/
def project (w : Fin 2048 → Fin 8960 → EReal) (r : Fin 8208) (n : Fin 8960) : EReal :=
  ∑ k, normed (rows lead x r) g k * w k n

/-- Row `r` plus the normalized output projection of row `r` of `y`. -/
def leave (y : Fin 8208 → Fin 2048 → EReal) (w : Fin 2048 → Fin 2048 → EReal) (r : Fin 8208) (d : Fin 2048) : EReal :=
  rows lead x r d + normed (fun e => ∑ k, y r k * w k e) g d

end

end Cert.Rows
-- ==== Proof.EntryCase.lean ====
/- The input projection: what a grid point leaves in its buffers. -/
module

public import proofs.«01_k».proof.Proof.Gen.ProjectIdeal.Value
public import Idealize.ShloMosaic.Lib.Pipeline.ValueKit
public import Idealize.ShloMosaic.Lib.VecWindow

@[expose] public section

set_option maxRecDepth 16384
set_option backward.proofsInPublic true

noncomputable section

namespace Cert.Entry

open Cert.ProjectIdeal Cert.ProjectIdeal.Gen Idealize.ShloMosaic Idealize.ShloMosaic.TcCoe

section Cases

variable {F : FTy → Type} [FloatOps F]

theorem zero2 : (![0, 0] : Fin 2 → Nat) = fun _ => 0 := funext fun a => by fin_cases a <;> rfl

/-- The rows of a block that follow the sixteen meta rows in the first block. -/
def lower (x : Vec F S912x2048 .f32) : Vec F S896x2048 .f32 :=
  View.ld x (Rect.unit (s := S912x2048) ![0, 0] S896x2048.size inb_S912x2048_S896x2048_0_0)

variable (c : Dev nD) (i : grid0.Coords)
  (a2 : Memref sig .tc .vmem S912x2048 .f32) (h2 : a2.IsWhole)
  (a3 : Memref sig .tc .vmem S16x2048 .f32) (h3 : a3.IsWhole)
  (a4 : Memref sig .tc .vmem S1x2048 .f32) (h4 : a4.IsWhole)
  (a5 : Memref sig .tc .vmem S1792x2048 .bf16) (h5 : a5.IsWhole)
  (a6 : Memref sig .tc .vmem S912x1792 .f32) (h6 : a6.IsWhole)
  (a7 : Memref sig .tc .vmem S912x2048 .bf16) (h7 : a7.IsWhole)
  (x0 : Vec F S912x2048 .f32) (x1 : Vec F S16x2048 .f32) (x2 : Vec F S1x2048 .f32) (x3 : Vec F S1792x2048 .bf16)

/-- The first point: the meta rows and the rows after them, normalized, against the columns. -/
theorem out_A (n0 : cond0_0 i) (n1 : cond0_1 i) (n2 : ¬cond0_2 i) :
    out0_A_4 c i a2 h2 a3 h3 a4 h4 a5 h5 a6 h6 a7 h7 n0 n1 n2 x0 x1 x2 x3 = k0_pay3 (k0_pay1 x1 (lower x0) x2) x3 := by
  unfold out0_A_4
  rw [View.read_writes_eq_canon _ _ _ (fun y => cover0_A_4 (y := y) ..)]
  unfold kernelRun0_A
  dsimp only
  sl_unfold_words
  rw [View.canon_cons_unit_zero zero2]
  simp only [View.readAt_eq_ld, h2.read_unread, h3.read_unread, h4.read_unread, h5.read_unread, h6.read_unread, h7.read_unread,
    View.ld_unit_zero (S := S912x2048) zero2, View.ld_unit_zero (S := S16x2048) zero2, View.ld_unit_zero (S := S1x2048) zero2, View.ld_unit_zero (S := S1792x2048) zero2, View.ld_unit_zero (S := S912x1792) zero2]
  rw [View.readCov_full]
  rfl

/-- A later column group: the kept rows against the columns. -/
theorem out_B (n0 : ¬cond0_0 i) (hid : Vec F S912x2048 .bf16) :
    out0_B_4 c i a2 h2 a3 h3 a4 h4 a5 h5 a6 h6 a7 h7 n0 x0 x1 x2 x3 hid = k0_pay3 hid x3 := by
  unfold out0_B_4
  rw [View.read_writes_eq_canon _ _ _ (fun y => cover0_B_4 (y := y) ..)]
  unfold kernelRun0_B
  dsimp only
  sl_unfold_words
  rw [View.canon_cons_unit_zero zero2]
  simp only [View.readAt_eq_ld, h2.read_unread, h3.read_unread, h4.read_unread, h5.read_unread, h6.read_unread, h7.read_unread,
    View.ld_unit_zero (S := S912x2048) zero2, View.ld_unit_zero (S := S16x2048) zero2, View.ld_unit_zero (S := S1x2048) zero2, View.ld_unit_zero (S := S1792x2048) zero2, View.ld_unit_zero (S := S912x1792) zero2]

/-- The first point of a later block. -/
theorem out_C (n0 : cond0_0 i) (n1 : ¬cond0_1 i) (n2 : cond0_2 i) :
    out0_C_4 c i a2 h2 a3 h3 a4 h4 a5 h5 a6 h6 a7 h7 n0 n1 n2 x0 x1 x2 x3 = k0_pay3 (k0_pay2 x0 x2) x3 := by
  unfold out0_C_4
  rw [View.read_writes_eq_canon _ _ _ (fun y => cover0_C_4 (y := y) ..)]
  unfold kernelRun0_C
  dsimp only
  sl_unfold_words
  rw [View.canon_cons_unit_zero zero2]
  simp only [View.readAt_eq_ld, h2.read_unread, h3.read_unread, h4.read_unread, h5.read_unread, h6.read_unread, h7.read_unread,
    View.ld_unit_zero (S := S912x2048) zero2, View.ld_unit_zero (S := S16x2048) zero2, View.ld_unit_zero (S := S1x2048) zero2, View.ld_unit_zero (S := S1792x2048) zero2, View.ld_unit_zero (S := S912x1792) zero2]
  rw [View.readCov_full]

/-- The rows kept from the first point. -/
theorem kept_A (n0 : cond0_0 i) (n1 : cond0_1 i) (n2 : ¬cond0_2 i) :
    sout0_A_0 c i a2 h2 a3 h3 a4 h4 a5 h5 a6 h6 a7 h7 n0 n1 n2 x0 x1 x2 x3 = k0_pay1 x1 (lower x0) x2 := by
  unfold sout0_A_0
  rw [View.read_writes_eq_canon _ _ _ (fun y => scover0_A_0 (y := y) ..)]
  unfold kernelRun0_A
  dsimp only
  sl_unfold_words
  rw [View.canon_cons_unit_zero zero2]
  simp only [View.readAt_eq_ld, h2.read_unread, h3.read_unread, h4.read_unread, h5.read_unread, h6.read_unread, h7.read_unread,
    View.ld_unit_zero (S := S912x2048) zero2, View.ld_unit_zero (S := S16x2048) zero2, View.ld_unit_zero (S := S1x2048) zero2, View.ld_unit_zero (S := S1792x2048) zero2, View.ld_unit_zero (S := S912x1792) zero2]
  rfl

/-- The rows kept from a later block's first point. -/
theorem kept_C (n0 : cond0_0 i) (n1 : ¬cond0_1 i) (n2 : cond0_2 i) :
    sout0_C_0 c i a2 h2 a3 h3 a4 h4 a5 h5 a6 h6 a7 h7 n0 n1 n2 x0 x1 x2 x3 = k0_pay2 x0 x2 := by
  unfold sout0_C_0
  rw [View.read_writes_eq_canon _ _ _ (fun y => scover0_C_0 (y := y) ..)]
  unfold kernelRun0_C
  dsimp only
  sl_unfold_words
  rw [View.canon_cons_unit_zero zero2]
  simp only [View.readAt_eq_ld, h2.read_unread, h3.read_unread, h4.read_unread, h5.read_unread, h6.read_unread, h7.read_unread,
    View.ld_unit_zero (S := S912x2048) zero2, View.ld_unit_zero (S := S16x2048) zero2, View.ld_unit_zero (S := S1x2048) zero2, View.ld_unit_zero (S := S1792x2048) zero2, View.ld_unit_zero (S := S912x1792) zero2]

end Cases

end Cert.Entry
-- ==== Proof.EntryRead.lean ====
/- The input projection kernel's arithmetic at an index, at the ideal instance. -/
module

public import proofs.«01_k».proof.Proof.RowsSpec
public import proofs.«01_k».proof.Proof.EntryCase
public import Idealize.ShloMosaic.Lib.Pointwise

@[expose] public section

set_option maxRecDepth 16384
set_option backward.proofsInPublic true

noncomputable section

namespace Cert.Entry

open Cert.ProjectIdeal Cert.ProjectIdeal.Gen Idealize.ShloMosaic Cert.Feed

/-- The first block's rows: the sixteen meta rows, then the rows after them, normalized. -/
theorem pay1_apply (p : Vec Ideal S16x2048 .f32) (x : Vec Ideal S896x2048 .f32) (g : Vec Ideal S1x2048 .f32) (y : Fin 912) (k : Fin 2048) :
    k0_pay1 p x g (ix2 y k) = normed (fun i => if h : y.val < 16 then p (ix2 ⟨y.val, h⟩ i) else x (ix2 ⟨y.val - 16, by omega⟩ i)) (fun i => g (ix2 0 i)) k := by
  pointwise [k0_pay1]
  rfl

/-- A later block's rows, normalized. -/
theorem pay2_apply (x : Vec Ideal S912x2048 .f32) (g : Vec Ideal S1x2048 .f32) (y : Fin 912) (k : Fin 2048) :
    k0_pay2 x g (ix2 y k) = normed (fun i => x (ix2 y i)) (fun i => g (ix2 0 i)) k := by
  pointwise [k0_pay2]
  rfl

/-- Rows against a group of columns. -/
theorem pay3_apply (h : Vec Ideal S912x2048 .bf16) (w : Vec Ideal S1792x2048 .bf16) (y : Fin 912) (n : Fin 1792) :
    k0_pay3 h w (ix2 y n) = ∑ k, h (ix2 y k) * w (ix2 n k) := by
  pointwise [k0_pay3]

/-- The first block's frames are the block's first rows. -/
theorem lower_apply (x : Vec Ideal S912x2048 .f32) (y : Fin 896) (k : Fin 2048) : lower x (ix2 y k) = x (ix2 ⟨y.val, by omega⟩ k) := by
  unfold lower
  refine congrArg x (funext fun a => ?_)
  match a with
  | ⟨0, _⟩ => exact Fin.ext (by simp)
  | ⟨1, _⟩ => exact Fin.ext (by simp)

end Cert.Entry
-- ==== Proof.EntryResult.lean ====
/- What the input projection's run leaves in its result. -/
module

public import proofs.«01_k».proof.Proof.EntryRead

@[expose] public section

set_option maxRecDepth 16384
set_option backward.proofsInPublic true

noncomputable section

namespace Cert.Entry

open Cert.ProjectIdeal Cert.ProjectIdeal.Gen Idealize.ShloMosaic Idealize.ShloMosaic.TcCoe Cert.Feed Cert.Rows

variable (m : (ℓ : Loc nD τ sig) → Buf (Elt Ideal) ℓ) (c : Dev nD)

/-- The row block of a grid point. -/
theorem row_lt (t : Fin cfg0.N) : t.val / 5 < 9 := by
  have : t.val < 45 := t.isLt
  omega

/-- The column group of a grid point. -/
theorem col_lt (t : Fin cfg0.N) : t.val % 5 < 5 := Nat.mod_lt _ (by decide)

/-! ## The blocks the grid points read -/

theorem at_0 : ∀ t : Fin cfg0.N, win0_0.index t = ![912 * (t.val / 5) - 16, 0] :=
  (by decide +kernel : ∀ t : Fin grid0.N, win0_0.index t = ![912 * (t.val / 5) - 16, 0])

/-- A row block of the frames (the first block starts at the first frame, the others sixteen rows earlier). -/
theorem blk_0 (t : Fin cfg0.N) (y : Fin 912) (z : Fin 2048) :
    iblk m c 0 t (ix2 y z) = m ((c : Thread nD τ).loc main_arg0) (ix2 ⟨912 * (t.val / 5) - 16 + y.val, by have := row_lt t; omega⟩ z) := by
  unfold iblk
  rw [View.read_apply]
  refine (congrFun (V_main_arg0 m c) _).trans (congrArg _ ?_)
  funext a
  match a with
  | ⟨0, _⟩ => exact Fin.ext (by show win0_0.index t 0 + 1 * y.val = _; rw [at_0]; simp <;> omega)
  | ⟨1, _⟩ => exact Fin.ext (by show win0_0.index t 1 + 1 * z.val = _; rw [at_0]; simp <;> omega)

theorem at_1 : ∀ t : Fin cfg0.N, win0_1.index t = ![0, 0] :=
  (by decide +kernel : ∀ t : Fin grid0.N, win0_1.index t = ![0, 0])

/-- The meta rows. -/
theorem blk_1 (t : Fin cfg0.N) (y : Fin 16) (z : Fin 2048) :
    iblk m c 1 t (ix2 y z) = m ((c : Thread nD τ).loc main_arg1) (ix2 y z) := by
  unfold iblk
  rw [View.read_apply]
  refine (congrFun (V_main_arg1 m c) _).trans (congrArg _ ?_)
  funext a
  match a with
  | ⟨0, _⟩ => exact Fin.ext (by show win0_1.index t 0 * 16 + 1 * y.val = _; rw [at_1]; simp <;> omega)
  | ⟨1, _⟩ => exact Fin.ext (by show win0_1.index t 1 * 2048 + 1 * z.val = _; rw [at_1]; simp <;> omega)

theorem at_2 : ∀ t : Fin cfg0.N, win0_2.index t = ![0, 0] :=
  (by decide +kernel : ∀ t : Fin grid0.N, win0_2.index t = ![0, 0])

/-- The norm's weights. -/
theorem blk_2 (t : Fin cfg0.N) (z : Fin 2048) :
    iblk m c 2 t (ix2 0 z) = m ((c : Thread nD τ).loc main_arg2) (ix1 z) := by
  unfold iblk
  rw [View.read_apply]
  have e : ((cfg0.win 2).blk t).view.emb (ix2 0 z) = ix2 0 z := by
    funext a
    match a with
    | ⟨0, _⟩ => exact Fin.ext (by show win0_2.index t 0 * 1 + 1 * 0 = _; rw [at_2]; simp <;> omega)
    | ⟨1, _⟩ => exact Fin.ext (by show win0_2.index t 1 * 2048 + 1 * z.val = _; rw [at_2]; simp <;> omega)
  rw [e]
  show V m c main_v2 (ix2 _ _) = _
  entry_read
  pointwise []

theorem at_3 : ∀ t : Fin cfg0.N, win0_3.index t = ![t.val % 5, 0] :=
  (by decide +kernel : ∀ t : Fin grid0.N, win0_3.index t = ![t.val % 5, 0])

/-- A group of columns of the projection. -/
theorem blk_3 (t : Fin cfg0.N) (y : Fin 1792) (z : Fin 2048) :
    iblk m c 3 t (ix2 y z) = m ((c : Thread nD τ).loc main_arg3) (ix2 z ⟨1792 * (t.val % 5) + y.val, by have := col_lt t; omega⟩) := by
  unfold iblk
  rw [View.read_apply]
  have e : ((cfg0.win 3).blk t).view.emb (ix2 y z) = ix2 ⟨1792 * (t.val % 5) + y.val, by have := col_lt t; omega⟩ z := by
    funext a
    match a with
    | ⟨0, _⟩ => exact Fin.ext (by show win0_3.index t 0 * 1792 + 1 * y.val = _; rw [at_3]; simp <;> omega)
    | ⟨1, _⟩ => exact Fin.ext (by show win0_3.index t 1 * 2048 + 1 * z.val = _; rw [at_3]; simp <;> omega)
  rw [e]
  show V m c main_v1 (ix2 _ _) = _
  entry_read
  pointwise []

/-! ## The arguments at their indices -/

def inX : Fin 8192 → Fin 2048 → EReal := fun i j => m ((c : Thread nD τ).loc main_arg0) (ix2 i j)
def inM : Fin 16 → Fin 2048 → EReal := fun i j => m ((c : Thread nD τ).loc main_arg1) (ix2 i j)
def inG : Fin 2048 → EReal := fun i => m ((c : Thread nD τ).loc main_arg2) (ix1 i)
def inW : Fin 2048 → Fin 8960 → EReal := fun i j => m ((c : Thread nD τ).loc main_arg3) (ix2 i j)

/-! ## What the buffers hold after each point -/

/-- After the first point of all. -/
theorem outs_first (t : Fin cfg0.N) (h0 : t.val % 5 = 0) (h1 : t.val < 5) : outsAt0 m c t.val t.isLt =
    (k0_pay3 (k0_pay1 (iblk m c 1 t) (lower (iblk m c 0 t)) (iblk m c 2 t)) (iblk m c 3 t),
      k0_pay1 (iblk m c 1 t) (lower (iblk m c 0 t)) (iblk m c 2 t)) := by
  rw [outsAt0_A m c t h0 h1 (by omega), out_A, kept_A]

/-- After the first point of a later row block. -/
theorem outs_new (t : Fin cfg0.N) (h0 : t.val % 5 = 0) (h1 : ¬t.val < 5) : outsAt0 m c t.val t.isLt =
    (k0_pay3 (k0_pay2 (iblk m c 0 t) (iblk m c 2 t)) (iblk m c 3 t), k0_pay2 (iblk m c 0 t) (iblk m c 2 t)) := by
  rw [outsAt0_C m c t h0 h1 (by omega), out_C, kept_C]

/-- After every other point. -/
theorem outs_next (t : Fin cfg0.N) (h0 : ¬t.val % 5 = 0) (h : t.val - 1 < cfg0.N) : outsAt0 m c t.val t.isLt =
    (k0_pay3 (outsAt0 m c (t.val - 1) h).2 (iblk m c 3 t), (outsAt0 m c (t.val - 1) h).2) := by
  rw [outsAt0_B m c t h0, out_B]
  rfl

/-- Kept rows that hold the normed rows from `912 i`. -/
def Holds (h : Vec Ideal S912x2048 .bf16) (i : ℕ) (hi : i < 9) : Prop :=
  ∀ (y : Fin 912) (k : Fin 2048), h (ix2 y k) = normed (rows (inM m c) (inX m c) ⟨912 * i + y.val, by omega⟩) (inG m c) k

theorem norm_weights (t : Fin cfg0.N) : (fun i => iblk m c 2 t (ix2 0 i)) = inG m c := funext fun i => blk_2 m c t i

/-- The rows made at the first point. -/
theorem holds_first (t : Fin cfg0.N) (h1 : t.val < 5) :
    Holds m c (k0_pay1 (iblk m c 1 t) (lower (iblk m c 0 t)) (iblk m c 2 t)) (t.val / 5) (row_lt t) := by
  intro y k
  rw [pay1_apply, norm_weights]
  refine congrArg (fun f => normed f (inG m c) k) (funext fun i => ?_)
  have e : t.val / 5 = 0 := by omega
  by_cases hy : y.val < 16
  · rw [dif_pos hy, blk_1, rows_meta _ _ _ (by simp only; omega)]
    unfold inM
    refine congrArg (fun r => m ((c : Thread nD τ).loc main_arg1) (ix2 r i)) (Fin.ext ?_)
    simp only
    omega
  · rw [dif_neg hy, lower_apply, blk_0, rows_frame _ _ _ (by simp only; omega)]
    unfold inX
    refine congrArg (fun r => m ((c : Thread nD τ).loc main_arg0) (ix2 r i)) (Fin.ext ?_)
    simp only
    omega

/-- The rows made at a later block's first point. -/
theorem holds_new (t : Fin cfg0.N) (h1 : ¬t.val < 5) : Holds m c (k0_pay2 (iblk m c 0 t) (iblk m c 2 t)) (t.val / 5) (row_lt t) := by
  intro y k
  rw [pay2_apply, norm_weights]
  refine congrArg (fun f => normed f (inG m c) k) (funext fun i => ?_)
  have e : 1 ≤ t.val / 5 := by omega
  rw [blk_0, rows_frame _ _ _ (by simp only; omega)]
  unfold inX
  refine congrArg (fun r => m ((c : Thread nD τ).loc main_arg0) (ix2 r i)) (Fin.ext ?_)
  simp only
  omega

/-- After every point the kept rows are the row block's. -/
theorem holds (n : ℕ) : ∀ (h : n < cfg0.N) (i : ℕ) (hi : i < 9), n / 5 = i → Holds m c (outsAt0 m c n h).2 i hi := by
  have start : ∀ (t : Fin cfg0.N), t.val % 5 = 0 → ∀ (i : ℕ) (hi : i < 9), t.val / 5 = i → Holds m c (outsAt0 m c t.val t.isLt).2 i hi := by
    intro t h0 i hi e y k
    subst e
    by_cases h1 : t.val < 5
    · have e2 := congrArg (fun p => p.2) (outs_first m c t h0 h1)
      dsimp only at e2
      exact (congrFun e2 (ix2 y k)).trans (holds_first m c t h1 y k)
    · have e2 := congrArg (fun p => p.2) (outs_new m c t h0 h1)
      dsimp only at e2
      exact (congrFun e2 (ix2 y k)).trans (holds_new m c t h1 y k)
  induction n with
  | zero => exact fun h i hi e => start ⟨0, h⟩ (Nat.zero_mod 5) i hi e
  | succ n ih =>
    intro h i hi e
    by_cases h0 : (n + 1) % 5 = 0
    · exact start ⟨n + 1, h⟩ h0 i hi e
    · have hp := ih (Nat.lt_of_succ_lt h) i hi (by omega)
      have := outs_next m c ⟨n + 1, h⟩ h0 (Nat.lt_of_succ_lt h)
      dsimp only at this
      rw [this]
      exact hp

/-- A point's block, from kept rows that hold the row block's. -/
theorem block_eq (t : Fin cfg0.N) (h : Vec Ideal S912x2048 .bf16) (hh : Holds m c h (t.val / 5) (row_lt t)) (y : Fin 912) (n : Fin 1792) :
    k0_pay3 h (iblk m c 3 t) (ix2 y n) = project (inM m c) (inX m c) (inG m c) (inW m c)
      ⟨912 * (t.val / 5) + y.val, by have := row_lt t; omega⟩ ⟨1792 * (t.val % 5) + n.val, by have := col_lt t; omega⟩ := by
  rw [pay3_apply]
  unfold project
  refine Finset.sum_congr rfl fun k _ => ?_
  rw [hh y k, blk_3]
  rfl

/-- The output block after each point. -/
theorem out_eq (t : Fin cfg0.N) (y : Fin 912) (n : Fin 1792) : (outsAt0 m c t.val t.isLt).1 (ix2 y n) =
    project (inM m c) (inX m c) (inG m c) (inW m c)
      ⟨912 * (t.val / 5) + y.val, by have := row_lt t; omega⟩ ⟨1792 * (t.val % 5) + n.val, by have := col_lt t; omega⟩ := by
  have hp : t.val - 1 < cfg0.N := by have := t.isLt; omega
  by_cases h0 : t.val % 5 = 0
  · by_cases h1 : t.val < 5
    · rw [outs_first m c t h0 h1]
      exact block_eq m c t _ (holds_first m c t h1) y n
    · rw [outs_new m c t h0 h1]
      exact block_eq m c t _ (holds_new m c t h1) y n
  · rw [outs_next m c t h0 hp]
    exact block_eq m c t _ (holds m c _ hp _ (row_lt t) (by omega)) y n

/-! ## The array after the run -/

/-- The projection. -/
def result : S8208x8960.Idx → EReal := fun i => project (inM m c) (inX m c) (inG m c) (inW m c) (i 0) (i 1)

theorem at_4 : ∀ t : Fin cfg0.N, win0_4.index t = ![t.val / 5, t.val % 5] :=
  (by decide +kernel : ∀ t : Fin grid0.N, win0_4.index t = ![t.val / 5, t.val % 5])

theorem array_eq : (dats m 0 c).arrAt 4 cfg0.N = result m c := by
  refine (dats m 0 c).arrAt_eq_of_covers 4 _ (by decide +kernel) fun t hf y => ?_
  show (dats m 0 c).after 4 t y = _
  rw [after0_4]
  have hi0 : ((((cfg0.win 4).blk t).view.emb y) 0).val = 912 * (t.val / 5) + (y 0).val := by
    show win0_4.index t 0 * 912 + 1 * (y 0).val = _
    rw [at_4]; simp only [Matrix.cons_val_zero]; omega
  have hi1 : ((((cfg0.win 4).blk t).view.emb y) 1).val = 1792 * (t.val % 5) + (y 1).val := by
    show win0_4.index t 1 * 1792 + 1 * (y 1).val = _
    rw [at_4]; simp; omega
  generalize ((cfg0.win 4).blk t).view.emb y = i at hi0 hi1
  have ey : y = ix2 (y 0) (y 1) := by funext a; match a with | ⟨0, _⟩ => rfl | ⟨1, _⟩ => rfl
  rw [ey]
  refine (out_eq m c t (y 0) (y 1)).trans ?_
  unfold result
  congr 1
  · exact Fin.ext hi0.symm
  · exact Fin.ext hi1.symm

end Cert.Entry
-- ==== Proof.EntryRef.lean ====
/- What the reference of the input projection computes, at an index. -/
module

public import proofs.«01_k».proof.Proof.Gen.ProjectReferenceIdeal.Read
public import proofs.«01_k».proof.Proof.RowsSpec

@[expose] public section

set_option maxRecDepth 16384
set_option backward.proofsInPublic true

noncomputable section

namespace Cert.Entry

open Cert.ProjectReferenceIdeal Cert.ProjectReferenceIdeal.Read Idealize.ShloMosaic Cert.Feed Cert.Rows

section
variable (x0 : (⟨S8192x2048, .f32⟩ : BufTy).Contents (Elt Ideal)) (x1 : (⟨S16x2048, .f32⟩ : BufTy).Contents (Elt Ideal)) (x2 : (⟨S2048, .f32⟩ : BufTy).Contents (Elt Ideal)) (x3 : (⟨S2048x8960, .f32⟩ : BufTy).Contents (Elt Ideal))

/-- An array of two axes, as a function of its two indices. -/
abbrev two {n k : ℕ} (a : (⟨2, ![n, k]⟩ : Shape).Idx → EReal) : Fin n → Fin k → EReal := fun i j => a (ix2 i j)

/-- An array of one axis, as a function of its index. -/
abbrev one {n : ℕ} (a : (⟨1, ![n]⟩ : Shape).Idx → EReal) : Fin n → EReal := fun i => a (ix1 i)

theorem ref_rows (r : Fin 8208) (k : Fin 2048) : val_main_v0 (F := Ideal) x0 x1 (ix2 r k) = rows (two x1) (two x0) r k := by
  pointwise [val_main_v0]
  unfold rows
  by_cases h : r.val < 16
  · rw [dif_pos h, dif_pos h]
  · rw [dif_neg h, dif_neg h]

theorem ref_norm (r : Fin 8208) (k : Fin 2048) : val_main_v13 (F := Ideal) x0 x1 x2 (ix2 r k) = normed (rows (two x1) (two x0) r) (one x2) k := by
  have e : rows (two x1) (two x0) r = fun k => val_main_v0 (F := Ideal) x0 x1 (ix2 r k) := funext fun k => (ref_rows x0 x1 r k).symm
  rw [e]
  pointwise [val_main_v13, val_main_v12, val_main_v11, val_main_v10, val_main_v9, val_main_v8, val_main_v7, val_main_v6, val_main_cst_1, val_main_v5, val_main_v4, val_main_cst_0, val_main_v3, val_main_v2, val_main_cst, val_main_v1]
  rfl

/-- The reference's result. -/
theorem ref_project (r : Fin 8208) (n : Fin 8960) : val_main_v14 (F := Ideal) x0 x1 x2 x3 (ix2 r n) = project (two x1) (two x0) (one x2) (two x3) r n := by
  pointwise [val_main_v14]
  exact Finset.sum_congr rfl fun k _ => by rw [ref_norm]

end

end Cert.Entry
-- ==== Proof.EntryAssemble.lean ====
/- The claim of the input projection: the kernel's result is the reference's. -/
module

public import proofs.«01_k».proof.Defs
public import proofs.«01_k».proof.Proof.EntryResult
public import proofs.«01_k».proof.Proof.EntryRef
public import proofs.«01_k».proof.Proof.Gen.ProjectReferenceIdeal.Run

@[expose] public section

set_option maxRecDepth 16384
set_option backward.proofsInPublic true

noncomputable section

namespace Cert.Entry

open Cert.ProjectIdeal Cert.ProjectIdeal.Gen Idealize.ShloMosaic Idealize.ShloMosaic.TcCoe Idealize.SL.Sem

variable (m : (ℓ : Loc nD τ sig) → Buf (Elt Ideal) ℓ) (c : Dev nD)

/-- The reference's result, of the same arguments, is the kernel's. -/
theorem ref_result : Cert.ProjectReferenceIdeal.Read.val_main_v14 (F := Ideal) (m ((c : Thread nD τ).loc main_arg0)) (m ((c : Thread nD τ).loc main_arg1)) (m ((c : Thread nD τ).loc main_arg2)) (m ((c : Thread nD τ).loc main_arg3)) = result m c := by
  funext i
  have e : i = ix2 (i 0) (i 1) := by funext a; match a with | ⟨0, _⟩ => rfl | ⟨1, _⟩ => rfl
  rw [e]
  exact ref_project _ _ _ _ (i 0) (i 1)

/-- The kernel's result is the reference's, at the extended reals. -/
theorem input_projection : Cert.algebraic_ProjectIdeal_ProjectReferenceIdeal (hProjectIdeal := Cert.ProjectIdeal.Gen.facts)
    (hProjectReferenceIdeal := Cert.ProjectReferenceIdeal.Gen.facts) := by
  intro m g m' g' _ hag
  refine ⟨fun c => result m c, ?_, ?_⟩
  · exact (θ_run _ _ _).mono (fun _ h c => ⟨(h c).1.trans (array_eq m c), (h c).2⟩) (Cert.ProjectIdeal.Value.run_blocks m g)
  · refine (θ_run _ _ _).mono (fun _ h c => ⟨(h c).1.trans ?_, (h c).2⟩) (Cert.ProjectReferenceIdeal.Value.run m' g')
    obtain ⟨e0, e1, e2, e3⟩ := hag c
    refine (Cert.ProjectReferenceIdeal.Read.val_main_v14_eq _ _ _ _).trans ?_
    rw [e0, e1, e2, e3]
    exact ref_result m c

/-- The reference declares no counter. -/
theorem reference_counters (f : GSem Cert.ProjectReferenceIdeal.nD Cert.ProjectReferenceIdeal.τ Cert.ProjectReferenceIdeal.sig → Int) : f = fun _ => 0 := by
  funext s
  obtain ⟨_, s | s⟩ := s
  · exact Fin.elim0 s
  · exact Fin.elim0 s

/-- The reference runs, changes no argument and leaves no counter. -/
theorem reference_frame (m : (ℓ : Loc Cert.ProjectReferenceIdeal.nD Cert.ProjectReferenceIdeal.τ Cert.ProjectReferenceIdeal.sig) → Buf (Elt Ideal) ℓ) (g : Dev Cert.ProjectReferenceIdeal.nD → PrngReg) :
    θ_run (Cert.ProjectReferenceIdeal.defs (F := Ideal)) (onTc (τ := Cert.ProjectReferenceIdeal.τ) (Cert.ProjectReferenceIdeal.main (F := Ideal))) ⟨m, fun _ => 0, g⟩
      (fun r => (∀ c : Dev Cert.ProjectReferenceIdeal.nD,
        r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
        ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
        ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
        ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0) :=
  (θ_run _ _ _).mono (fun _ h => ⟨fun c => (h c).2, reference_counters _⟩) (Cert.ProjectReferenceIdeal.Value.run m g)

end Cert.Entry
-- ==== Proof.LeaveCase.lean ====
/- The output projection: what a grid point leaves in its block. -/
module

public import proofs.«01_k».proof.Proof.Gen.OutIdeal.Value
public import Idealize.ShloMosaic.Lib.Pipeline.ValueKit
public import Idealize.ShloMosaic.Lib.VecWindow

@[expose] public section

set_option maxRecDepth 16384
set_option backward.proofsInPublic true

noncomputable section

namespace Cert.Leave

open Cert.OutIdeal Cert.OutIdeal.Gen Idealize.ShloMosaic Idealize.ShloMosaic.TcCoe

section Cases

variable {F : FTy → Type} [FloatOps F]

theorem zero2 : (![0, 0] : Fin 2 → Nat) = fun _ => 0 := funext fun a => by fin_cases a <;> rfl

/-- The rows of a block that follow the sixteen meta rows in the first block. -/
def lower (x : Vec F S432x2048 .f32) : Vec F S416x2048 .f32 :=
  View.ld x (Rect.unit (s := S432x2048) ![0, 0] S416x2048.size inb_S432x2048_S416x2048_0_0)

variable (c : Dev nD) (i : grid0.Coords)
  (a1 : Memref sig .tc .vmem S432x2048 .bf16) (h1 : a1.IsWhole)
  (a2 : Memref sig .tc .vmem S2048x2048 .bf16) (h2 : a2.IsWhole)
  (a3 : Memref sig .tc .vmem S432x2048 .f32) (h3 : a3.IsWhole)
  (a4 : Memref sig .tc .vmem S16x2048 .f32) (h4 : a4.IsWhole)
  (a5 : Memref sig .tc .vmem S1x2048 .f32) (h5 : a5.IsWhole)
  (a6 : Memref sig .tc .vmem S432x2048 .f32) (h6 : a6.IsWhole)
  (x0 : Vec F S432x2048 .bf16) (x1 : Vec F S2048x2048 .bf16) (x2 : Vec F S432x2048 .f32) (x3 : Vec F S16x2048 .f32) (x4 : Vec F S1x2048 .f32)

/-- The first block: the meta rows and the rows after them, plus the update. -/
theorem out_A (n0 : cond0_0 i) (n1 : ¬cond0_1 i) :
    out0_A_5 c i a1 h1 a2 h2 a3 h3 a4 h4 a5 h5 a6 h6 n0 n1 x0 x1 x2 x3 x4 = k0_pay2 x0 x1 x4 x3 (lower x2) := by
  unfold out0_A_5
  rw [View.read_writes_eq_canon _ _ _ (fun y => cover0_A_5 (y := y) ..)]
  unfold kernelRun0_A
  dsimp only
  sl_unfold_words
  rw [View.canon_cons_unit_zero zero2]
  simp only [View.readAt_eq_ld, h1.read_unread, h2.read_unread, h3.read_unread, h4.read_unread, h5.read_unread, h6.read_unread,
    View.ld_unit_zero (S := S432x2048) zero2, View.ld_unit_zero (S := S2048x2048) zero2, View.ld_unit_zero (S := S16x2048) zero2, View.ld_unit_zero (S := S1x2048) zero2]
  rfl

/-- A later block: its rows plus the update. -/
theorem out_B (n0 : ¬cond0_0 i) (n1 : cond0_1 i) :
    out0_B_5 c i a1 h1 a2 h2 a3 h3 a4 h4 a5 h5 a6 h6 n0 n1 x0 x1 x2 x3 x4 = k0_pay3 x0 x1 x4 x2 := by
  unfold out0_B_5
  rw [View.read_writes_eq_canon _ _ _ (fun y => cover0_B_5 (y := y) ..)]
  unfold kernelRun0_B
  dsimp only
  sl_unfold_words
  rw [View.canon_cons_unit_zero zero2]
  simp only [View.readAt_eq_ld, h1.read_unread, h2.read_unread, h3.read_unread, h4.read_unread, h5.read_unread, h6.read_unread,
    View.ld_unit_zero (S := S432x2048) zero2, View.ld_unit_zero (S := S2048x2048) zero2, View.ld_unit_zero (S := S16x2048) zero2, View.ld_unit_zero (S := S1x2048) zero2]

end Cases

end Cert.Leave
-- ==== Proof.LeaveRead.lean ====
/- The output projection kernel's arithmetic at an index, at the ideal instance. -/
module

public import proofs.«01_k».proof.Proof.RowsSpec
public import proofs.«01_k».proof.Proof.LeaveCase
public import Idealize.ShloMosaic.Lib.Pointwise

@[expose] public section

set_option maxRecDepth 16384
set_option backward.proofsInPublic true

noncomputable section

namespace Cert.Leave

open Cert.OutIdeal Cert.OutIdeal.Gen Idealize.ShloMosaic Cert.Feed

/-- The update: the normalized output projection. -/
theorem pay1_apply (y : Vec Ideal S432x2048 .bf16) (w : Vec Ideal S2048x2048 .bf16) (g : Vec Ideal S1x2048 .f32) (r : Fin 432) (d : Fin 2048) :
    k0_pay1 y w g (ix2 r d) = normed (fun e => ∑ k : Fin 2048, y (ix2 r k) * w (ix2 k e)) (fun i => g (ix2 0 i)) d := by
  pointwise [k0_pay1]
  rfl

/-- A later block: its rows plus the update. -/
theorem pay3_apply (y : Vec Ideal S432x2048 .bf16) (w : Vec Ideal S2048x2048 .bf16) (g : Vec Ideal S1x2048 .f32) (x : Vec Ideal S432x2048 .f32) (r : Fin 432) (d : Fin 2048) :
    k0_pay3 y w g x (ix2 r d) = x (ix2 r d) + normed (fun e => ∑ k : Fin 2048, y (ix2 r k) * w (ix2 k e)) (fun i => g (ix2 0 i)) d := by
  rw [← pay1_apply]
  pointwise [k0_pay3]

/-- The first block: the sixteen meta rows and the rows after them, plus the update. -/
theorem pay2_apply (y : Vec Ideal S432x2048 .bf16) (w : Vec Ideal S2048x2048 .bf16) (g : Vec Ideal S1x2048 .f32) (p : Vec Ideal S16x2048 .f32) (x : Vec Ideal S416x2048 .f32) (r : Fin 432) (d : Fin 2048) :
    k0_pay2 y w g p x (ix2 r d) = (if h : r.val < 16 then p (ix2 ⟨r.val, h⟩ d) else x (ix2 ⟨r.val - 16, by omega⟩ d))
      + normed (fun e => ∑ k : Fin 2048, y (ix2 r k) * w (ix2 k e)) (fun i => g (ix2 0 i)) d := by
  rw [← pay1_apply]
  pointwise [k0_pay2]

/-- The first block's frames are the block's first rows. -/
theorem lower_apply (x : Vec Ideal S432x2048 .f32) (y : Fin 416) (k : Fin 2048) : lower x (ix2 y k) = x (ix2 ⟨y.val, by omega⟩ k) := by
  unfold lower
  refine congrArg x (funext fun a => ?_)
  match a with
  | ⟨0, _⟩ => exact Fin.ext (by simp)
  | ⟨1, _⟩ => exact Fin.ext (by simp)

end Cert.Leave
-- ==== Proof.LeaveResult.lean ====
/- What the output projection's run leaves in its result. -/
module

public import proofs.«01_k».proof.Proof.LeaveRead

@[expose] public section

set_option maxRecDepth 16384
set_option backward.proofsInPublic true

noncomputable section

namespace Cert.Leave

open Cert.OutIdeal Cert.OutIdeal.Gen Idealize.ShloMosaic Idealize.ShloMosaic.TcCoe Cert.Feed Cert.Rows

variable (m : (ℓ : Loc nD τ sig) → Buf (Elt Ideal) ℓ) (c : Dev nD)

/-! ## The blocks the grid points read -/

theorem at_0 : ∀ t : Fin cfg0.N, win0_0.index t = ![t.val, 0] :=
  (by decide +kernel : ∀ t : Fin grid0.N, win0_0.index t = ![t.val, 0])

/-- A row block of the mixed branches. -/
theorem blk_0 (t : Fin cfg0.N) (y : Fin 432) (z : Fin 2048) :
    iblk m c 0 t (ix2 y z) = m ((c : Thread nD τ).loc main_arg0) (ix2 ⟨432 * t.val + y.val, by have : t.val < 19 := t.isLt; omega⟩ z) := by
  unfold iblk
  rw [View.read_apply]
  have e : ((cfg0.win 0).blk t).view.emb (ix2 y z) = ix2 ⟨432 * t.val + y.val, by have : t.val < 19 := t.isLt; omega⟩ z := by
    funext a
    match a with
    | ⟨0, _⟩ => exact Fin.ext (by show win0_0.index t 0 * 432 + 1 * y.val = _; rw [at_0]; simp <;> omega)
    | ⟨1, _⟩ => exact Fin.ext (by show win0_0.index t 1 * 2048 + 1 * z.val = _; rw [at_0]; simp <;> omega)
  rw [e]
  show V m c main_v0 (ix2 _ _) = _
  entry_read
  pointwise []

theorem at_1 : ∀ t : Fin cfg0.N, win0_1.index t = ![0, 0] :=
  (by decide +kernel : ∀ t : Fin grid0.N, win0_1.index t = ![0, 0])

/-- The output weight. -/
theorem blk_1 (t : Fin cfg0.N) (y : Fin 2048) (z : Fin 2048) :
    iblk m c 1 t (ix2 y z) = m ((c : Thread nD τ).loc main_arg1) (ix2 y z) := by
  unfold iblk
  rw [View.read_apply]
  have e : ((cfg0.win 1).blk t).view.emb (ix2 y z) = ix2 y z := by
    funext a
    match a with
    | ⟨0, _⟩ => exact Fin.ext (by show win0_1.index t 0 * 2048 + 1 * y.val = _; rw [at_1]; simp <;> omega)
    | ⟨1, _⟩ => exact Fin.ext (by show win0_1.index t 1 * 2048 + 1 * z.val = _; rw [at_1]; simp <;> omega)
  rw [e]
  show V m c main_v1 (ix2 _ _) = _
  entry_read
  pointwise []

theorem at_2 : ∀ t : Fin cfg0.N, win0_2.index t = ![432 * t.val - 16, 0] :=
  (by decide +kernel : ∀ t : Fin grid0.N, win0_2.index t = ![432 * t.val - 16, 0])

/-- A row block of the frames (the first block starts at the first frame, the others sixteen rows earlier). -/
theorem blk_2 (t : Fin cfg0.N) (y : Fin 432) (z : Fin 2048) :
    iblk m c 2 t (ix2 y z) = m ((c : Thread nD τ).loc main_arg2) (ix2 ⟨432 * t.val - 16 + y.val, by have : t.val < 19 := t.isLt; omega⟩ z) := by
  unfold iblk
  rw [View.read_apply]
  refine (congrFun (V_main_arg2 m c) _).trans (congrArg _ ?_)
  funext a
  match a with
  | ⟨0, _⟩ => exact Fin.ext (by show win0_2.index t 0 + 1 * y.val = _; rw [at_2]; simp <;> omega)
  | ⟨1, _⟩ => exact Fin.ext (by show win0_2.index t 1 + 1 * z.val = _; rw [at_2]; simp <;> omega)

theorem at_3 : ∀ t : Fin cfg0.N, win0_3.index t = ![0, 0] :=
  (by decide +kernel : ∀ t : Fin grid0.N, win0_3.index t = ![0, 0])

/-- The meta rows. -/
theorem blk_3 (t : Fin cfg0.N) (y : Fin 16) (z : Fin 2048) :
    iblk m c 3 t (ix2 y z) = m ((c : Thread nD τ).loc main_arg3) (ix2 y z) := by
  unfold iblk
  rw [View.read_apply]
  refine (congrFun (V_main_arg3 m c) _).trans (congrArg _ ?_)
  funext a
  match a with
  | ⟨0, _⟩ => exact Fin.ext (by show win0_3.index t 0 * 16 + 1 * y.val = _; rw [at_3]; simp <;> omega)
  | ⟨1, _⟩ => exact Fin.ext (by show win0_3.index t 1 * 2048 + 1 * z.val = _; rw [at_3]; simp <;> omega)

theorem at_4 : ∀ t : Fin cfg0.N, win0_4.index t = ![0, 0] :=
  (by decide +kernel : ∀ t : Fin grid0.N, win0_4.index t = ![0, 0])

/-- The norm's weights. -/
theorem blk_4 (t : Fin cfg0.N) (z : Fin 2048) :
    iblk m c 4 t (ix2 0 z) = m ((c : Thread nD τ).loc main_arg4) (ix1 z) := by
  unfold iblk
  rw [View.read_apply]
  have e : ((cfg0.win 4).blk t).view.emb (ix2 0 z) = ix2 0 z := by
    funext a
    match a with
    | ⟨0, _⟩ => exact Fin.ext (by show win0_4.index t 0 * 1 + 1 * 0 = _; rw [at_4]; simp <;> omega)
    | ⟨1, _⟩ => exact Fin.ext (by show win0_4.index t 1 * 2048 + 1 * z.val = _; rw [at_4]; simp <;> omega)
  rw [e]
  show V m c main_v2 (ix2 _ _) = _
  entry_read
  pointwise []

/-! ## The arguments at their indices -/

def inY : Fin 8208 → Fin 2048 → EReal := fun i j => m ((c : Thread nD τ).loc main_arg0) (ix2 i j)
def inW : Fin 2048 → Fin 2048 → EReal := fun i j => m ((c : Thread nD τ).loc main_arg1) (ix2 i j)
def inX : Fin 8192 → Fin 2048 → EReal := fun i j => m ((c : Thread nD τ).loc main_arg2) (ix2 i j)
def inM : Fin 16 → Fin 2048 → EReal := fun i j => m ((c : Thread nD τ).loc main_arg3) (ix2 i j)
def inG : Fin 2048 → EReal := fun i => m ((c : Thread nD τ).loc main_arg4) (ix1 i)

/-! ## What the output block holds after each point -/

/-- The update of a row, from blocks that hold the arguments' entries. -/
theorem update_eq (a : Vec Ideal S432x2048 .bf16) (w : Vec Ideal S2048x2048 .bf16) (g : Vec Ideal S1x2048 .f32) (y : Fin 432) (r : Fin 8208)
    (ha : ∀ k, a (ix2 y k) = inY m c r k) (hw : ∀ k e, w (ix2 k e) = inW m c k e) (hg : ∀ i, g (ix2 0 i) = inG m c i) (d : Fin 2048) :
    normed (fun e => ∑ k : Fin 2048, a (ix2 y k) * w (ix2 k e)) (fun i => g (ix2 0 i)) d =
      normed (fun e => ∑ k, inY m c r k * inW m c k e) (inG m c) d := by
  have eg : (fun i => g (ix2 0 i)) = inG m c := funext hg
  rw [eg]
  refine congrArg (fun f => normed f (inG m c) d) (funext fun e => Finset.sum_congr rfl fun k _ => ?_)
  rw [ha, hw]

/-- The output block after each point. -/
theorem out_eq (t : Fin cfg0.N) (y : Fin 432) (d : Fin 2048) : outsAt0 m c t.val t.isLt (ix2 y d) =
    leave (inM m c) (inX m c) (inG m c) (inY m c) (inW m c) ⟨432 * t.val + y.val, by have : t.val < 19 := t.isLt; omega⟩ d := by
  have ht : t.val < 19 := t.isLt
  by_cases h0 : t.val % 19 = 0
  · rw [outsAt0_A m c t h0 (by omega), out_A, pay2_apply, update_eq m c (iblk m c 0 t) (iblk m c 1 t) (iblk m c 4 t) y ⟨432 * t.val + y.val, by omega⟩ (fun k => blk_0 m c t y k) (fun k e => blk_1 m c t k e) (fun i => blk_4 m c t i)]
    unfold leave
    refine congrArg (· + _) ?_
    by_cases hy : y.val < 16
    · rw [dif_pos hy, blk_3, rows_meta _ _ _ (by simp only; omega)]
      unfold inM
      refine congrArg (fun r => m ((c : Thread nD τ).loc main_arg3) (ix2 r d)) (Fin.ext ?_)
      simp only
      omega
    · rw [dif_neg hy, lower_apply, blk_2, rows_frame _ _ _ (by simp only; omega)]
      unfold inX
      refine congrArg (fun r => m ((c : Thread nD τ).loc main_arg2) (ix2 r d)) (Fin.ext ?_)
      simp only
      omega
  · rw [outsAt0_B m c t h0 (by omega), out_B, pay3_apply, update_eq m c (iblk m c 0 t) (iblk m c 1 t) (iblk m c 4 t) y ⟨432 * t.val + y.val, by omega⟩ (fun k => blk_0 m c t y k) (fun k e => blk_1 m c t k e) (fun i => blk_4 m c t i)]
    unfold leave
    refine congrArg (· + _) ?_
    rw [blk_2, rows_frame _ _ _ (by simp only; omega)]
    unfold inX
    refine congrArg (fun r => m ((c : Thread nD τ).loc main_arg2) (ix2 r d)) (Fin.ext ?_)
    simp only
    omega

/-! ## The array after the run -/

/-- The rows before the feed-forward. -/
def result : S8208x2048.Idx → EReal := fun i => leave (inM m c) (inX m c) (inG m c) (inY m c) (inW m c) (i 0) (i 1)

theorem at_5 : ∀ t : Fin cfg0.N, win0_5.index t = ![t.val, 0] :=
  (by decide +kernel : ∀ t : Fin grid0.N, win0_5.index t = ![t.val, 0])

theorem array_eq : (dats m 0 c).arrAt 5 cfg0.N = result m c := by
  refine (dats m 0 c).arrAt_eq_of_covers 5 _ (by decide +kernel) fun t hf y => ?_
  show (dats m 0 c).after 5 t y = _
  rw [after0_5]
  have hi0 : ((((cfg0.win 5).blk t).view.emb y) 0).val = 432 * t.val + (y 0).val := by
    show win0_5.index t 0 * 432 + 1 * (y 0).val = _
    rw [at_5]; simp only [Matrix.cons_val_zero]; omega
  have hi1 : ((((cfg0.win 5).blk t).view.emb y) 1).val = (y 1).val := by
    show win0_5.index t 1 * 2048 + 1 * (y 1).val = _
    rw [at_5]; simp
  generalize ((cfg0.win 5).blk t).view.emb y = i at hi0 hi1
  have ey : y = ix2 (y 0) (y 1) := by funext a; match a with | ⟨0, _⟩ => rfl | ⟨1, _⟩ => rfl
  rw [ey]
  refine (out_eq m c t (y 0) (y 1)).trans ?_
  unfold result
  congr 1
  · exact Fin.ext hi0.symm
  · exact Fin.ext hi1.symm

end Cert.Leave
-- ==== Proof.LeaveRef.lean ====
/- What the reference of the output projection computes, at an index. -/
module

public import proofs.«01_k».proof.Proof.Gen.OutReferenceIdeal.Read
public import proofs.«01_k».proof.Proof.RowsSpec

@[expose] public section

set_option maxRecDepth 16384
set_option backward.proofsInPublic true

noncomputable section

namespace Cert.Leave

open Cert.OutReferenceIdeal Cert.OutReferenceIdeal.Read Idealize.ShloMosaic Cert.Feed Cert.Rows

section
variable (x0 : (⟨S8208x2048, .f32⟩ : BufTy).Contents (Elt Ideal)) (x1 : (⟨S2048x2048, .f32⟩ : BufTy).Contents (Elt Ideal)) (x2 : (⟨S8192x2048, .f32⟩ : BufTy).Contents (Elt Ideal)) (x3 : (⟨S16x2048, .f32⟩ : BufTy).Contents (Elt Ideal)) (x4 : (⟨S2048, .f32⟩ : BufTy).Contents (Elt Ideal))

/-- An array of two axes, as a function of its two indices. -/
abbrev two {n k : ℕ} (a : (⟨2, ![n, k]⟩ : Shape).Idx → EReal) : Fin n → Fin k → EReal := fun i j => a (ix2 i j)

/-- An array of one axis, as a function of its index. -/
abbrev one {n : ℕ} (a : (⟨1, ![n]⟩ : Shape).Idx → EReal) : Fin n → EReal := fun i => a (ix1 i)

theorem ref_rows (r : Fin 8208) (k : Fin 2048) : val_main_v0 (F := Ideal) x2 x3 (ix2 r k) = rows (two x3) (two x2) r k := by
  pointwise [val_main_v0]
  unfold rows
  by_cases h : r.val < 16
  · rw [dif_pos h, dif_pos h]
  · rw [dif_neg h, dif_neg h]

theorem ref_mixed (r : Fin 8208) (e : Fin 2048) : val_main_v1 (F := Ideal) x0 x1 (ix2 r e) = ∑ k, two x0 r k * two x1 k e := by
  pointwise [val_main_v1]

theorem ref_norm (r : Fin 8208) (d : Fin 2048) : val_main_v14 (F := Ideal) x0 x1 x4 (ix2 r d) = normed (fun e => ∑ k, two x0 r k * two x1 k e) (one x4) d := by
  have e : (fun e => ∑ k, two x0 r k * two x1 k e) = fun k => val_main_v1 (F := Ideal) x0 x1 (ix2 r k) := funext fun k => (ref_mixed x0 x1 r k).symm
  rw [e]
  pointwise [val_main_v14, val_main_v13, val_main_v12, val_main_v11, val_main_v10, val_main_v9, val_main_v8, val_main_v7, val_main_cst_1, val_main_v6, val_main_v5, val_main_cst_0, val_main_v4, val_main_v3, val_main_cst, val_main_v2]
  rfl

/-- The reference's result. -/
theorem ref_leave (r : Fin 8208) (d : Fin 2048) : val_main_v15 (F := Ideal) x0 x1 x2 x3 x4 (ix2 r d) = leave (two x3) (two x2) (one x4) (two x0) (two x1) r d := by
  pointwise [val_main_v15]
  rw [ref_rows, ref_norm]
  rfl

end

end Cert.Leave
-- ==== Proof.LeaveAssemble.lean ====
/- The claim of the output projection: the kernel's result is the reference's. -/
module

public import proofs.«01_k».proof.Defs
public import proofs.«01_k».proof.Proof.LeaveResult
public import proofs.«01_k».proof.Proof.LeaveRef
public import proofs.«01_k».proof.Proof.Gen.OutReferenceIdeal.Run

@[expose] public section

set_option maxRecDepth 16384
set_option backward.proofsInPublic true

noncomputable section

namespace Cert.Leave

open Cert.OutIdeal Cert.OutIdeal.Gen Idealize.ShloMosaic Idealize.ShloMosaic.TcCoe Idealize.SL.Sem

variable (m : (ℓ : Loc nD τ sig) → Buf (Elt Ideal) ℓ) (c : Dev nD)

/-- The reference's result, of the same arguments, is the kernel's. -/
theorem ref_result : Cert.OutReferenceIdeal.Read.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = result m c := by
  funext i
  have e : i = ix2 (i 0) (i 1) := by funext a; match a with | ⟨0, _⟩ => rfl | ⟨1, _⟩ => rfl
  rw [e]
  exact ref_leave _ _ _ _ _ (i 0) (i 1)

/-- The kernel's result is the reference's, at the extended reals. -/
theorem output_projection : Cert.algebraic_OutIdeal_OutReferenceIdeal (hOutIdeal := Cert.OutIdeal.Gen.facts)
    (hOutReferenceIdeal := Cert.OutReferenceIdeal.Gen.facts) := by
  intro m g m' g' _ hag
  refine ⟨fun c => result m c, ?_, ?_⟩
  · exact (θ_run _ _ _).mono (fun _ h c => ⟨(h c).1.trans (array_eq m c), (h c).2⟩) (Cert.OutIdeal.Value.run_blocks m g)
  · refine (θ_run _ _ _).mono (fun _ h c => ⟨(h c).1.trans ?_, (h c).2⟩) (Cert.OutReferenceIdeal.Value.run m' g')
    obtain ⟨e0, e1, e2, e3, e4⟩ := hag c
    refine (Cert.OutReferenceIdeal.Read.val_main_v15_eq _ _ _ _ _).trans ?_
    rw [e0, e1, e2, e3, e4]
    exact ref_result m c

/-- The reference declares no counter. -/
theorem reference_counters (f : GSem Cert.OutReferenceIdeal.nD Cert.OutReferenceIdeal.τ Cert.OutReferenceIdeal.sig → Int) : f = fun _ => 0 := by
  funext s
  obtain ⟨_, s | s⟩ := s
  · exact Fin.elim0 s
  · exact Fin.elim0 s

/-- The reference runs, changes no argument and leaves no counter. -/
theorem reference_frame (m : (ℓ : Loc Cert.OutReferenceIdeal.nD Cert.OutReferenceIdeal.τ Cert.OutReferenceIdeal.sig) → Buf (Elt Ideal) ℓ) (g : Dev Cert.OutReferenceIdeal.nD → PrngReg) :
    θ_run (Cert.OutReferenceIdeal.defs (F := Ideal)) (onTc (τ := Cert.OutReferenceIdeal.τ) (Cert.OutReferenceIdeal.main (F := Ideal))) ⟨m, fun _ => 0, g⟩
      (fun r => (∀ c : Dev Cert.OutReferenceIdeal.nD,
        r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
        ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
        ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
        ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
        ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0) :=
  (θ_run _ _ _).mono (fun _ h => ⟨fun c => (h c).2, reference_counters _⟩) (Cert.OutReferenceIdeal.Value.run m g)

end Cert.Leave
-- ==== Proof.SampleEntryCase.lean ====
/- The input projection of the sample group: what a grid point leaves in its buffers. -/
module

public import proofs.«01_k».proof.Proof.Gen.SampleProjectIdeal.Value
public import Idealize.ShloMosaic.Lib.Pipeline.ValueKit
public import Idealize.ShloMosaic.Lib.VecWindow

@[expose] public section

set_option maxRecDepth 16384
set_option backward.proofsInPublic true

noncomputable section

namespace Cert.SampleEntry

open Cert.SampleProjectIdeal Cert.SampleProjectIdeal.Gen Idealize.ShloMosaic Idealize.ShloMosaic.TcCoe

section Cases

variable {F : FTy → Type} [FloatOps F]

theorem zero2 : (![0, 0] : Fin 2 → Nat) = fun _ => 0 := funext fun a => by fin_cases a <;> rfl

variable (c : Dev nD) (i : grid0.Coords)
  (a2 : Memref sig .tc .vmem S512x2048 .f32) (h2 : a2.IsWhole)
  (a3 : Memref sig .tc .vmem S1x2048 .f32) (h3 : a3.IsWhole)
  (a4 : Memref sig .tc .vmem S1792x2048 .bf16) (h4 : a4.IsWhole)
  (a5 : Memref sig .tc .vmem S512x1792 .f32) (h5 : a5.IsWhole)
  (a6 : Memref sig .tc .vmem S512x2048 .bf16) (h6 : a6.IsWhole)
  (x0 : Vec F S512x2048 .f32) (x1 : Vec F S1x2048 .f32) (x2 : Vec F S1792x2048 .bf16)

/-- The first point: the rows, normalized, against the columns. -/
theorem out_A (n0 : cond0_0 i) :
    out0_A_3 c i a2 h2 a3 h3 a4 h4 a5 h5 a6 h6 n0 x0 x1 x2 = k0_pay2 (k0_pay1 x0 x1) x2 := by
  unfold out0_A_3
  rw [View.read_writes_eq_canon _ _ _ (fun y => cover0_A_3 (y := y) ..)]
  unfold kernelRun0_A
  dsimp only
  sl_unfold_words
  rw [View.canon_cons_unit_zero zero2]
  simp only [View.readAt_eq_ld, h2.read_unread, h3.read_unread, h4.read_unread, h5.read_unread, h6.read_unread,
    View.ld_unit_zero (S := S512x2048) zero2, View.ld_unit_zero (S := S1x2048) zero2, View.ld_unit_zero (S := S1792x2048) zero2, View.ld_unit_zero (S := S512x1792) zero2]
  rw [View.readCov_full]

/-- A later column group: the kept rows against the columns. -/
theorem out_B (n0 : ¬cond0_0 i) (hid : Vec F S512x2048 .bf16) :
    out0_B_3 c i a2 h2 a3 h3 a4 h4 a5 h5 a6 h6 n0 x0 x1 x2 hid = k0_pay2 hid x2 := by
  unfold out0_B_3
  rw [View.read_writes_eq_canon _ _ _ (fun y => cover0_B_3 (y := y) ..)]
  unfold kernelRun0_B
  dsimp only
  sl_unfold_words
  rw [View.canon_cons_unit_zero zero2]
  simp only [View.readAt_eq_ld, h2.read_unread, h3.read_unread, h4.read_unread, h5.read_unread, h6.read_unread,
    View.ld_unit_zero (S := S512x2048) zero2, View.ld_unit_zero (S := S1x2048) zero2, View.ld_unit_zero (S := S1792x2048) zero2, View.ld_unit_zero (S := S512x1792) zero2]

/-- The rows kept from the first point. -/
theorem kept_A (n0 : cond0_0 i) :
    sout0_A_0 c i a2 h2 a3 h3 a4 h4 a5 h5 a6 h6 n0 x0 x1 x2 = k0_pay1 x0 x1 := by
  unfold sout0_A_0
  rw [View.read_writes_eq_canon _ _ _ (fun y => scover0_A_0 (y := y) ..)]
  unfold kernelRun0_A
  dsimp only
  sl_unfold_words
  rw [View.canon_cons_unit_zero zero2]
  simp only [View.readAt_eq_ld, h2.read_unread, h3.read_unread, h4.read_unread, h5.read_unread, h6.read_unread,
    View.ld_unit_zero (S := S512x2048) zero2, View.ld_unit_zero (S := S1x2048) zero2, View.ld_unit_zero (S := S1792x2048) zero2, View.ld_unit_zero (S := S512x1792) zero2]

end Cases

end Cert.SampleEntry
-- ==== Proof.SampleSpec.lean ====
/- The projections and the feed-forward of the sample group, written at an index. -/
module

public import proofs.«01_k».proof.Proof.FfnSpec

@[expose] public section

noncomputable section

namespace Cert.Sample

open Idealize.ShloMosaic Cert.Feed

section
variable (x : Fin 512 → Fin 2048 → EReal) (g : Fin 2048 → EReal)

/-- Row `r`, normalized, against column `n` of the input projection. -/
def project (w : Fin 2048 → Fin 8960 → EReal) (r : Fin 512) (n : Fin 8960) : EReal := ∑ k, normed (x r) g k * w k n

/-- Row `r` plus the normalized output projection of row `r` of `y`. -/
def leave (y : Fin 512 → Fin 2048 → EReal) (w : Fin 2048 → Fin 2048 → EReal) (r : Fin 512) (d : Fin 2048) : EReal :=
  x r d + normed (fun e => ∑ k, y r k * w k e) g d

end

section
variable (x : Fin 512 → Fin 2048 → EReal) (g : Fin 2048 → EReal) (wu : Fin 2048 → Fin 12288 → EReal) (s : Fin 16 → Fin 2 → Fin 6144 → EReal)
  (cw : Fin 3 → Fin 6144 → EReal) (cb : Fin 6144 → EReal) (wd : Fin 6144 → Fin 2048 → EReal) (gp : Fin 2048 → EReal)

/-- Row `r` of the normed input against column `n` of the up projection. -/
def up (r : Fin 512) (n : Fin 12288) : EReal := ∑ k, normed (x r) g k * wu k n

/-- The gate's column `n`. -/
def gate (r : Fin 512) (n : Fin 6144) : EReal := up x g wu r ⟨n.val, by omega⟩

/-- The value's column `n`. -/
def val (r : Fin 512) (n : Fin 6144) : EReal := up x g wu r ⟨6144 + n.val, by omega⟩

/-- The gate one row before row `r`: of its own sequence of 32 rows, or the newer kept row. -/
def before1 (r : Fin 512) (n : Fin 6144) : EReal :=
  if r.val % 32 = 0 then s ⟨r.val / 32, by omega⟩ 1 n else gate x g wu ⟨r.val - 1, by omega⟩ n

/-- The gate two rows before row `r`. -/
def before2 (r : Fin 512) (n : Fin 6144) : EReal :=
  if r.val % 32 = 0 then s ⟨r.val / 32, by omega⟩ 0 n
  else if r.val % 32 = 1 then s ⟨r.val / 32, by omega⟩ 1 n else gate x g wu ⟨r.val - 2, by omega⟩ n

/-- The convolution of the gate over three rows. -/
def conv (r : Fin 512) (n : Fin 6144) : EReal :=
  cb n + before2 x g wu s r n * cw 0 n + before1 x g wu s r n * cw 1 n + gate x g wu r n * cw 2 n

/-- The hidden layer. -/
def hidden (r : Fin 512) (n : Fin 6144) : EReal := gelu (conv x g wu s cw cb r n) * val x g wu r n

/-- The down projection. -/
def down (r : Fin 512) (d : Fin 2048) : EReal := ∑ n, hidden x g wu s cw cb r n * wd n d

/-- The layer's result: the input plus the normed down projection. -/
def layer (r : Fin 512) (d : Fin 2048) : EReal := x r d + normed (down x g wu s cw cb wd r) gp d

end

end Cert.Sample
-- ==== Proof.SampleEntryResult.lean ====
/- What the sample group's input projection leaves in its result. -/
module

public import proofs.«01_k».proof.Proof.SampleEntryCase
public import proofs.«01_k».proof.Proof.SampleSpec

@[expose] public section

set_option maxRecDepth 16384
set_option backward.proofsInPublic true

noncomputable section

namespace Cert.SampleEntry

open Cert.SampleProjectIdeal Cert.SampleProjectIdeal.Gen Idealize.ShloMosaic Idealize.ShloMosaic.TcCoe Cert.Feed Cert.Sample

/-- The rows, normalized. -/
theorem pay1_apply (x : Vec Ideal S512x2048 .f32) (g : Vec Ideal S1x2048 .f32) (y : Fin 512) (k : Fin 2048) :
    k0_pay1 x g (ix2 y k) = normed (fun i => x (ix2 y i)) (fun i => g (ix2 0 i)) k := by
  pointwise [k0_pay1]
  rfl

/-- Rows against a group of columns. -/
theorem pay2_apply (h : Vec Ideal S512x2048 .bf16) (w : Vec Ideal S1792x2048 .bf16) (y : Fin 512) (n : Fin 1792) :
    k0_pay2 h w (ix2 y n) = ∑ k : Fin 2048, h (ix2 y k) * w (ix2 n k) := by
  pointwise [k0_pay2]

variable (m : (ℓ : Loc nD τ sig) → Buf (Elt Ideal) ℓ) (c : Dev nD)

/-- The column group of a grid point. -/
theorem col_lt (t : Fin cfg0.N) : t.val % 5 < 5 := Nat.mod_lt _ (by decide)

/-! ## The blocks the grid points read -/

theorem at_0 : ∀ t : Fin cfg0.N, win0_0.index t = ![0, 0] :=
  (by decide +kernel : ∀ t : Fin grid0.N, win0_0.index t = ![0, 0])

/-- The rows. -/
theorem blk_0 (t : Fin cfg0.N) (y : Fin 512) (z : Fin 2048) :
    iblk m c 0 t (ix2 y z) = m ((c : Thread nD τ).loc main_arg0) (ix2 y z) := by
  unfold iblk
  rw [View.read_apply]
  refine (congrFun (V_main_arg0 m c) _).trans (congrArg _ ?_)
  funext a
  match a with
  | ⟨0, _⟩ => exact Fin.ext (by show win0_0.index t 0 * 512 + 1 * y.val = _; rw [at_0]; simp <;> omega)
  | ⟨1, _⟩ => exact Fin.ext (by show win0_0.index t 1 * 2048 + 1 * z.val = _; rw [at_0]; simp <;> omega)

theorem at_1 : ∀ t : Fin cfg0.N, win0_1.index t = ![0, 0] :=
  (by decide +kernel : ∀ t : Fin grid0.N, win0_1.index t = ![0, 0])

/-- The norm's weights. -/
theorem blk_1 (t : Fin cfg0.N) (z : Fin 2048) :
    iblk m c 1 t (ix2 0 z) = m ((c : Thread nD τ).loc main_arg1) (ix1 z) := by
  unfold iblk
  rw [View.read_apply]
  have e : ((cfg0.win 1).blk t).view.emb (ix2 0 z) = ix2 0 z := by
    funext a
    match a with
    | ⟨0, _⟩ => exact Fin.ext (by show win0_1.index t 0 * 1 + 1 * 0 = _; rw [at_1]; simp <;> omega)
    | ⟨1, _⟩ => exact Fin.ext (by show win0_1.index t 1 * 2048 + 1 * z.val = _; rw [at_1]; simp <;> omega)
  rw [e]
  show V m c main_v2 (ix2 _ _) = _
  entry_read
  pointwise []

theorem at_2 : ∀ t : Fin cfg0.N, win0_2.index t = ![t.val % 5, 0] :=
  (by decide +kernel : ∀ t : Fin grid0.N, win0_2.index t = ![t.val % 5, 0])

/-- A group of columns of the projection. -/
theorem blk_2 (t : Fin cfg0.N) (y : Fin 1792) (z : Fin 2048) :
    iblk m c 2 t (ix2 y z) = m ((c : Thread nD τ).loc main_arg2) (ix2 z ⟨1792 * (t.val % 5) + y.val, by have := col_lt t; omega⟩) := by
  unfold iblk
  rw [View.read_apply]
  have e : ((cfg0.win 2).blk t).view.emb (ix2 y z) = ix2 ⟨1792 * (t.val % 5) + y.val, by have := col_lt t; omega⟩ z := by
    funext a
    match a with
    | ⟨0, _⟩ => exact Fin.ext (by show win0_2.index t 0 * 1792 + 1 * y.val = _; rw [at_2]; simp <;> omega)
    | ⟨1, _⟩ => exact Fin.ext (by show win0_2.index t 1 * 2048 + 1 * z.val = _; rw [at_2]; simp <;> omega)
  rw [e]
  show V m c main_v1 (ix2 _ _) = _
  entry_read
  pointwise []

/-! ## The arguments at their indices -/

def inX : Fin 512 → Fin 2048 → EReal := fun i j => m ((c : Thread nD τ).loc main_arg0) (ix2 i j)
def inG : Fin 2048 → EReal := fun i => m ((c : Thread nD τ).loc main_arg1) (ix1 i)
def inW : Fin 2048 → Fin 8960 → EReal := fun i j => m ((c : Thread nD τ).loc main_arg2) (ix2 i j)

/-! ## What the buffers hold after each point -/

/-- After the first point. -/
theorem outs_first (t : Fin cfg0.N) (h0 : t.val % 5 = 0) : outsAt0 m c t.val t.isLt =
    (k0_pay2 (k0_pay1 (iblk m c 0 t) (iblk m c 1 t)) (iblk m c 2 t), k0_pay1 (iblk m c 0 t) (iblk m c 1 t)) := by
  rw [outsAt0_A m c t h0, out_A, kept_A]

/-- After every other point. -/
theorem outs_next (t : Fin cfg0.N) (h0 : ¬t.val % 5 = 0) (h : t.val - 1 < cfg0.N) : outsAt0 m c t.val t.isLt =
    (k0_pay2 (outsAt0 m c (t.val - 1) h).2 (iblk m c 2 t), (outsAt0 m c (t.val - 1) h).2) := by
  rw [outsAt0_B m c t h0, out_B]
  rfl

/-- Kept rows that hold the normed rows. -/
def Holds (h : Vec Ideal S512x2048 .bf16) : Prop := ∀ (y : Fin 512) (k : Fin 2048), h (ix2 y k) = normed (inX m c y) (inG m c) k

theorem holds_first (t : Fin cfg0.N) : Holds m c (k0_pay1 (iblk m c 0 t) (iblk m c 1 t)) := by
  intro y k
  have eg : (fun i => iblk m c 1 t (ix2 0 i)) = inG m c := funext fun i => blk_1 m c t i
  have ex : (fun i => iblk m c 0 t (ix2 y i)) = inX m c y := funext fun i => blk_0 m c t y i
  rw [pay1_apply, eg, ex]

/-- After every point the kept rows are the normed rows. -/
theorem holds (n : ℕ) : ∀ (h : n < cfg0.N), Holds m c (outsAt0 m c n h).2 := by
  have start : ∀ (t : Fin cfg0.N), t.val % 5 = 0 → Holds m c (outsAt0 m c t.val t.isLt).2 := by
    intro t h0 y k
    have e2 := congrArg (fun p => p.2) (outs_first m c t h0)
    dsimp only at e2
    exact (congrFun e2 (ix2 y k)).trans (holds_first m c t y k)
  induction n with
  | zero => exact fun h => start ⟨0, h⟩ (Nat.zero_mod 5)
  | succ n ih =>
    intro h
    by_cases h0 : (n + 1) % 5 = 0
    · exact start ⟨n + 1, h⟩ h0
    · have hp := ih (Nat.lt_of_succ_lt h)
      have := outs_next m c ⟨n + 1, h⟩ h0 (Nat.lt_of_succ_lt h)
      dsimp only at this
      rw [this]
      exact hp

/-- A point's block, from kept rows that hold the normed rows. -/
theorem block_eq (t : Fin cfg0.N) (h : Vec Ideal S512x2048 .bf16) (hh : Holds m c h) (y : Fin 512) (n : Fin 1792) :
    k0_pay2 h (iblk m c 2 t) (ix2 y n) = project (inX m c) (inG m c) (inW m c) y ⟨1792 * (t.val % 5) + n.val, by have := col_lt t; omega⟩ := by
  rw [pay2_apply]
  unfold project
  refine Finset.sum_congr rfl fun k _ => ?_
  rw [hh y k, blk_2]
  rfl

/-- The output block after each point. -/
theorem out_eq (t : Fin cfg0.N) (y : Fin 512) (n : Fin 1792) : (outsAt0 m c t.val t.isLt).1 (ix2 y n) =
    project (inX m c) (inG m c) (inW m c) y ⟨1792 * (t.val % 5) + n.val, by have := col_lt t; omega⟩ := by
  have hp : t.val - 1 < cfg0.N := by have := t.isLt; omega
  by_cases h0 : t.val % 5 = 0
  · rw [outs_first m c t h0]
    exact block_eq m c t _ (holds_first m c t) y n
  · rw [outs_next m c t h0 hp]
    exact block_eq m c t _ (holds m c _ hp) y n

/-! ## The array after the run -/

/-- The projection. -/
def result : S512x8960.Idx → EReal := fun i => project (inX m c) (inG m c) (inW m c) (i 0) (i 1)

theorem at_3 : ∀ t : Fin cfg0.N, win0_3.index t = ![0, t.val % 5] :=
  (by decide +kernel : ∀ t : Fin grid0.N, win0_3.index t = ![0, t.val % 5])

theorem array_eq : (dats m 0 c).arrAt 3 cfg0.N = result m c := by
  refine (dats m 0 c).arrAt_eq_of_covers 3 _ (by decide +kernel) fun t hf y => ?_
  show (dats m 0 c).after 3 t y = _
  rw [after0_3]
  have hi0 : ((((cfg0.win 3).blk t).view.emb y) 0).val = (y 0).val := by
    show win0_3.index t 0 * 512 + 1 * (y 0).val = _
    rw [at_3]; simp
  have hi1 : ((((cfg0.win 3).blk t).view.emb y) 1).val = 1792 * (t.val % 5) + (y 1).val := by
    show win0_3.index t 1 * 1792 + 1 * (y 1).val = _
    rw [at_3]; simp; omega
  generalize ((cfg0.win 3).blk t).view.emb y = i at hi0 hi1
  have ey : y = ix2 (y 0) (y 1) := by funext a; match a with | ⟨0, _⟩ => rfl | ⟨1, _⟩ => rfl
  rw [ey]
  refine (out_eq m c t (y 0) (y 1)).trans ?_
  unfold result
  congr 1
  · exact Fin.ext hi0.symm
  · exact Fin.ext hi1.symm

end Cert.SampleEntry
-- ==== Proof.SampleEntryRef.lean ====
/- What the reference of the sample group's input projection computes, at an index. -/
module

public import proofs.«01_k».proof.Proof.Gen.SampleProjectReferenceIdeal.Read
public import proofs.«01_k».proof.Proof.SampleSpec

@[expose] public section

set_option maxRecDepth 16384
set_option backward.proofsInPublic true

noncomputable section

namespace Cert.SampleEntry

open Cert.SampleProjectReferenceIdeal Cert.SampleProjectReferenceIdeal.Read Idealize.ShloMosaic Cert.Feed Cert.Sample

section
variable (x0 : (⟨S512x2048, .f32⟩ : BufTy).Contents (Elt Ideal)) (x1 : (⟨S2048, .f32⟩ : BufTy).Contents (Elt Ideal)) (x2 : (⟨S2048x8960, .f32⟩ : BufTy).Contents (Elt Ideal))

/-- An array of two axes, as a function of its two indices. -/
abbrev two {n k : ℕ} (a : (⟨2, ![n, k]⟩ : Shape).Idx → EReal) : Fin n → Fin k → EReal := fun i j => a (ix2 i j)

/-- An array of one axis, as a function of its index. -/
abbrev one {n : ℕ} (a : (⟨1, ![n]⟩ : Shape).Idx → EReal) : Fin n → EReal := fun i => a (ix1 i)

theorem ref_norm (r : Fin 512) (k : Fin 2048) : val_main_v12 (F := Ideal) x0 x1 (ix2 r k) = normed (two x0 r) (one x1) k := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The reference's result. -/
theorem ref_project (r : Fin 512) (n : Fin 8960) : val_main_v13 (F := Ideal) x0 x1 x2 (ix2 r n) = project (two x0) (one x1) (two x2) r n := by
  pointwise [val_main_v13]
  exact Finset.sum_congr rfl fun k _ => by rw [ref_norm]

end

end Cert.SampleEntry
-- ==== Proof.SampleEntryAssemble.lean ====
/- The claim of the sample group's input projection: the kernel's result is the reference's. -/
module

public import proofs.«01_k».proof.Defs
public import proofs.«01_k».proof.Proof.SampleEntryResult
public import proofs.«01_k».proof.Proof.SampleEntryRef
public import proofs.«01_k».proof.Proof.Gen.SampleProjectReferenceIdeal.Run

@[expose] public section

set_option maxRecDepth 16384
set_option backward.proofsInPublic true

noncomputable section

namespace Cert.SampleEntry

open Cert.SampleProjectIdeal Cert.SampleProjectIdeal.Gen Idealize.ShloMosaic Idealize.ShloMosaic.TcCoe Idealize.SL.Sem

variable (m : (ℓ : Loc nD τ sig) → Buf (Elt Ideal) ℓ) (c : Dev nD)

/-- The reference's result, of the same arguments, is the kernel's. -/
theorem ref_result : Cert.SampleProjectReferenceIdeal.Read.val_main_v13 (F := Ideal) (m ((c : Thread nD τ).loc main_arg0)) (m ((c : Thread nD τ).loc main_arg1)) (m ((c : Thread nD τ).loc main_arg2)) = result m c := by
  funext i
  have e : i = ix2 (i 0) (i 1) := by funext a; match a with | ⟨0, _⟩ => rfl | ⟨1, _⟩ => rfl
  rw [e]
  exact ref_project _ _ _ (i 0) (i 1)

/-- The kernel's result is the reference's, at the extended reals. -/
theorem input_projection : Cert.algebraic_SampleProjectIdeal_SampleProjectReferenceIdeal (hSampleProjectIdeal := Cert.SampleProjectIdeal.Gen.facts)
    (hSampleProjectReferenceIdeal := Cert.SampleProjectReferenceIdeal.Gen.facts) := by
  intro m g m' g' _ hag
  refine ⟨fun c => result m c, ?_, ?_⟩
  · exact (θ_run _ _ _).mono (fun _ h c => ⟨(h c).1.trans (array_eq m c), (h c).2⟩) (Cert.SampleProjectIdeal.Value.run_blocks m g)
  · refine (θ_run _ _ _).mono (fun _ h c => ⟨(h c).1.trans ?_, (h c).2⟩) (Cert.SampleProjectReferenceIdeal.Value.run m' g')
    obtain ⟨e0, e1, e2⟩ := hag c
    refine (Cert.SampleProjectReferenceIdeal.Read.val_main_v13_eq _ _ _).trans ?_
    rw [e0, e1, e2]
    exact ref_result m c

/-- The reference declares no counter. -/
theorem reference_counters (f : GSem Cert.SampleProjectReferenceIdeal.nD Cert.SampleProjectReferenceIdeal.τ Cert.SampleProjectReferenceIdeal.sig → Int) : f = fun _ => 0 := by
  funext s
  obtain ⟨_, s | s⟩ := s
  · exact Fin.elim0 s
  · exact Fin.elim0 s

/-- The reference runs, changes no argument and leaves no counter. -/
theorem reference_frame (m : (ℓ : Loc Cert.SampleProjectReferenceIdeal.nD Cert.SampleProjectReferenceIdeal.τ Cert.SampleProjectReferenceIdeal.sig) → Buf (Elt Ideal) ℓ) (g : Dev Cert.SampleProjectReferenceIdeal.nD → PrngReg) :
    θ_run (Cert.SampleProjectReferenceIdeal.defs (F := Ideal)) (onTc (τ := Cert.SampleProjectReferenceIdeal.τ) (Cert.SampleProjectReferenceIdeal.main (F := Ideal))) ⟨m, fun _ => 0, g⟩
      (fun r => (∀ c : Dev Cert.SampleProjectReferenceIdeal.nD,
        r.2.mem ((c.tc : Thread Cert.SampleProjectReferenceIdeal.nD Cert.SampleProjectReferenceIdeal.τ).loc Cert.SampleProjectReferenceIdeal.main_arg0) = m ((c.tc : Thread Cert.SampleProjectReferenceIdeal.nD Cert.SampleProjectReferenceIdeal.τ).loc Cert.SampleProjectReferenceIdeal.main_arg0)
        ∧ r.2.mem ((c.tc : Thread Cert.SampleProjectReferenceIdeal.nD Cert.SampleProjectReferenceIdeal.τ).loc Cert.SampleProjectReferenceIdeal.main_arg1) = m ((c.tc : Thread Cert.SampleProjectReferenceIdeal.nD Cert.SampleProjectReferenceIdeal.τ).loc Cert.SampleProjectReferenceIdeal.main_arg1)
        ∧ r.2.mem ((c.tc : Thread Cert.SampleProjectReferenceIdeal.nD Cert.SampleProjectReferenceIdeal.τ).loc Cert.SampleProjectReferenceIdeal.main_arg2) = m ((c.tc : Thread Cert.SampleProjectReferenceIdeal.nD Cert.SampleProjectReferenceIdeal.τ).loc Cert.SampleProjectReferenceIdeal.main_arg2))
      ∧ r.2.sem = fun _ => 0) :=
  (θ_run _ _ _).mono (fun _ h => ⟨fun c => (h c).2, reference_counters _⟩) (Cert.SampleProjectReferenceIdeal.Value.run m g)

end Cert.SampleEntry
-- ==== Proof.SampleLeaveResult.lean ====
/- What the sample group's output projection leaves in its result. -/
module

public import proofs.«01_k».proof.Proof.Gen.SampleOutIdeal.Value
public import Idealize.ShloMosaic.Lib.Pipeline.ValueKit
public import Idealize.ShloMosaic.Lib.VecWindow
public import proofs.«01_k».proof.Proof.SampleSpec

@[expose] public section

set_option maxRecDepth 16384
set_option backward.proofsInPublic true

noncomputable section

namespace Cert.SampleLeave

open Cert.SampleOutIdeal Cert.SampleOutIdeal.Gen Idealize.ShloMosaic Idealize.ShloMosaic.TcCoe Cert.Feed Cert.Sample

theorem zero2 : (![0, 0] : Fin 2 → Nat) = fun _ => 0 := funext fun a => by fin_cases a <;> rfl

/-- The block the body leaves. -/
theorem out_block (x0 : Vec Ideal S512x2048 .bf16) (x1 : Vec Ideal S2048x2048 .bf16) (x2 : Vec Ideal S512x2048 .f32) (x3 : Vec Ideal S1x2048 .f32) :
    out0_4 x0 x1 x2 x3 = k0_pay1 x0 x1 x3 x2 := by
  unfold out0_4
  rw [View.canon_unit_zero zero2]
  simp only [View.ld_unit_zero (S := S512x2048) zero2, View.ld_unit_zero (S := S2048x2048) zero2, View.ld_unit_zero (S := S1x2048) zero2]

/-- The rows plus the update. -/
theorem pay1_apply (a : Vec Ideal S512x2048 .bf16) (w : Vec Ideal S2048x2048 .bf16) (g : Vec Ideal S1x2048 .f32) (x : Vec Ideal S512x2048 .f32)
    (y : Fin 512) (d : Fin 2048) :
    k0_pay1 a w g x (ix2 y d) = x (ix2 y d) + normed (fun e => ∑ k : Fin 2048, a (ix2 y k) * w (ix2 k e)) (fun i => g (ix2 0 i)) d := by
  pointwise [k0_pay1]
  rfl

variable (m : (ℓ : Loc nD τ sig) → Buf (Elt Ideal) ℓ) (c : Dev nD)

/-! ## The blocks the grid points read -/

theorem at_0 : ∀ t : Fin cfg0.N, win0_0.index t = ![0, 0] :=
  (by decide +kernel : ∀ t : Fin grid0.N, win0_0.index t = ![0, 0])

/-- The mixed branches. -/
theorem blk_0 (t : Fin cfg0.N) (y : Fin 512) (z : Fin 2048) :
    iblk m c 0 t (ix2 y z) = m ((c : Thread nD τ).loc main_arg0) (ix2 y z) := by
  unfold iblk
  rw [View.read_apply]
  have e : ((cfg0.win 0).blk t).view.emb (ix2 y z) = ix2 y z := by
    funext a
    match a with
    | ⟨0, _⟩ => exact Fin.ext (by show win0_0.index t 0 * 512 + 1 * y.val = _; rw [at_0]; simp <;> omega)
    | ⟨1, _⟩ => exact Fin.ext (by show win0_0.index t 1 * 2048 + 1 * z.val = _; rw [at_0]; simp <;> omega)
  rw [e]
  show V m c main_v0 (ix2 _ _) = _
  entry_read
  pointwise []

theorem at_1 : ∀ t : Fin cfg0.N, win0_1.index t = ![0, 0] :=
  (by decide +kernel : ∀ t : Fin grid0.N, win0_1.index t = ![0, 0])

/-- The output weight. -/
theorem blk_1 (t : Fin cfg0.N) (y : Fin 2048) (z : Fin 2048) :
    iblk m c 1 t (ix2 y z) = m ((c : Thread nD τ).loc main_arg1) (ix2 y z) := by
  unfold iblk
  rw [View.read_apply]
  have e : ((cfg0.win 1).blk t).view.emb (ix2 y z) = ix2 y z := by
    funext a
    match a with
    | ⟨0, _⟩ => exact Fin.ext (by show win0_1.index t 0 * 2048 + 1 * y.val = _; rw [at_1]; simp <;> omega)
    | ⟨1, _⟩ => exact Fin.ext (by show win0_1.index t 1 * 2048 + 1 * z.val = _; rw [at_1]; simp <;> omega)
  rw [e]
  show V m c main_v1 (ix2 _ _) = _
  entry_read
  pointwise []

theorem at_2 : ∀ t : Fin cfg0.N, win0_2.index t = ![0, 0] :=
  (by decide +kernel : ∀ t : Fin grid0.N, win0_2.index t = ![0, 0])

/-- The rows. -/
theorem blk_2 (t : Fin cfg0.N) (y : Fin 512) (z : Fin 2048) :
    iblk m c 2 t (ix2 y z) = m ((c : Thread nD τ).loc main_arg2) (ix2 y z) := by
  unfold iblk
  rw [View.read_apply]
  refine (congrFun (V_main_arg2 m c) _).trans (congrArg _ ?_)
  funext a
  match a with
  | ⟨0, _⟩ => exact Fin.ext (by show win0_2.index t 0 * 512 + 1 * y.val = _; rw [at_2]; simp <;> omega)
  | ⟨1, _⟩ => exact Fin.ext (by show win0_2.index t 1 * 2048 + 1 * z.val = _; rw [at_2]; simp <;> omega)

theorem at_3 : ∀ t : Fin cfg0.N, win0_3.index t = ![0, 0] :=
  (by decide +kernel : ∀ t : Fin grid0.N, win0_3.index t = ![0, 0])

/-- The norm's weights. -/
theorem blk_3 (t : Fin cfg0.N) (z : Fin 2048) :
    iblk m c 3 t (ix2 0 z) = m ((c : Thread nD τ).loc main_arg3) (ix1 z) := by
  unfold iblk
  rw [View.read_apply]
  have e : ((cfg0.win 3).blk t).view.emb (ix2 0 z) = ix2 0 z := by
    funext a
    match a with
    | ⟨0, _⟩ => exact Fin.ext (by show win0_3.index t 0 * 1 + 1 * 0 = _; rw [at_3]; simp <;> omega)
    | ⟨1, _⟩ => exact Fin.ext (by show win0_3.index t 1 * 2048 + 1 * z.val = _; rw [at_3]; simp <;> omega)
  rw [e]
  show V m c main_v2 (ix2 _ _) = _
  entry_read
  pointwise []

/-! ## The arguments at their indices -/

def inY : Fin 512 → Fin 2048 → EReal := fun i j => m ((c : Thread nD τ).loc main_arg0) (ix2 i j)
def inW : Fin 2048 → Fin 2048 → EReal := fun i j => m ((c : Thread nD τ).loc main_arg1) (ix2 i j)
def inX : Fin 512 → Fin 2048 → EReal := fun i j => m ((c : Thread nD τ).loc main_arg2) (ix2 i j)
def inG : Fin 2048 → EReal := fun i => m ((c : Thread nD τ).loc main_arg3) (ix1 i)

/-- The update of a row, from blocks that hold the arguments' entries. -/
theorem update_eq (a : Vec Ideal S512x2048 .bf16) (w : Vec Ideal S2048x2048 .bf16) (g : Vec Ideal S1x2048 .f32) (y : Fin 512)
    (ha : ∀ k, a (ix2 y k) = inY m c y k) (hw : ∀ k e, w (ix2 k e) = inW m c k e) (hg : ∀ i, g (ix2 0 i) = inG m c i) (d : Fin 2048) :
    normed (fun e => ∑ k : Fin 2048, a (ix2 y k) * w (ix2 k e)) (fun i => g (ix2 0 i)) d =
      normed (fun e => ∑ k, inY m c y k * inW m c k e) (inG m c) d := by
  have eg : (fun i => g (ix2 0 i)) = inG m c := funext hg
  rw [eg]
  refine congrArg (fun f => normed f (inG m c) d) (funext fun e => Finset.sum_congr rfl fun k _ => ?_)
  rw [ha, hw]

/-- The output block. -/
theorem out_eq (t : Fin cfg0.N) (y : Fin 512) (d : Fin 2048) : out0_4 (iblk m c 0 t) (iblk m c 1 t) (iblk m c 2 t) (iblk m c 3 t) (ix2 y d) =
    leave (inX m c) (inG m c) (inY m c) (inW m c) y d := by
  rw [out_block, pay1_apply, update_eq m c (iblk m c 0 t) (iblk m c 1 t) (iblk m c 3 t) y (fun k => blk_0 m c t y k) (fun k e => blk_1 m c t k e)
    (fun i => blk_3 m c t i), blk_2]
  rfl

/-! ## The array after the run -/

/-- The rows before the feed-forward. -/
def result : S512x2048.Idx → EReal := fun i => leave (inX m c) (inG m c) (inY m c) (inW m c) (i 0) (i 1)

theorem at_4 : ∀ t : Fin cfg0.N, win0_4.index t = ![0, 0] :=
  (by decide +kernel : ∀ t : Fin grid0.N, win0_4.index t = ![0, 0])

theorem array_eq : (dats m 0 c).arrAt 4 cfg0.N = result m c := by
  refine (dats m 0 c).arrAt_eq_of_covers 4 _ (by decide +kernel) fun t hf y => ?_
  show (dats m 0 c).after 4 t y = _
  rw [after0_4]
  have hi0 : ((((cfg0.win 4).blk t).view.emb y) 0).val = (y 0).val := by
    show win0_4.index t 0 * 512 + 1 * (y 0).val = _
    rw [at_4]; simp
  have hi1 : ((((cfg0.win 4).blk t).view.emb y) 1).val = (y 1).val := by
    show win0_4.index t 1 * 2048 + 1 * (y 1).val = _
    rw [at_4]; simp
  generalize ((cfg0.win 4).blk t).view.emb y = i at hi0 hi1
  have ey : y = ix2 (y 0) (y 1) := by funext a; match a with | ⟨0, _⟩ => rfl | ⟨1, _⟩ => rfl
  rw [ey]
  refine (out_eq m c t (y 0) (y 1)).trans ?_
  unfold result
  congr 1
  · exact Fin.ext hi0.symm
  · exact Fin.ext hi1.symm

end Cert.SampleLeave
-- ==== Proof.SampleLeaveRef.lean ====
/- What the reference of the sample group's output projection computes, at an index. -/
module

public import proofs.«01_k».proof.Proof.Gen.SampleOutReferenceIdeal.Read
public import proofs.«01_k».proof.Proof.SampleSpec

@[expose] public section

set_option maxRecDepth 16384
set_option backward.proofsInPublic true

noncomputable section

namespace Cert.SampleLeave

open Cert.SampleOutReferenceIdeal Cert.SampleOutReferenceIdeal.Read Idealize.ShloMosaic Cert.Feed Cert.Sample

section
variable (x0 : (⟨S512x2048, .f32⟩ : BufTy).Contents (Elt Ideal)) (x1 : (⟨S2048x2048, .f32⟩ : BufTy).Contents (Elt Ideal)) (x2 : (⟨S512x2048, .f32⟩ : BufTy).Contents (Elt Ideal)) (x3 : (⟨S2048, .f32⟩ : BufTy).Contents (Elt Ideal))

/-- An array of two axes, as a function of its two indices. -/
abbrev two {n k : ℕ} (a : (⟨2, ![n, k]⟩ : Shape).Idx → EReal) : Fin n → Fin k → EReal := fun i j => a (ix2 i j)

/-- An array of one axis, as a function of its index. -/
abbrev one {n : ℕ} (a : (⟨1, ![n]⟩ : Shape).Idx → EReal) : Fin n → EReal := fun i => a (ix1 i)

theorem ref_mixed (r : Fin 512) (e : Fin 2048) : val_main_v0 (F := Ideal) x0 x1 (ix2 r e) = ∑ k, two x0 r k * two x1 k e := by
  pointwise [val_main_v0]

theorem ref_norm (r : Fin 512) (d : Fin 2048) : val_main_v13 (F := Ideal) x0 x1 x3 (ix2 r d) = normed (fun e => ∑ k, two x0 r k * two x1 k e) (one x3) d := by
  have e : (fun e => ∑ k, two x0 r k * two x1 k e) = fun k => val_main_v0 (F := Ideal) x0 x1 (ix2 r k) := funext fun k => (ref_mixed x0 x1 r k).symm
  rw [e]
  pointwise [val_main_v13, val_main_v12, val_main_v11, val_main_v10, val_main_v9, val_main_v8, val_main_v7, val_main_v6, val_main_cst_1, val_main_v5, val_main_v4, val_main_cst_0, val_main_v3, val_main_v2, val_main_cst, val_main_v1]
  rfl

/-- The reference's result. -/
theorem ref_leave (r : Fin 512) (d : Fin 2048) : val_main_v14 (F := Ideal) x0 x1 x2 x3 (ix2 r d) = leave (two x2) (one x3) (two x0) (two x1) r d := by
  pointwise [val_main_v14]
  rw [ref_norm]
  rfl

end

end Cert.SampleLeave
-- ==== Proof.SampleLeaveAssemble.lean ====
/- The claim of the sample group's output projection: the kernel's result is the reference's. -/
module

public import proofs.«01_k».proof.Defs
public import proofs.«01_k».proof.Proof.SampleLeaveResult
public import proofs.«01_k».proof.Proof.SampleLeaveRef
public import proofs.«01_k».proof.Proof.Gen.SampleOutReferenceIdeal.Run

@[expose] public section

set_option maxRecDepth 16384
set_option backward.proofsInPublic true

noncomputable section

namespace Cert.SampleLeave

open Cert.SampleOutIdeal Cert.SampleOutIdeal.Gen Idealize.ShloMosaic Idealize.ShloMosaic.TcCoe Idealize.SL.Sem

variable (m : (ℓ : Loc nD τ sig) → Buf (Elt Ideal) ℓ) (c : Dev nD)

/-- The reference's result, of the same arguments, is the kernel's. -/
theorem ref_result : Cert.SampleOutReferenceIdeal.Read.val_main_v14 (F := Ideal) (m ((c : Thread nD τ).loc main_arg0)) (m ((c : Thread nD τ).loc main_arg1)) (m ((c : Thread nD τ).loc main_arg2)) (m ((c : Thread nD τ).loc main_arg3)) = result m c := by
  funext i
  have e : i = ix2 (i 0) (i 1) := by funext a; match a with | ⟨0, _⟩ => rfl | ⟨1, _⟩ => rfl
  rw [e]
  exact ref_leave _ _ _ _ (i 0) (i 1)

/-- The kernel's result is the reference's, at the extended reals. -/
theorem output_projection : Cert.algebraic_SampleOutIdeal_SampleOutReferenceIdeal (hSampleOutIdeal := Cert.SampleOutIdeal.Gen.facts)
    (hSampleOutReferenceIdeal := Cert.SampleOutReferenceIdeal.Gen.facts) := by
  intro m g m' g' _ hag
  refine ⟨fun c => result m c, ?_, ?_⟩
  · exact (θ_run _ _ _).mono (fun _ h c => ⟨(h c).1.trans (array_eq m c), (h c).2⟩) (Cert.SampleOutIdeal.Value.run_blocks m g)
  · refine (θ_run _ _ _).mono (fun _ h c => ⟨(h c).1.trans ?_, (h c).2⟩) (Cert.SampleOutReferenceIdeal.Value.run m' g')
    obtain ⟨e0, e1, e2, e3⟩ := hag c
    refine (Cert.SampleOutReferenceIdeal.Read.val_main_v14_eq _ _ _ _).trans ?_
    rw [e0, e1, e2, e3]
    exact ref_result m c

/-- The reference declares no counter. -/
theorem reference_counters (f : GSem Cert.SampleOutReferenceIdeal.nD Cert.SampleOutReferenceIdeal.τ Cert.SampleOutReferenceIdeal.sig → Int) : f = fun _ => 0 := by
  funext s
  obtain ⟨_, s | s⟩ := s
  · exact Fin.elim0 s
  · exact Fin.elim0 s

/-- The reference runs, changes no argument and leaves no counter. -/
theorem reference_frame (m : (ℓ : Loc Cert.SampleOutReferenceIdeal.nD Cert.SampleOutReferenceIdeal.τ Cert.SampleOutReferenceIdeal.sig) → Buf (Elt Ideal) ℓ) (g : Dev Cert.SampleOutReferenceIdeal.nD → PrngReg) :
    θ_run (Cert.SampleOutReferenceIdeal.defs (F := Ideal)) (onTc (τ := Cert.SampleOutReferenceIdeal.τ) (Cert.SampleOutReferenceIdeal.main (F := Ideal))) ⟨m, fun _ => 0, g⟩
      (fun r => (∀ c : Dev Cert.SampleOutReferenceIdeal.nD,
        r.2.mem ((c.tc : Thread Cert.SampleOutReferenceIdeal.nD Cert.SampleOutReferenceIdeal.τ).loc Cert.SampleOutReferenceIdeal.main_arg0) = m ((c.tc : Thread Cert.SampleOutReferenceIdeal.nD Cert.SampleOutReferenceIdeal.τ).loc Cert.SampleOutReferenceIdeal.main_arg0)
        ∧ r.2.mem ((c.tc : Thread Cert.SampleOutReferenceIdeal.nD Cert.SampleOutReferenceIdeal.τ).loc Cert.SampleOutReferenceIdeal.main_arg1) = m ((c.tc : Thread Cert.SampleOutReferenceIdeal.nD Cert.SampleOutReferenceIdeal.τ).loc Cert.SampleOutReferenceIdeal.main_arg1)
        ∧ r.2.mem ((c.tc : Thread Cert.SampleOutReferenceIdeal.nD Cert.SampleOutReferenceIdeal.τ).loc Cert.SampleOutReferenceIdeal.main_arg2) = m ((c.tc : Thread Cert.SampleOutReferenceIdeal.nD Cert.SampleOutReferenceIdeal.τ).loc Cert.SampleOutReferenceIdeal.main_arg2)
        ∧ r.2.mem ((c.tc : Thread Cert.SampleOutReferenceIdeal.nD Cert.SampleOutReferenceIdeal.τ).loc Cert.SampleOutReferenceIdeal.main_arg3) = m ((c.tc : Thread Cert.SampleOutReferenceIdeal.nD Cert.SampleOutReferenceIdeal.τ).loc Cert.SampleOutReferenceIdeal.main_arg3))
      ∧ r.2.sem = fun _ => 0) :=
  (θ_run _ _ _).mono (fun _ h => ⟨fun c => (h c).2, reference_counters _⟩) (Cert.SampleOutReferenceIdeal.Value.run m g)

end Cert.SampleLeave
-- ==== Proof.SampleFfnCase.lean ====
/- What one grid point of the sample group's feed-forward leaves in its buffers. -/
module

public import proofs.«01_k».proof.Proof.Gen.SampleFfnIdeal.Value
public import Idealize.ShloMosaic.Lib.Pipeline.ValueKit
public import Idealize.ShloMosaic.Lib.VecWindow

@[expose] public section

set_option maxRecDepth 16384
set_option backward.proofsInPublic true

noncomputable section

namespace Cert.SampleFeed

open Cert.SampleFfnIdeal Cert.SampleFfnIdeal.Gen Idealize.ShloMosaic Idealize.ShloMosaic.TcCoe

section Cases

variable {F : FTy → Type} [FloatOps F]

theorem zero2 : (![0, 0] : Fin 2 → Nat) = fun _ => 0 := funext fun a => by fin_cases a <;> rfl

/-- One row of the convolution's weights. -/
def tap (w : Vec F S3x512 .f32) (k : ℕ) (h : ∀ a, (![k, 0] : Fin 2 → Nat) a + S1x512.size a ≤ S3x512.size a) : Vec F S1x512 .f32 :=
  View.ld w (Rect.unit (s := S3x512) ![k, 0] S1x512.size h)

/-- The gate one row before each row. -/
def prev1 (h : Vec F S512x2048 .bf16) (wg : Vec F S2048x512 .bf16) (sb : Vec F S16x512 .f32) : FVec F S512x512 .f32 :=
  k0_pay20 (k0_pay6 h wg) k0_pay8 (k0_pay13 sb) (k0_pay14 sb) (k0_pay15 sb) (k0_pay16 sb) (k0_pay17 sb) (k0_pay18 sb)

/-- The gate two rows before each row. -/
def prev2 (h : Vec F S512x2048 .bf16) (wg : Vec F S2048x512 .bf16) (sa sb : Vec F S16x512 .f32) : FVec F S512x512 .f32 :=
  k0_pay21 (k0_pay7 h wg) k0_pay8 (k0_pay12 (k0_pay9 sa) (k0_pay10 sa) (k0_pay11 sa)) (k0_pay13 sb) (k0_pay14 sb) (k0_pay15 sb) (k0_pay16 sb)
    (k0_pay17 sb) (k0_pay18 sb)

/-- What one grid point adds to the output block. -/
def step (h : Vec F S512x2048 .bf16) (wg wv : Vec F S2048x512 .bf16) (wd : Vec F S512x2048 .bf16) (cw : Vec F S3x512 .f32)
    (cb : Vec F S1x512 .f32) (sa sb : Vec F S16x512 .f32) (acc : Vec F S512x2048 .f32) : Vec F S512x2048 .f32 :=
  k0_pay23 (k0_pay4 h wg) (k0_pay5 h wv) (prev1 h wg sb) (prev2 h wg sa sb) (k0_pay22 cb)
    (tap cw 0 inb_S3x512_S1x512_0_0) (tap cw 1 inb_S3x512_S1x512_1_0) (tap cw 2 inb_S3x512_S1x512_2_0) acc wd

/-- The last eight rows of each sequence, from the gate. -/
def tails (v : FVec F S512x512 .f32) : Vec F S16x8x512 .f32 := View.canon [
    ⟨Rect.unit (s := S16x8x512) ![15, 0, 0] S1x8x512.size inb_S16x8x512_S1x8x512_15_0_0, k0_pay41 v⟩,
    ⟨Rect.unit (s := S16x8x512) ![14, 0, 0] S1x8x512.size inb_S16x8x512_S1x8x512_14_0_0, k0_pay40 v⟩,
    ⟨Rect.unit (s := S16x8x512) ![13, 0, 0] S1x8x512.size inb_S16x8x512_S1x8x512_13_0_0, k0_pay39 v⟩,
    ⟨Rect.unit (s := S16x8x512) ![12, 0, 0] S1x8x512.size inb_S16x8x512_S1x8x512_12_0_0, k0_pay38 v⟩,
    ⟨Rect.unit (s := S16x8x512) ![11, 0, 0] S1x8x512.size inb_S16x8x512_S1x8x512_11_0_0, k0_pay37 v⟩,
    ⟨Rect.unit (s := S16x8x512) ![10, 0, 0] S1x8x512.size inb_S16x8x512_S1x8x512_10_0_0, k0_pay36 v⟩,
    ⟨Rect.unit (s := S16x8x512) ![9, 0, 0] S1x8x512.size inb_S16x8x512_S1x8x512_9_0_0, k0_pay35 v⟩,
    ⟨Rect.unit (s := S16x8x512) ![8, 0, 0] S1x8x512.size inb_S16x8x512_S1x8x512_8_0_0, k0_pay34 (k0_pay33 v)⟩,
    ⟨Rect.unit (s := S16x8x512) ![7, 0, 0] S1x8x512.size inb_S16x8x512_S1x8x512_7_0_0, k0_pay32 v⟩,
    ⟨Rect.unit (s := S16x8x512) ![6, 0, 0] S1x8x512.size inb_S16x8x512_S1x8x512_6_0_0, k0_pay31 v⟩,
    ⟨Rect.unit (s := S16x8x512) ![5, 0, 0] S1x8x512.size inb_S16x8x512_S1x8x512_5_0_0, k0_pay30 v⟩,
    ⟨Rect.unit (s := S16x8x512) ![4, 0, 0] S1x8x512.size inb_S16x8x512_S1x8x512_4_0_0, k0_pay29 v⟩,
    ⟨Rect.unit (s := S16x8x512) ![3, 0, 0] S1x8x512.size inb_S16x8x512_S1x8x512_3_0_0, k0_pay28 v⟩,
    ⟨Rect.unit (s := S16x8x512) ![2, 0, 0] S1x8x512.size inb_S16x8x512_S1x8x512_2_0_0, k0_pay27 v⟩,
    ⟨Rect.unit (s := S16x8x512) ![1, 0, 0] S1x8x512.size inb_S16x8x512_S1x8x512_1_0_0, k0_pay26 (k0_pay25 v)⟩,
    ⟨Rect.unit (s := S16x8x512) ![0, 0, 0] S1x8x512.size inb_S16x8x512_S1x8x512_0_0_0, k0_pay24 v⟩]

/-- Reading a whole buffer back gives what was written to it. -/
theorem whole_load (v : View sig .tc .vmem S512x2048 .bf16) (L : List (View.Piece (Elt F) S512x2048 .bf16))
    (inb : ∀ a, (![0, 0] : Fin 2 → ℕ) a + S512x2048.size a ≤ S512x2048.size a) :
    v.readCov L (Rect.unit (s := S512x2048) ![0, 0] S512x2048.size inb).toLoadRect = View.canon L :=
  (View.readCov_eq_canon' v L _).trans (View.ld_unit_zero (S := S512x2048) zero2 inb (View.canon L))

variable (c : Dev nD) (i : grid0.Coords)
  (a2 : Memref sig .tc .vmem S512x2048 .f32) (h2 : a2.IsWhole)
  (a3 : Memref sig .tc .vmem S16x512 .f32) (h3 : a3.IsWhole)
  (a4 : Memref sig .tc .vmem S16x512 .f32) (h4 : a4.IsWhole)
  (a5 : Memref sig .tc .vmem S1x2048 .f32) (h5 : a5.IsWhole)
  (a6 : Memref sig .tc .vmem S2048x512 .bf16) (h6 : a6.IsWhole)
  (a7 : Memref sig .tc .vmem S2048x512 .bf16) (h7 : a7.IsWhole)
  (a8 : Memref sig .tc .vmem S512x2048 .bf16) (h8 : a8.IsWhole)
  (a9 : Memref sig .tc .vmem S3x512 .f32) (h9 : a9.IsWhole)
  (a10 : Memref sig .tc .vmem S1x512 .f32) (h10 : a10.IsWhole)
  (a11 : Memref sig .tc .vmem S1x2048 .f32) (h11 : a11.IsWhole)
  (a12 : Memref sig .tc .vmem S512x2048 .f32) (h12 : a12.IsWhole)
  (a13 : Memref sig .tc .vmem S16x8x512 .f32) (h13 : a13.IsWhole)
  (a14 : Memref sig .tc .vmem S512x2048 .bf16) (h14 : a14.IsWhole)
  (x0 : Vec F S512x2048 .f32) (x1 : Vec F S16x512 .f32) (x2 : Vec F S16x512 .f32) (x3 : Vec F S1x2048 .f32) (x4 : Vec F S2048x512 .bf16) (x5 : Vec F S2048x512 .bf16) (x6 : Vec F S512x2048 .bf16) (x7 : Vec F S3x512 .f32) (x8 : Vec F S1x512 .f32) (x9 : Vec F S1x2048 .f32)
  (acc : Vec F S512x2048 .f32) (hid : Vec F S512x2048 .bf16)

/-- At the first point the kept rows are made, and the sum starts from nothing. -/
theorem out_A (n0 : cond0_0 i) (n1 : ¬cond0_1 i) :
    out0_A_10 c i a2 h2 a3 h3 a4 h4 a5 h5 a6 h6 a7 h7 a8 h8 a9 h9 a10 h10 a11 h11 a12 h12 a13 h13 a14 h14 n0 n1 x0 x1 x2 x3 x4 x5 x6 x7 x8 x9 = step (k0_pay2 x0 x3) x4 x5 x6 x7 x8 x1 x2 k0_pay3 := by
  unfold out0_A_10
  rw [View.read_writes_eq_canon _ _ _ (fun y => cover0_A_10 (y := y) ..)]
  unfold kernelRun0_A
  dsimp only
  sl_unfold_words
  rw [View.canon_cons_unit_zero zero2]
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S512x2048) zero2, View.ld_unit_zero (S := S16x512) zero2, View.ld_unit_zero (S := S1x2048) zero2, View.ld_unit_zero (S := S2048x512) zero2, View.ld_unit_zero (S := S1x512) zero2]
  rw [View.readCov_full, View.readCov_full]
  rfl

/-- At a middle point the group is added to the sum. -/
theorem out_B (n0 : ¬cond0_0 i) (n1 : ¬cond0_1 i) :
    out0_B_10 c i a2 h2 a3 h3 a4 h4 a5 h5 a6 h6 a7 h7 a8 h8 a9 h9 a10 h10 a11 h11 a12 h12 a13 h13 a14 h14 n0 n1 x0 x1 x2 x3 x4 x5 x6 x7 x8 x9 acc hid = step hid x4 x5 x6 x7 x8 x1 x2 acc := by
  unfold out0_B_10
  rw [View.read_writes_eq_canon _ _ _ (fun y => cover0_B_10 (y := y) ..)]
  unfold kernelRun0_B
  dsimp only
  sl_unfold_words
  rw [View.canon_cons_unit_zero zero2]
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S512x2048) zero2, View.ld_unit_zero (S := S16x512) zero2, View.ld_unit_zero (S := S1x2048) zero2, View.ld_unit_zero (S := S2048x512) zero2, View.ld_unit_zero (S := S1x512) zero2]
  rfl

/-- At the last point the group is added, and the whole sum is normalized and added to the rows. -/
theorem out_C (n0 : ¬cond0_0 i) (n1 : cond0_1 i) :
    out0_C_10 c i a2 h2 a3 h3 a4 h4 a5 h5 a6 h6 a7 h7 a8 h8 a9 h9 a10 h10 a11 h11 a12 h12 a13 h13 a14 h14 n0 n1 x0 x1 x2 x3 x4 x5 x6 x7 x8 x9 acc hid = k0_pay1 x0 (step hid x4 x5 x6 x7 x8 x1 x2 acc) x9 := by
  unfold out0_C_10
  rw [View.read_writes_eq_canon _ _ _ (fun y => cover0_C_10 (y := y) ..)]
  unfold kernelRun0_C
  dsimp only
  sl_unfold_words
  rw [View.canon_cons_unit_zero zero2]
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S512x2048) zero2, View.ld_unit_zero (S := S16x512) zero2, View.ld_unit_zero (S := S1x2048) zero2, View.ld_unit_zero (S := S2048x512) zero2, View.ld_unit_zero (S := S1x512) zero2]
  congr 1
  rw [View.readCov_full]
  rfl

/-- The last rows of the gate, from the rows just made. -/
theorem tail_A (n0 : cond0_0 i) (n1 : ¬cond0_1 i) :
    out0_A_11 c i a2 h2 a3 h3 a4 h4 a5 h5 a6 h6 a7 h7 a8 h8 a9 h9 a10 h10 a11 h11 a12 h12 a13 h13 a14 h14 n0 n1 x0 x1 x2 x3 x4 x5 x6 x7 x8 x9 = tails (k0_pay4 (k0_pay2 x0 x3) x4) := by
  unfold out0_A_11
  rw [View.read_writes_eq_canon _ _ _ (fun y => cover0_A_11 (y := y) ..)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S512x2048) zero2, View.ld_unit_zero (S := S16x512) zero2, View.ld_unit_zero (S := S1x2048) zero2, View.ld_unit_zero (S := S2048x512) zero2, View.ld_unit_zero (S := S1x512) zero2]
  rw [whole_load]
  rw [View.canon_unit_zero zero2]
  rfl

/-- The last rows of the gate, from the kept rows. -/
theorem tail_B (n0 : ¬cond0_0 i) (n1 : ¬cond0_1 i) :
    out0_B_11 c i a2 h2 a3 h3 a4 h4 a5 h5 a6 h6 a7 h7 a8 h8 a9 h9 a10 h10 a11 h11 a12 h12 a13 h13 a14 h14 n0 n1 x0 x1 x2 x3 x4 x5 x6 x7 x8 x9 acc hid = tails (k0_pay4 hid x4) := by
  unfold out0_B_11
  rw [View.read_writes_eq_canon _ _ _ (fun y => cover0_B_11 (y := y) ..)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S512x2048) zero2, View.ld_unit_zero (S := S16x512) zero2, View.ld_unit_zero (S := S1x2048) zero2, View.ld_unit_zero (S := S2048x512) zero2, View.ld_unit_zero (S := S1x512) zero2]
  rfl

/-- The same at the last point. -/
theorem tail_C (n0 : ¬cond0_0 i) (n1 : cond0_1 i) :
    out0_C_11 c i a2 h2 a3 h3 a4 h4 a5 h5 a6 h6 a7 h7 a8 h8 a9 h9 a10 h10 a11 h11 a12 h12 a13 h13 a14 h14 n0 n1 x0 x1 x2 x3 x4 x5 x6 x7 x8 x9 acc hid = tails (k0_pay4 hid x4) := by
  unfold out0_C_11
  rw [View.read_writes_eq_canon _ _ _ (fun y => cover0_C_11 (y := y) ..)]
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S512x2048) zero2, View.ld_unit_zero (S := S16x512) zero2, View.ld_unit_zero (S := S1x2048) zero2, View.ld_unit_zero (S := S2048x512) zero2, View.ld_unit_zero (S := S1x512) zero2]
  rfl

/-- The rows kept at the first point. -/
theorem kept_A (n0 : cond0_0 i) (n1 : ¬cond0_1 i) :
    sout0_A_0 c i a2 h2 a3 h3 a4 h4 a5 h5 a6 h6 a7 h7 a8 h8 a9 h9 a10 h10 a11 h11 a12 h12 a13 h13 a14 h14 n0 n1 x0 x1 x2 x3 x4 x5 x6 x7 x8 x9 = k0_pay2 x0 x3 := by
  unfold sout0_A_0
  rw [View.read_writes_eq_canon _ _ _ (fun y => scover0_A_0 (y := y) ..)]
  unfold kernelRun0_A
  dsimp only
  sl_unfold_words
  rw [View.canon_cons_unit_zero zero2]
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S512x2048) zero2, View.ld_unit_zero (S := S16x512) zero2, View.ld_unit_zero (S := S1x2048) zero2, View.ld_unit_zero (S := S2048x512) zero2, View.ld_unit_zero (S := S1x512) zero2]

end Cases

end Cert.SampleFeed
-- ==== Proof.SampleFfnRead.lean ====
/- The sample group's feed-forward, its arithmetic at an index, at the ideal instance. -/
module

public import proofs.«01_k».proof.Proof.SampleSpec
public import proofs.«01_k».proof.Proof.SampleFfnCase

@[expose] public section

set_option maxRecDepth 16384
set_option backward.proofsInPublic true

noncomputable section

namespace Cert.SampleFeed

open Cert.SampleFfnIdeal Cert.SampleFfnIdeal.Gen Idealize.ShloMosaic Cert.Feed

/-- The group's rows, normalized. -/
theorem pay2_apply (x : Vec Ideal S512x2048 .f32) (g : Vec Ideal S1x2048 .f32) (r : Fin 512) (k : Fin 2048) :
    k0_pay2 x g (ix2 r k) = normed (fun i => x (ix2 r i)) (fun i => g (ix2 0 i)) k := by
  pointwise [k0_pay2]
  rfl

/-- The last point's write: the rows plus the normalized sum. -/
theorem pay1_apply (x acc : Vec Ideal S512x2048 .f32) (g : Vec Ideal S1x2048 .f32) (r : Fin 512) (k : Fin 2048) :
    k0_pay1 x acc g (ix2 r k) = x (ix2 r k) + normed (fun i => acc (ix2 r i)) (fun i => g (ix2 0 i)) k := by
  pointwise [k0_pay1]
  rfl

/-- The sum starts at zero. -/
theorem pay3_apply (r : Fin 512) (k : Fin 2048) : (k0_pay3 (F := Ideal)) (ix2 r k) = 0 := by
  pointwise [k0_pay3]

/-- Row `r` of the kept rows against column `n` of a weight's group. -/
def colsum (h : Vec Ideal S512x2048 .bf16) (w : Vec Ideal S2048x512 .bf16) (r : Fin 512) (n : Fin 512) : EReal :=
  ∑ k : Fin 2048, h (ix2 r k) * w (ix2 k n)

theorem pay4_apply (h : Vec Ideal S512x2048 .bf16) (w : Vec Ideal S2048x512 .bf16) (r : Fin 512) (n : Fin 512) :
    k0_pay4 h w (ix2 r n) = colsum h w r n := by
  pointwise [k0_pay4]
  rfl

theorem pay5_apply (h : Vec Ideal S512x2048 .bf16) (w : Vec Ideal S2048x512 .bf16) (r : Fin 512) (n : Fin 512) :
    k0_pay5 h w (ix2 r n) = colsum h w r n := by
  pointwise [k0_pay5]
  rfl

/-- Whether a row is the first of its sequence. -/
theorem first_flag (r : Fin 512) : IntOp.cmpi CmpIPredicate.eq (k0_pay8 (ix2 r 0)) 0#32 = if r.val % 32 = 0 then 1#1 else 0#1 := by
  revert r
  decide +kernel

/-- Whether a row is the second of its sequence. -/
theorem second_flag (r : Fin 512) : IntOp.cmpi CmpIPredicate.eq (k0_pay8 (ix2 r 0)) 1#32 = if r.val % 32 = 1 then 1#1 else 0#1 := by
  revert r
  decide +kernel

/-- A choice by a flag is a choice by the fact the flag stands for. -/
theorem choose (p : Prop) [Decidable p] (a b : EReal) : Scalar.select (if p then 1#1 else 0#1) a b = if p then a else b := by
  by_cases h : p
  · rw [if_pos h, if_pos h]; rfl
  · rw [if_neg h, if_neg h]; rfl

/-- A choice equals what both sides equal. -/
theorem pick {p : Prop} [Decidable p] (a b z : EReal) (ha : p → a = z) (hb : ¬p → b = z) : (if _ : p then a else b) = z := by
  by_cases h : p
  · rw [dif_pos h]; exact ha h
  · rw [dif_neg h]; exact hb h

/-- The older kept rows, each repeated over its sequence. -/
theorem older_apply (sa : Vec Ideal S16x512 .f32) (r : Fin 512) (n : Fin 512) :
    k0_pay12 (k0_pay9 sa) (k0_pay10 sa) (k0_pay11 sa) (ix2 r n) = sa (ix2 ⟨r.val / 32, by omega⟩ n) := by
  pointwise [k0_pay12, k0_pay9, k0_pay10, k0_pay11]
  repeat' (refine pick _ _ _ (fun _ => ?_) (fun _ => ?_))
  all_goals (refine congrArg sa (congrArg (fun q : Fin 16 => (ix2 q n : S16x512.Idx)) (Fin.ext ?_)); simp; omega)

/-- The newer kept rows, each repeated over its sequence. -/
theorem newer_apply (sb : Vec Ideal S16x512 .f32) (r : Fin 512) (n : Fin 512) :
    k0_pay19 (k0_pay13 sb) (k0_pay14 sb) (k0_pay15 sb) (k0_pay16 sb) (k0_pay17 sb) (k0_pay18 sb) (ix2 r n) = sb (ix2 ⟨r.val / 32, by omega⟩ n) := by
  pointwise [k0_pay19, k0_pay13, k0_pay14, k0_pay15, k0_pay16, k0_pay17, k0_pay18]
  repeat' (refine pick _ _ _ (fun _ => ?_) (fun _ => ?_))
  all_goals (refine congrArg sb (congrArg (fun q : Fin 16 => (ix2 q n : S16x512.Idx)) (Fin.ext ?_)); simp; omega)

theorem prev1_apply (h : Vec Ideal S512x2048 .bf16) (wg : Vec Ideal S2048x512 .bf16) (sb : Vec Ideal S16x512 .f32) (r : Fin 512) (n : Fin 512) :
    prev1 h wg sb (ix2 r n) = if r.val % 32 = 0 then sb (ix2 ⟨r.val / 32, by omega⟩ n) else colsum h wg ⟨r.val - 1, by omega⟩ n := by
  unfold prev1
  pointwise [k0_pay20, k0_pay6, k0_pay4]
  rw [first_flag, choose, newer_apply]
  by_cases c : r.val % 32 = 0
  · rw [if_pos c, if_pos c]
  · rw [if_neg c, if_neg c]
    have e : (r.val + 512 - 1) % 512 = r.val - 1 := by omega
    simp only [e]
    rfl

theorem prev2_apply (h : Vec Ideal S512x2048 .bf16) (wg : Vec Ideal S2048x512 .bf16) (sa sb : Vec Ideal S16x512 .f32) (r : Fin 512) (n : Fin 512) :
    prev2 h wg sa sb (ix2 r n) = if r.val % 32 = 0 then sa (ix2 ⟨r.val / 32, by omega⟩ n)
      else if r.val % 32 = 1 then sb (ix2 ⟨r.val / 32, by omega⟩ n) else colsum h wg ⟨r.val - 2, by omega⟩ n := by
  unfold prev2
  pointwise [k0_pay21, k0_pay7, k0_pay4]
  rw [first_flag, second_flag, choose, choose, newer_apply, older_apply]
  by_cases c : r.val % 32 = 0
  · rw [if_pos c, if_pos c]
  · rw [if_neg c, if_neg c]
    by_cases d : r.val % 32 = 1
    · rw [if_pos d, if_pos d]
    · rw [if_neg d, if_neg d]
      have e : (r.val + 512 - 2) % 512 = r.val - 2 := by omega
      simp only [e]
      rfl

theorem tap_apply (w : Vec Ideal S3x512 .f32) (k : Fin 3) (h : ∀ a, (![k.val, 0] : Fin 2 → Nat) a + S1x512.size a ≤ S3x512.size a) (n : Fin 512) :
    tap w k.val h (ix2 0 n) = w (ix2 k n) := by
  unfold tap
  refine congrArg w (funext fun a => ?_)
  match a with
  | ⟨0, _⟩ => exact Fin.ext (by simp)
  | ⟨1, _⟩ => exact Fin.ext (by simp)

theorem pay23_apply (v6 v9 p1 p2 : Vec Ideal S512x512 .f32) (cb c0 c1 c2 : Vec Ideal S1x512 .f32) (acc : Vec Ideal S512x2048 .f32)
    (wd : Vec Ideal S512x2048 .bf16) (r : Fin 512) (k : Fin 2048) :
    k0_pay23 v6 v9 p1 p2 cb c0 c1 c2 acc wd (ix2 r k) = acc (ix2 r k) + ∑ n : Fin 512,
      gelu (cb (ix2 0 n) + p2 (ix2 r n) * c0 (ix2 0 n) + p1 (ix2 r n) * c1 (ix2 0 n) + v6 (ix2 r n) * c2 (ix2 0 n)) * v9 (ix2 r n) * wd (ix2 n k) := by
  pointwise [k0_pay23]
  rfl

theorem pay22_apply (cb : Vec Ideal S1x512 .f32) (n : Fin 512) : k0_pay22 cb (ix2 0 n) = cb (ix2 0 n) := by
  pointwise [k0_pay22]

/-- A grid point's step: the group's hidden columns against its rows of the second weight, added. -/
theorem step_apply (h : Vec Ideal S512x2048 .bf16) (wg wv : Vec Ideal S2048x512 .bf16) (wd : Vec Ideal S512x2048 .bf16) (cw : Vec Ideal S3x512 .f32)
    (cb : Vec Ideal S1x512 .f32) (sa sb : Vec Ideal S16x512 .f32) (acc : Vec Ideal S512x2048 .f32) (r : Fin 512) (k : Fin 2048) :
    step h wg wv wd cw cb sa sb acc (ix2 r k) = acc (ix2 r k) + ∑ n : Fin 512,
      gelu (cb (ix2 0 n) + prev2 h wg sa sb (ix2 r n) * cw (ix2 0 n) + prev1 h wg sb (ix2 r n) * cw (ix2 1 n)
        + colsum h wg r n * cw (ix2 2 n)) * colsum h wv r n * wd (ix2 n k) := by
  unfold step
  rw [pay23_apply]
  refine congrArg _ (Finset.sum_congr rfl fun n _ => ?_)
  rw [pay4_apply, pay5_apply, pay22_apply]
  have t0 : tap cw 0 inb_S3x512_S1x512_0_0 (ix2 0 n) = cw (ix2 0 n) := tap_apply cw 0 _ n
  have t1 : tap cw 1 inb_S3x512_S1x512_1_0 (ix2 0 n) = cw (ix2 1 n) := tap_apply cw 1 _ n
  have t2 : tap cw 2 inb_S3x512_S1x512_2_0 (ix2 0 n) = cw (ix2 2 n) := tap_apply cw 2 _ n
  rw [t0, t1, t2]

/-- A row written elsewhere does not change this one. -/
theorem tail_skip (c : ℕ) (inb : ∀ a, (![c, 0, 0] : Fin 3 → ℕ) a + S1x8x512.size a ≤ S16x8x512.size a) (w : S1x8x512.Idx → Elt Ideal .f32)
    (L : List (View.Piece (Elt Ideal) S16x8x512 .f32)) (b : Fin 16) (s : Fin 8) (n : Fin 512) (hb : b.val < c) (z : EReal)
    (e : View.canon L (ix3 b s n) = z) :
    View.canon (⟨Rect.unit (s := S16x8x512) ![c, 0, 0] S1x8x512.size inb, w⟩ :: L) (ix3 b s n) = z := by
  have hm : (ix3 b s n : S16x8x512.Idx) ∉ (Rect.unit (s := S16x8x512) ![c, 0, 0] S1x8x512.size inb).set := by
    rw [Rect.mem_set_unit]
    intro h
    have h1 : c ≤ b.val := (h (0 : Fin 3)).1
    omega
  rw [View.canon_cons_of_not_mem ⟨Rect.unit (s := S16x8x512) ![c, 0, 0] S1x8x512.size inb, w⟩ _ hm]
  exact e

/-- A row just written is read back. -/
theorem tail_hit (b : Fin 16) (inb : ∀ a, (![b.val, 0, 0] : Fin 3 → ℕ) a + S1x8x512.size a ≤ S16x8x512.size a) (w : S1x8x512.Idx → Elt Ideal .f32)
    (L : List (View.Piece (Elt Ideal) S16x8x512 .f32)) (s : Fin 8) (n : Fin 512) :
    View.canon (⟨Rect.unit (s := S16x8x512) ![b.val, 0, 0] S1x8x512.size inb, w⟩ :: L) (ix3 b s n) = w (ix3 0 s n) := by
  have e : (ix3 b s n : S16x8x512.Idx) = (Rect.unit (s := S16x8x512) ![b.val, 0, 0] S1x8x512.size inb).emb (ix3 0 s n : S1x8x512.Idx) := by
    funext a
    match a with
    | ⟨0, _⟩ => exact Fin.ext (by show b.val = b.val + 1 * 0; omega)
    | ⟨1, _⟩ => exact Fin.ext (by show s.val = 0 + 1 * s.val; omega)
    | ⟨2, _⟩ => exact Fin.ext (by show n.val = 0 + 1 * n.val; omega)
  rw [e, View.canon_cons]
  exact Rect.overlay_emb _ _ _ _

section
variable (v : FVec Ideal S512x512 .f32) (s : Fin 8) (n : Fin 512)

theorem tails_0 : tails v (ix3 0 s n) = v (ix2 ⟨24 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine tail_skip 8 _ _ _ _ s n (by decide) _ ?_
  refine tail_skip 7 _ _ _ _ s n (by decide) _ ?_
  refine tail_skip 6 _ _ _ _ s n (by decide) _ ?_
  refine tail_skip 5 _ _ _ _ s n (by decide) _ ?_
  refine tail_skip 4 _ _ _ _ s n (by decide) _ ?_
  refine tail_skip 3 _ _ _ _ s n (by decide) _ ?_
  refine tail_skip 2 _ _ _ _ s n (by decide) _ ?_
  refine tail_skip 1 _ _ _ _ s n (by decide) _ ?_
  refine (tail_hit 0 _ _ _ s n).trans ?_
  pointwise [k0_pay24]

theorem tails_1 : tails v (ix3 1 s n) = v (ix2 ⟨56 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine tail_skip 8 _ _ _ _ s n (by decide) _ ?_
  refine tail_skip 7 _ _ _ _ s n (by decide) _ ?_
  refine tail_skip 6 _ _ _ _ s n (by decide) _ ?_
  refine tail_skip 5 _ _ _ _ s n (by decide) _ ?_
  refine tail_skip 4 _ _ _ _ s n (by decide) _ ?_
  refine tail_skip 3 _ _ _ _ s n (by decide) _ ?_
  refine tail_skip 2 _ _ _ _ s n (by decide) _ ?_
  refine (tail_hit 1 _ _ _ s n).trans ?_
  pointwise [k0_pay26, k0_pay25]

theorem tails_2 : tails v (ix3 2 s n) = v (ix2 ⟨88 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine tail_skip 8 _ _ _ _ s n (by decide) _ ?_
  refine tail_skip 7 _ _ _ _ s n (by decide) _ ?_
  refine tail_skip 6 _ _ _ _ s n (by decide) _ ?_
  refine tail_skip 5 _ _ _ _ s n (by decide) _ ?_
  refine tail_skip 4 _ _ _ _ s n (by decide) _ ?_
  refine tail_skip 3 _ _ _ _ s n (by decide) _ ?_
  refine (tail_hit 2 _ _ _ s n).trans ?_
  pointwise [k0_pay27]

theorem tails_3 : tails v (ix3 3 s n) = v (ix2 ⟨120 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine tail_skip 8 _ _ _ _ s n (by decide) _ ?_
  refine tail_skip 7 _ _ _ _ s n (by decide) _ ?_
  refine tail_skip 6 _ _ _ _ s n (by decide) _ ?_
  refine tail_skip 5 _ _ _ _ s n (by decide) _ ?_
  refine tail_skip 4 _ _ _ _ s n (by decide) _ ?_
  refine (tail_hit 3 _ _ _ s n).trans ?_
  pointwise [k0_pay28]

theorem tails_4 : tails v (ix3 4 s n) = v (ix2 ⟨152 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine tail_skip 8 _ _ _ _ s n (by decide) _ ?_
  refine tail_skip 7 _ _ _ _ s n (by decide) _ ?_
  refine tail_skip 6 _ _ _ _ s n (by decide) _ ?_
  refine tail_skip 5 _ _ _ _ s n (by decide) _ ?_
  refine (tail_hit 4 _ _ _ s n).trans ?_
  pointwise [k0_pay29]

theorem tails_5 : tails v (ix3 5 s n) = v (ix2 ⟨184 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine tail_skip 8 _ _ _ _ s n (by decide) _ ?_
  refine tail_skip 7 _ _ _ _ s n (by decide) _ ?_
  refine tail_skip 6 _ _ _ _ s n (by decide) _ ?_
  refine (tail_hit 5 _ _ _ s n).trans ?_
  pointwise [k0_pay30]

theorem tails_6 : tails v (ix3 6 s n) = v (ix2 ⟨216 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine tail_skip 8 _ _ _ _ s n (by decide) _ ?_
  refine tail_skip 7 _ _ _ _ s n (by decide) _ ?_
  refine (tail_hit 6 _ _ _ s n).trans ?_
  pointwise [k0_pay31]

theorem tails_7 : tails v (ix3 7 s n) = v (ix2 ⟨248 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine tail_skip 8 _ _ _ _ s n (by decide) _ ?_
  refine (tail_hit 7 _ _ _ s n).trans ?_
  pointwise [k0_pay32]

theorem tails_8 : tails v (ix3 8 s n) = v (ix2 ⟨280 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine tail_skip 9 _ _ _ _ s n (by decide) _ ?_
  refine (tail_hit 8 _ _ _ s n).trans ?_
  pointwise [k0_pay34, k0_pay33]

theorem tails_9 : tails v (ix3 9 s n) = v (ix2 ⟨312 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine tail_skip 10 _ _ _ _ s n (by decide) _ ?_
  refine (tail_hit 9 _ _ _ s n).trans ?_
  pointwise [k0_pay35]

theorem tails_10 : tails v (ix3 10 s n) = v (ix2 ⟨344 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine tail_skip 11 _ _ _ _ s n (by decide) _ ?_
  refine (tail_hit 10 _ _ _ s n).trans ?_
  pointwise [k0_pay36]

theorem tails_11 : tails v (ix3 11 s n) = v (ix2 ⟨376 + s.val, by omega⟩ n) := by
  refine tail_skip 15 _ _ _ _ s n (by decide) _ ?_
  refine tail_skip 14 _ _ _ _ s n (by decide) _ ?_
  refine tail_skip 13 _ _ _ _ s n (by decide) _ ?_
  refine tail_skip 12 _ _ _ _ s n (by decide) _ ?_
  refine (tail_hit 11 _ _ _ s n).trans ?_
  pointwise [k0_pay37]

theorem tails_12 : tails v (ix3 12 s n) = v (ix2 ⟨408 + s.val, by omega⟩ n) := by
  refine tail_skip 15 _ _ _ _ s n (by decide) _ ?_
  refine tail_skip 14 _ _ _ _ s n (by decide) _ ?_
  refine tail_skip 13 _ _ _ _ s n (by decide) _ ?_
  refine (tail_hit 12 _ _ _ s n).trans ?_
  pointwise [k0_pay38]

theorem tails_13 : tails v (ix3 13 s n) = v (ix2 ⟨440 + s.val, by omega⟩ n) := by
  refine tail_skip 15 _ _ _ _ s n (by decide) _ ?_
  refine tail_skip 14 _ _ _ _ s n (by decide) _ ?_
  refine (tail_hit 13 _ _ _ s n).trans ?_
  pointwise [k0_pay39]

theorem tails_14 : tails v (ix3 14 s n) = v (ix2 ⟨472 + s.val, by omega⟩ n) := by
  refine tail_skip 15 _ _ _ _ s n (by decide) _ ?_
  refine (tail_hit 14 _ _ _ s n).trans ?_
  pointwise [k0_pay40]

theorem tails_15 : tails v (ix3 15 s n) = v (ix2 ⟨504 + s.val, by omega⟩ n) := by
  refine (tail_hit 15 _ _ _ s n).trans ?_
  pointwise [k0_pay41]

/-- The last eight rows of each sequence. -/
theorem tails_apply (b : Fin 16) : tails v (ix3 b s n) = v (ix2 ⟨32 * b.val + (24 + s.val), by omega⟩ n) := by
  match b with
  | ⟨0, _⟩ => exact (tails_0 v s n).trans (congrArg (fun q => v (ix2 q n)) (Fin.ext (by show 24 + s.val = 32 * 0 + (24 + s.val); omega)))
  | ⟨1, _⟩ => exact (tails_1 v s n).trans (congrArg (fun q => v (ix2 q n)) (Fin.ext (by show 56 + s.val = 32 * 1 + (24 + s.val); omega)))
  | ⟨2, _⟩ => exact (tails_2 v s n).trans (congrArg (fun q => v (ix2 q n)) (Fin.ext (by show 88 + s.val = 32 * 2 + (24 + s.val); omega)))
  | ⟨3, _⟩ => exact (tails_3 v s n).trans (congrArg (fun q => v (ix2 q n)) (Fin.ext (by show 120 + s.val = 32 * 3 + (24 + s.val); omega)))
  | ⟨4, _⟩ => exact (tails_4 v s n).trans (congrArg (fun q => v (ix2 q n)) (Fin.ext (by show 152 + s.val = 32 * 4 + (24 + s.val); omega)))
  | ⟨5, _⟩ => exact (tails_5 v s n).trans (congrArg (fun q => v (ix2 q n)) (Fin.ext (by show 184 + s.val = 32 * 5 + (24 + s.val); omega)))
  | ⟨6, _⟩ => exact (tails_6 v s n).trans (congrArg (fun q => v (ix2 q n)) (Fin.ext (by show 216 + s.val = 32 * 6 + (24 + s.val); omega)))
  | ⟨7, _⟩ => exact (tails_7 v s n).trans (congrArg (fun q => v (ix2 q n)) (Fin.ext (by show 248 + s.val = 32 * 7 + (24 + s.val); omega)))
  | ⟨8, _⟩ => exact (tails_8 v s n).trans (congrArg (fun q => v (ix2 q n)) (Fin.ext (by show 280 + s.val = 32 * 8 + (24 + s.val); omega)))
  | ⟨9, _⟩ => exact (tails_9 v s n).trans (congrArg (fun q => v (ix2 q n)) (Fin.ext (by show 312 + s.val = 32 * 9 + (24 + s.val); omega)))
  | ⟨10, _⟩ => exact (tails_10 v s n).trans (congrArg (fun q => v (ix2 q n)) (Fin.ext (by show 344 + s.val = 32 * 10 + (24 + s.val); omega)))
  | ⟨11, _⟩ => exact (tails_11 v s n).trans (congrArg (fun q => v (ix2 q n)) (Fin.ext (by show 376 + s.val = 32 * 11 + (24 + s.val); omega)))
  | ⟨12, _⟩ => exact (tails_12 v s n).trans (congrArg (fun q => v (ix2 q n)) (Fin.ext (by show 408 + s.val = 32 * 12 + (24 + s.val); omega)))
  | ⟨13, _⟩ => exact (tails_13 v s n).trans (congrArg (fun q => v (ix2 q n)) (Fin.ext (by show 440 + s.val = 32 * 13 + (24 + s.val); omega)))
  | ⟨14, _⟩ => exact (tails_14 v s n).trans (congrArg (fun q => v (ix2 q n)) (Fin.ext (by show 472 + s.val = 32 * 14 + (24 + s.val); omega)))
  | ⟨15, _⟩ => exact (tails_15 v s n).trans (congrArg (fun q => v (ix2 q n)) (Fin.ext (by show 504 + s.val = 32 * 15 + (24 + s.val); omega)))
  | ⟨q + 16, h⟩ => exact absurd h (by omega)

end

end Cert.SampleFeed
-- ==== Proof.SampleFfnBlocks.lean ====
/- The blocks the sample group's feed-forward grid points read, at an index. -/
module

public import proofs.«01_k».proof.Proof.Gen.SampleFfnIdeal.Value
public import Idealize.ShloMosaic.Lib.Pipeline.ValueKit
public import Idealize.ShloMosaic.Lib.Pointwise

@[expose] public section

set_option maxRecDepth 16384
set_option backward.proofsInPublic true

noncomputable section

namespace Cert.SampleFeed

open Cert.SampleFfnIdeal Cert.SampleFfnIdeal.Gen Idealize.ShloMosaic Idealize.ShloMosaic.TcCoe

variable (m : (ℓ : Loc nD τ sig) → Buf (Elt Ideal) ℓ) (c : Dev nD)

/-- There are twelve grid points, one for each column group. -/
theorem col_lt (t : Fin cfg0.N) : t.val < 12 := t.isLt

theorem fat_0 : ∀ t : Fin cfg0.N, win0_0.index t = ![0, 0] :=
  (by decide +kernel : ∀ t : Fin grid0.N, win0_0.index t = ![0, 0])

/-- The group's rows. -/
theorem fblk_0 (t : Fin cfg0.N) (y : Fin 512) (z : Fin 2048) :
    iblk m c 0 t (ix2 y z) = m ((c : Thread nD τ).loc main_arg0) (ix2 y z) := by
  unfold iblk
  rw [View.read_apply]
  refine (congrFun (V_main_arg0 m c) _).trans (congrArg _ ?_)
  funext a
  match a with
  | ⟨0, _⟩ => exact Fin.ext (by show win0_0.index t 0 * 512 + 1 * y.val = _; rw [fat_0]; simp <;> omega)
  | ⟨1, _⟩ => exact Fin.ext (by show win0_0.index t 1 * 2048 + 1 * z.val = _; rw [fat_0]; simp <;> omega)

theorem fat_1 : ∀ t : Fin cfg0.N, win0_1.index t = ![0, t.val] :=
  (by decide +kernel : ∀ t : Fin grid0.N, win0_1.index t = ![0, t.val])

/-- The older kept rows. -/
theorem fblk_1 (t : Fin cfg0.N) (y : Fin 16) (z : Fin 512) :
    iblk m c 1 t (ix2 y z) = m ((c : Thread nD τ).loc main_arg7) (ix3 y 0 ⟨512 * t.val + z.val, by have := col_lt t; omega⟩) := by
  unfold iblk
  rw [View.read_apply]
  have e : ((cfg0.win 1).blk t).view.emb (ix2 y z) = ix2 y ⟨512 * t.val + z.val, by have := col_lt t; omega⟩ := by
    funext a
    match a with
    | ⟨0, _⟩ => exact Fin.ext (by show win0_1.index t 0 * 16 + 1 * y.val = _; rw [fat_1]; simp <;> omega)
    | ⟨1, _⟩ => exact Fin.ext (by show win0_1.index t 1 * 512 + 1 * z.val = _; rw [fat_1]; simp <;> omega)
  rw [e]
  show V m c main_v6 (ix2 _ _) = _
  entry_read
  pointwise []

theorem fat_2 : ∀ t : Fin cfg0.N, win0_2.index t = ![0, t.val] :=
  (by decide +kernel : ∀ t : Fin grid0.N, win0_2.index t = ![0, t.val])

/-- The newer kept rows. -/
theorem fblk_2 (t : Fin cfg0.N) (y : Fin 16) (z : Fin 512) :
    iblk m c 2 t (ix2 y z) = m ((c : Thread nD τ).loc main_arg7) (ix3 y 1 ⟨512 * t.val + z.val, by have := col_lt t; omega⟩) := by
  unfold iblk
  rw [View.read_apply]
  have e : ((cfg0.win 2).blk t).view.emb (ix2 y z) = ix2 y ⟨512 * t.val + z.val, by have := col_lt t; omega⟩ := by
    funext a
    match a with
    | ⟨0, _⟩ => exact Fin.ext (by show win0_2.index t 0 * 16 + 1 * y.val = _; rw [fat_2]; simp <;> omega)
    | ⟨1, _⟩ => exact Fin.ext (by show win0_2.index t 1 * 512 + 1 * z.val = _; rw [fat_2]; simp <;> omega)
  rw [e]
  show V m c main_v8 (ix2 _ _) = _
  entry_read
  pointwise []

theorem fat_3 : ∀ t : Fin cfg0.N, win0_3.index t = ![0, 0] :=
  (by decide +kernel : ∀ t : Fin grid0.N, win0_3.index t = ![0, 0])

/-- The first norm's weights. -/
theorem fblk_3 (t : Fin cfg0.N) (z : Fin 2048) :
    iblk m c 3 t (ix2 0 z) = m ((c : Thread nD τ).loc main_arg1) (ix1 z) := by
  unfold iblk
  rw [View.read_apply]
  have e : ((cfg0.win 3).blk t).view.emb (ix2 0 z) = ix2 0 z := by
    funext a
    match a with
    | ⟨0, _⟩ => exact Fin.ext (by show win0_3.index t 0 * 1 + 1 * 0 = _; rw [fat_3]; simp <;> omega)
    | ⟨1, _⟩ => exact Fin.ext (by show win0_3.index t 1 * 2048 + 1 * z.val = _; rw [fat_3]; simp <;> omega)
  rw [e]
  show V m c main_v0 (ix2 _ _) = _
  entry_read
  pointwise []

theorem fat_4 : ∀ t : Fin cfg0.N, win0_4.index t = ![0, t.val] :=
  (by decide +kernel : ∀ t : Fin grid0.N, win0_4.index t = ![0, t.val])

/-- The gate's columns of the up projection. -/
theorem fblk_4 (t : Fin cfg0.N) (y : Fin 2048) (z : Fin 512) :
    iblk m c 4 t (ix2 y z) = m ((c : Thread nD τ).loc main_arg2) (ix2 y ⟨512 * t.val + z.val, by have := col_lt t; omega⟩) := by
  unfold iblk
  rw [View.read_apply]
  have e : ((cfg0.win 4).blk t).view.emb (ix2 y z) = ix2 y ⟨512 * t.val + z.val, by have := col_lt t; omega⟩ := by
    funext a
    match a with
    | ⟨0, _⟩ => exact Fin.ext (by show win0_4.index t 0 * 2048 + 1 * y.val = _; rw [fat_4]; simp <;> omega)
    | ⟨1, _⟩ => exact Fin.ext (by show win0_4.index t 1 * 512 + 1 * z.val = _; rw [fat_4]; simp <;> omega)
  rw [e]
  show V m c main_v1 (ix2 _ _) = _
  entry_read
  pointwise []

theorem fat_5 : ∀ t : Fin cfg0.N, win0_5.index t = ![0, t.val + 12] :=
  (by decide +kernel : ∀ t : Fin grid0.N, win0_5.index t = ![0, t.val + 12])

/-- The value's columns of the up projection. -/
theorem fblk_5 (t : Fin cfg0.N) (y : Fin 2048) (z : Fin 512) :
    iblk m c 5 t (ix2 y z) = m ((c : Thread nD τ).loc main_arg2) (ix2 y ⟨6144 + (512 * t.val + z.val), by have := col_lt t; omega⟩) := by
  unfold iblk
  rw [View.read_apply]
  have e : ((cfg0.win 5).blk t).view.emb (ix2 y z) = ix2 y ⟨6144 + (512 * t.val + z.val), by have := col_lt t; omega⟩ := by
    funext a
    match a with
    | ⟨0, _⟩ => exact Fin.ext (by show win0_5.index t 0 * 2048 + 1 * y.val = _; rw [fat_5]; simp <;> omega)
    | ⟨1, _⟩ => exact Fin.ext (by show win0_5.index t 1 * 512 + 1 * z.val = _; rw [fat_5]; simp <;> omega)
  rw [e]
  show V m c main_v1 (ix2 _ _) = _
  entry_read
  pointwise []

theorem fat_6 : ∀ t : Fin cfg0.N, win0_6.index t = ![t.val, 0] :=
  (by decide +kernel : ∀ t : Fin grid0.N, win0_6.index t = ![t.val, 0])

/-- The group's rows of the down projection. -/
theorem fblk_6 (t : Fin cfg0.N) (y : Fin 512) (z : Fin 2048) :
    iblk m c 6 t (ix2 y z) = m ((c : Thread nD τ).loc main_arg5) (ix2 ⟨512 * t.val + y.val, by have := col_lt t; omega⟩ z) := by
  unfold iblk
  rw [View.read_apply]
  have e : ((cfg0.win 6).blk t).view.emb (ix2 y z) = ix2 ⟨512 * t.val + y.val, by have := col_lt t; omega⟩ z := by
    funext a
    match a with
    | ⟨0, _⟩ => exact Fin.ext (by show win0_6.index t 0 * 512 + 1 * y.val = _; rw [fat_6]; simp <;> omega)
    | ⟨1, _⟩ => exact Fin.ext (by show win0_6.index t 1 * 2048 + 1 * z.val = _; rw [fat_6]; simp <;> omega)
  rw [e]
  show V m c main_v2 (ix2 _ _) = _
  entry_read
  pointwise []

theorem fat_7 : ∀ t : Fin cfg0.N, win0_7.index t = ![0, t.val] :=
  (by decide +kernel : ∀ t : Fin grid0.N, win0_7.index t = ![0, t.val])

/-- The group's columns of the convolution's weights. -/
theorem fblk_7 (t : Fin cfg0.N) (y : Fin 3) (z : Fin 512) :
    iblk m c 7 t (ix2 y z) = m ((c : Thread nD τ).loc main_arg3) (ix2 y ⟨512 * t.val + z.val, by have := col_lt t; omega⟩) := by
  unfold iblk
  rw [View.read_apply]
  refine (congrFun (V_main_arg3 m c) _).trans (congrArg _ ?_)
  funext a
  match a with
  | ⟨0, _⟩ => exact Fin.ext (by show win0_7.index t 0 * 3 + 1 * y.val = _; rw [fat_7]; simp <;> omega)
  | ⟨1, _⟩ => exact Fin.ext (by show win0_7.index t 1 * 512 + 1 * z.val = _; rw [fat_7]; simp <;> omega)

theorem fat_8 : ∀ t : Fin cfg0.N, win0_8.index t = ![0, t.val] :=
  (by decide +kernel : ∀ t : Fin grid0.N, win0_8.index t = ![0, t.val])

/-- The group's entries of the convolution's bias. -/
theorem fblk_8 (t : Fin cfg0.N) (z : Fin 512) :
    iblk m c 8 t (ix2 0 z) = m ((c : Thread nD τ).loc main_arg4) (ix1 ⟨512 * t.val + z.val, by have := col_lt t; omega⟩) := by
  unfold iblk
  rw [View.read_apply]
  have e : ((cfg0.win 8).blk t).view.emb (ix2 0 z) = ix2 0 ⟨512 * t.val + z.val, by have := col_lt t; omega⟩ := by
    funext a
    match a with
    | ⟨0, _⟩ => exact Fin.ext (by show win0_8.index t 0 * 1 + 1 * 0 = _; rw [fat_8]; simp <;> omega)
    | ⟨1, _⟩ => exact Fin.ext (by show win0_8.index t 1 * 512 + 1 * z.val = _; rw [fat_8]; simp <;> omega)
  rw [e]
  show V m c main_v3 (ix2 _ _) = _
  entry_read
  pointwise []

theorem fat_9 : ∀ t : Fin cfg0.N, win0_9.index t = ![0, 0] :=
  (by decide +kernel : ∀ t : Fin grid0.N, win0_9.index t = ![0, 0])

/-- The second norm's weights. -/
theorem fblk_9 (t : Fin cfg0.N) (z : Fin 2048) :
    iblk m c 9 t (ix2 0 z) = m ((c : Thread nD τ).loc main_arg6) (ix1 z) := by
  unfold iblk
  rw [View.read_apply]
  have e : ((cfg0.win 9).blk t).view.emb (ix2 0 z) = ix2 0 z := by
    funext a
    match a with
    | ⟨0, _⟩ => exact Fin.ext (by show win0_9.index t 0 * 1 + 1 * 0 = _; rw [fat_9]; simp <;> omega)
    | ⟨1, _⟩ => exact Fin.ext (by show win0_9.index t 1 * 2048 + 1 * z.val = _; rw [fat_9]; simp <;> omega)
  rw [e]
  show V m c main_v4 (ix2 _ _) = _
  entry_read
  pointwise []

end Cert.SampleFeed
-- ==== Proof.SampleFfnResult.lean ====
/- What the run of the sample group's feed-forward leaves in its two results. -/
module

public import proofs.«01_k».proof.Proof.SampleFfnRead
public import proofs.«01_k».proof.Proof.SampleFfnBlocks

@[expose] public section

set_option maxRecDepth 16384
set_option backward.proofsInPublic true

noncomputable section

namespace Cert.SampleFeed

open Cert.SampleFfnIdeal Cert.SampleFfnIdeal.Gen Idealize.ShloMosaic Idealize.ShloMosaic.TcCoe Cert.Sample
open Cert.Feed (normed gelu sum_groups)

variable (m : (ℓ : Loc nD τ sig) → Buf (Elt Ideal) ℓ) (c : Dev nD)

/-! ## The arguments at their indices -/

def inX : Fin 512 → Fin 2048 → EReal := fun i j => m ((c : Thread nD τ).loc main_arg0) (ix2 i j)
def inG : Fin 2048 → EReal := fun i => m ((c : Thread nD τ).loc main_arg1) (ix1 i)
def inU : Fin 2048 → Fin 12288 → EReal := fun i j => m ((c : Thread nD τ).loc main_arg2) (ix2 i j)
def inS : Fin 16 → Fin 2 → Fin 6144 → EReal := fun i j k => m ((c : Thread nD τ).loc main_arg7) (ix3 i j k)
def inW : Fin 3 → Fin 6144 → EReal := fun i j => m ((c : Thread nD τ).loc main_arg3) (ix2 i j)
def inB : Fin 6144 → EReal := fun i => m ((c : Thread nD τ).loc main_arg4) (ix1 i)
def inD : Fin 6144 → Fin 2048 → EReal := fun i j => m ((c : Thread nD τ).loc main_arg5) (ix2 i j)
def inP : Fin 2048 → EReal := fun i => m ((c : Thread nD τ).loc main_arg6) (ix1 i)

/-! ## What the buffers hold after each point -/

/-- After the first point. -/
theorem outs_first (t : Fin cfg0.N) (h0 : t.val % 12 = 0) : outsAt0 m c t.val t.isLt =
    (step (k0_pay2 (iblk m c 0 t) (iblk m c 3 t)) (iblk m c 4 t) (iblk m c 5 t) (iblk m c 6 t) (iblk m c 7 t) (iblk m c 8 t) (iblk m c 1 t) (iblk m c 2 t)
        (k0_pay3 (F := Ideal)),
      tails (k0_pay4 (k0_pay2 (iblk m c 0 t) (iblk m c 3 t)) (iblk m c 4 t)),
      k0_pay2 (iblk m c 0 t) (iblk m c 3 t)) := by
  rw [outsAt0_A m c t h0 (by omega), out_A, tail_A, kept_A]

/-- After a middle point. -/
theorem outs_next (t : Fin cfg0.N) (h0 : ¬t.val % 12 = 0) (h1 : ¬t.val % 12 = 11) (h : t.val - 1 < cfg0.N) : outsAt0 m c t.val t.isLt =
    (step (outsAt0 m c (t.val - 1) h).2.2 (iblk m c 4 t) (iblk m c 5 t) (iblk m c 6 t) (iblk m c 7 t) (iblk m c 8 t) (iblk m c 1 t) (iblk m c 2 t)
        (outsAt0 m c (t.val - 1) h).1,
      tails (k0_pay4 (outsAt0 m c (t.val - 1) h).2.2 (iblk m c 4 t)), (outsAt0 m c (t.val - 1) h).2.2) := by
  rw [outsAt0_B m c t h0 h1, out_B, tail_B]
  rfl

/-- After the last point. -/
theorem outs_last (t : Fin cfg0.N) (h1 : t.val % 12 = 11) (h : t.val - 1 < cfg0.N) : outsAt0 m c t.val t.isLt =
    (k0_pay1 (iblk m c 0 t) (step (outsAt0 m c (t.val - 1) h).2.2 (iblk m c 4 t) (iblk m c 5 t) (iblk m c 6 t) (iblk m c 7 t) (iblk m c 8 t)
        (iblk m c 1 t) (iblk m c 2 t) (outsAt0 m c (t.val - 1) h).1) (iblk m c 9 t),
      tails (k0_pay4 (outsAt0 m c (t.val - 1) h).2.2 (iblk m c 4 t)), (outsAt0 m c (t.val - 1) h).2.2) := by
  rw [outsAt0_C m c t (by omega) h1, out_C, tail_C]
  rfl

/-- Kept rows that hold the normed input. -/
def Holds (h : Vec Ideal S512x2048 .bf16) : Prop :=
  ∀ (r : Fin 512) (k : Fin 2048), h (ix2 r k) = normed (inX m c r) (inG m c) k

/-- The rows made at the first point. -/
theorem holds_made (t : Fin cfg0.N) : Holds m c (k0_pay2 (iblk m c 0 t) (iblk m c 3 t)) := by
  intro r k
  have hg : (fun i => iblk m c 3 t (ix2 0 i)) = inG m c := funext fun i => fblk_3 m c t i
  have hx : (fun i => iblk m c 0 t (ix2 r i)) = inX m c r := funext fun i => fblk_0 m c t r i
  rw [pay2_apply, hg, hx]

/-- After the first point the kept rows are the normed input. -/
theorem holds_first (t : Fin cfg0.N) (h0 : t.val % 12 = 0) : Holds m c (outsAt0 m c t.val t.isLt).2.2 := by
  have e2 := congrArg (fun p => p.2.2) (outs_first m c t h0)
  dsimp only at e2
  intro r k
  exact (congrFun e2 (ix2 r k)).trans (holds_made m c t r k)

/-- After every point the kept rows are the normed input. -/
theorem holds (n : ℕ) : ∀ (h : n < cfg0.N), Holds m c (outsAt0 m c n h).2.2 := by
  induction n with
  | zero => exact fun h => holds_first m c ⟨0, h⟩ (Nat.zero_mod 12)
  | succ n ih =>
    intro h
    have hp := ih (Nat.lt_of_succ_lt h)
    by_cases h0 : (n + 1) % 12 = 0
    · exact holds_first m c ⟨n + 1, h⟩ h0
    · by_cases h1 : (n + 1) % 12 = 11
      · have := outs_last m c ⟨n + 1, h⟩ h1 (Nat.lt_of_succ_lt h)
        dsimp only at this
        rw [this]
        exact hp
      · have := outs_next m c ⟨n + 1, h⟩ h0 h1 (Nat.lt_of_succ_lt h)
        dsimp only at this
        rw [this]
        exact hp

/-! ## The gate, the value and the hidden columns of a point -/

section
variable (t : Fin cfg0.N) (h : Vec Ideal S512x2048 .bf16) (hh : Holds m c h)
include hh

theorem colsum_gate (r : Fin 512) (n : Fin 512) : colsum h (iblk m c 4 t) r n =
    gate (inX m c) (inG m c) (inU m c) r ⟨512 * t.val + n.val, by have := col_lt t; omega⟩ := by
  unfold colsum gate up
  refine Finset.sum_congr rfl fun k _ => ?_
  rw [hh r k, fblk_4]
  rfl

theorem colsum_val (r : Fin 512) (n : Fin 512) : colsum h (iblk m c 5 t) r n =
    val (inX m c) (inG m c) (inU m c) r ⟨512 * t.val + n.val, by have := col_lt t; omega⟩ := by
  unfold colsum val up
  refine Finset.sum_congr rfl fun k _ => ?_
  rw [hh r k, fblk_5]
  rfl

theorem one_before (r : Fin 512) (n : Fin 512) : prev1 h (iblk m c 4 t) (iblk m c 2 t) (ix2 r n) =
    before1 (inX m c) (inG m c) (inU m c) (inS m c) r ⟨512 * t.val + n.val, by have := col_lt t; omega⟩ := by
  rw [prev1_apply, fblk_2, colsum_gate m c t h hh]
  rfl

theorem two_before (r : Fin 512) (n : Fin 512) : prev2 h (iblk m c 4 t) (iblk m c 1 t) (iblk m c 2 t) (ix2 r n) =
    before2 (inX m c) (inG m c) (inU m c) (inS m c) r ⟨512 * t.val + n.val, by have := col_lt t; omega⟩ := by
  rw [prev2_apply, fblk_1, fblk_2, colsum_gate m c t h hh]
  rfl

/-- The last eight rows of each sequence. -/
theorem tails_gate (b : Fin 16) (s : Fin 8) (n : Fin 512) : tails (k0_pay4 h (iblk m c 4 t)) (ix3 b s n) =
    gate (inX m c) (inG m c) (inU m c) ⟨32 * b.val + (24 + s.val), by omega⟩ ⟨512 * t.val + n.val, by have := col_lt t; omega⟩ := by
  rw [tails_apply, pay4_apply, colsum_gate m c t h hh]

/-- A group of 512 hidden columns against their rows of the down projection. -/
def group (r : Fin 512) (d : Fin 2048) (q : ℕ) : EReal :=
  if hq : q < 12 then ∑ n : Fin 512, hidden (inX m c) (inG m c) (inU m c) (inS m c) (inW m c) (inB m c) r ⟨512 * q + n.val, by omega⟩
    * inD m c ⟨512 * q + n.val, by omega⟩ d else 0

/-- A point adds its group. -/
theorem step_group (acc : Vec Ideal S512x2048 .f32) (r : Fin 512) (k : Fin 2048) :
    step h (iblk m c 4 t) (iblk m c 5 t) (iblk m c 6 t) (iblk m c 7 t) (iblk m c 8 t) (iblk m c 1 t) (iblk m c 2 t) acc (ix2 r k) =
      acc (ix2 r k) + group m c r k t.val := by
  rw [step_apply]
  unfold group
  rw [dif_pos (col_lt t)]
  refine congrArg _ (Finset.sum_congr rfl fun n _ => ?_)
  rw [one_before m c t h hh, two_before m c t h hh, colsum_gate m c t h hh, colsum_val m c t h hh, fblk_6, fblk_7, fblk_7, fblk_7, fblk_8]
  rfl

end

/-- The twelve groups are the down projection. -/
theorem sum_group (r : Fin 512) (d : Fin 2048) :
    ∑ q ∈ Finset.range 12, group m c r d q = down (inX m c) (inG m c) (inU m c) (inS m c) (inW m c) (inB m c) (inD m c) r d := by
  rw [Finset.sum_range]
  unfold down
  rw [← sum_groups]
  refine Finset.sum_congr rfl fun j _ => ?_
  unfold group
  rw [dif_pos j.isLt]

/-- Before the last point, the output block holds the sum of the groups so far. -/
theorem acc_eq (n : ℕ) : ∀ (h : n < cfg0.N), n < 11 → ∀ (r : Fin 512) (k : Fin 2048),
    (outsAt0 m c n h).1 (ix2 r k) = ∑ q ∈ Finset.range (n + 1), group m c r k q := by
  induction n with
  | zero =>
    intro h h1 r k
    have := outs_first m c ⟨0, h⟩ rfl
    dsimp only at this
    rw [this]
    refine (step_group m c ⟨0, h⟩ _ (holds_made m c ⟨0, h⟩) _ r k).trans ?_
    rw [pay3_apply, zero_add]
    exact (Finset.sum_range_one _).symm
  | succ n ih =>
    intro h h1 r k
    have h0 : ¬(n + 1) % 12 = 0 := by omega
    have := outs_next m c ⟨n + 1, h⟩ h0 (by show ¬(n + 1) % 12 = 11; omega) (Nat.lt_of_succ_lt h)
    dsimp only at this
    rw [this]
    refine (step_group m c ⟨n + 1, h⟩ _ (holds m c n _) _ r k).trans ?_
    show (outsAt0 m c n _).1 (ix2 r k) + group m c _ k (n + 1) = _
    rw [ih (Nat.lt_of_succ_lt h) (by omega) r k, Finset.sum_range_succ _ (n + 1)]

/-- At the last point the output block is the layer's. -/
theorem last_eq (t : Fin cfg0.N) (h1 : t.val = 11) (r : Fin 512) (k : Fin 2048) : (outsAt0 m c t.val t.isLt).1 (ix2 r k) =
    layer (inX m c) (inG m c) (inU m c) (inS m c) (inW m c) (inB m c) (inD m c) (inP m c) r k := by
  have hp : t.val - 1 < cfg0.N := by have := t.isLt; omega
  rw [outs_last m c t (by omega) hp]
  dsimp only
  rw [pay1_apply, fblk_0]
  have em : t.val - 1 + 1 = 11 := by omega
  have eg : (fun i => iblk m c 9 t (ix2 0 i)) = inP m c := funext fun i => fblk_9 m c t i
  have ea : (fun i => step (outsAt0 m c (t.val - 1) hp).2.2 (iblk m c 4 t) (iblk m c 5 t) (iblk m c 6 t) (iblk m c 7 t) (iblk m c 8 t) (iblk m c 1 t)
      (iblk m c 2 t) (outsAt0 m c (t.val - 1) hp).1 (ix2 r i)) =
        down (inX m c) (inG m c) (inU m c) (inS m c) (inW m c) (inB m c) (inD m c) r := by
    funext d
    rw [step_group m c t _ (holds m c _ hp), acc_eq m c _ hp (by omega) r d, em, h1, ← sum_group, Finset.sum_range_succ _ 11]
  rw [eg, ea]
  rfl

/-- The gate's last rows, at every point. -/
theorem tail_eq (t : Fin cfg0.N) (b : Fin 16) (s : Fin 8) (n : Fin 512) : (outsAt0 m c t.val t.isLt).2.1 (ix3 b s n) =
    gate (inX m c) (inG m c) (inU m c) ⟨32 * b.val + (24 + s.val), by omega⟩ ⟨512 * t.val + n.val, by have := col_lt t; omega⟩ := by
  have hp : t.val - 1 < cfg0.N := by have := t.isLt; omega
  by_cases h0 : t.val % 12 = 0
  · have e := congrArg (fun p => p.2.1) (outs_first m c t h0)
    dsimp only at e
    exact (congrFun e (ix3 b s n)).trans (tails_gate m c t _ (holds_made m c t) b s n)
  · have hh := holds m c _ hp
    by_cases h1 : t.val % 12 = 11
    · have e := congrArg (fun p => p.2.1) (outs_last m c t h1 hp)
      dsimp only at e
      exact (congrFun e (ix3 b s n)).trans (tails_gate m c t _ hh b s n)
    · have e := congrArg (fun p => p.2.1) (outs_next m c t h0 h1 hp)
      dsimp only at e
      exact (congrFun e (ix3 b s n)).trans (tails_gate m c t _ hh b s n)

/-! ## The two arrays after the run -/

/-- The layer's result. -/
def resultY : S512x2048.Idx → EReal := fun i =>
  layer (inX m c) (inG m c) (inU m c) (inS m c) (inW m c) (inB m c) (inD m c) (inP m c) (i 0) (i 1)

/-- The gate's last eight rows of each sequence. -/
def resultT : S16x8x6144.Idx → EReal := fun i =>
  gate (inX m c) (inG m c) (inU m c) ⟨32 * (i 0).val + (24 + (i 1).val), by
    have h0 : (i 0).val < 16 := (i 0).isLt
    have h1 : (i 1).val < 8 := (i 1).isLt
    omega⟩ (i 2)

theorem fat_10 : ∀ t : Fin cfg0.N, win0_10.index t = ![0, 0] :=
  (by decide +kernel : ∀ t : Fin grid0.N, win0_10.index t = ![0, 0])

theorem fat_11 : ∀ t : Fin cfg0.N, win0_11.index t = ![0, 0, t.val] :=
  (by decide +kernel : ∀ t : Fin grid0.N, win0_11.index t = ![0, 0, t.val])

/-- The output block is written back at the last point only. -/
theorem flush_10 : ∀ t : Fin cfg0.N, win0_10.flush t = true → t.val = 11 :=
  (by decide +kernel : ∀ t : Fin grid0.N, win0_10.flush t = true → t.val = 11)

theorem arrayY : (dats m 0 c).arrAt 10 cfg0.N = resultY m c := by
  refine (dats m 0 c).arrAt_eq_of_covers 10 _ (by decide +kernel) fun t hf y => ?_
  show (dats m 0 c).after 10 t y = _
  rw [after0_10]
  have hi0 : ((((cfg0.win 10).blk t).view.emb y) 0).val = (y 0).val := by
    show win0_10.index t 0 * 512 + 1 * (y 0).val = _
    rw [fat_10]; simp
  have hi1 : ((((cfg0.win 10).blk t).view.emb y) 1).val = (y 1).val := by
    show win0_10.index t 1 * 2048 + 1 * (y 1).val = _
    rw [fat_10]; simp
  generalize ((cfg0.win 10).blk t).view.emb y = i at hi0 hi1
  have ey : y = ix2 (y 0) (y 1) := by funext a; match a with | ⟨0, _⟩ => rfl | ⟨1, _⟩ => rfl
  rw [ey]
  refine (last_eq m c t (flush_10 t hf) (y 0) (y 1)).trans ?_
  unfold resultY
  congr 1
  · exact Fin.ext hi0.symm
  · exact Fin.ext hi1.symm

theorem arrayT : (dats m 0 c).arrAt 11 cfg0.N = resultT m c := by
  refine (dats m 0 c).arrAt_eq_of_covers 11 _ (by decide +kernel) fun t hf y => ?_
  show (dats m 0 c).after 11 t y = _
  rw [after0_11]
  have hi0 : ((((cfg0.win 11).blk t).view.emb y) 0).val = (y 0).val := by
    show win0_11.index t 0 * 16 + 1 * (y 0).val = _
    rw [fat_11]; simp
  have hi1 : ((((cfg0.win 11).blk t).view.emb y) 1).val = (y 1).val := by
    show win0_11.index t 1 * 8 + 1 * (y 1).val = _
    rw [fat_11]; simp
  have hi2 : ((((cfg0.win 11).blk t).view.emb y) 2).val = 512 * t.val + (y 2).val := by
    show win0_11.index t 2 * 512 + 1 * (y 2).val = _
    rw [fat_11]; simp; omega
  generalize ((cfg0.win 11).blk t).view.emb y = i at hi0 hi1 hi2
  have ey : y = ix3 (y 0) (y 1) (y 2) := by
    funext a
    match a with
    | ⟨0, _⟩ => rfl
    | ⟨1, _⟩ => rfl
    | ⟨2, _⟩ => rfl
  rw [ey]
  refine (tail_eq m c t (y 0) (y 1) (y 2)).trans ?_
  unfold resultT
  congr 1
  · exact Fin.ext (by simp only; rw [hi0, hi1])
  · exact Fin.ext hi2.symm

end Cert.SampleFeed
-- ==== Proof.SampleFfnRef.lean ====
/- What the sample group's feed-forward reference computes, at an index. -/
module

public import proofs.«01_k».proof.Proof.Gen.SampleFfnReferenceIdeal.Read
public import proofs.«01_k».proof.Proof.SampleSpec

@[expose] public section

set_option maxRecDepth 16384
set_option backward.proofsInPublic true

noncomputable section

namespace Cert.SampleFeed

open Cert.SampleFfnReferenceIdeal Cert.SampleFfnReferenceIdeal.Read Idealize.ShloMosaic Cert.Sample
open Cert.Feed (normed gelu)

section
variable (x0 : (⟨S512x2048, .f32⟩ : BufTy).Contents (Elt Ideal)) (x1 : (⟨S2048, .f32⟩ : BufTy).Contents (Elt Ideal))
  (x2 : (⟨S2048x12288, .f32⟩ : BufTy).Contents (Elt Ideal)) (x3 : (⟨S3x6144, .f32⟩ : BufTy).Contents (Elt Ideal))
  (x4 : (⟨S6144, .f32⟩ : BufTy).Contents (Elt Ideal)) (x5 : (⟨S6144x2048, .f32⟩ : BufTy).Contents (Elt Ideal))
  (x6 : (⟨S2048, .f32⟩ : BufTy).Contents (Elt Ideal)) (x7 : (⟨S16x2x6144, .f32⟩ : BufTy).Contents (Elt Ideal))

/-- An array of three axes, as a function of its indices. -/
abbrev three {n k l : ℕ} (a : (⟨3, ![n, k, l]⟩ : Shape).Idx → EReal) : Fin n → Fin k → Fin l → EReal := fun i j p => a (ix3 i j p)

/-- An array of two axes, as a function of its two indices. -/
abbrev two {n k : ℕ} (a : (⟨2, ![n, k]⟩ : Shape).Idx → EReal) : Fin n → Fin k → EReal := fun i j => a (ix2 i j)

/-- An array of one axis, as a function of its index. -/
abbrev one {n : ℕ} (a : (⟨1, ![n]⟩ : Shape).Idx → EReal) : Fin n → EReal := fun i => a (ix1 i)

theorem ref_norm (r : Fin 512) (k : Fin 2048) : val_main_v12 (F := Ideal) x0 x1 (ix2 r k) = normed (two x0 r) (one x1) k := by
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]
  rfl

theorem ref_up (r : Fin 512) (n : Fin 12288) : val_main_v13 (F := Ideal) x0 x1 x2 (ix2 r n) = up (two x0) (one x1) (two x2) r n := by
  pointwise [val_main_v13]
  exact Finset.sum_congr rfl fun k _ => by rw [ref_norm]

theorem ref_gate (b : Fin 16) (s : Fin 32) (r : Fin 512) (h : r.val = 32 * b.val + s.val) (n : Fin 6144) :
    val_main_v15 (F := Ideal) x0 x1 x2 (ix3 b s n) = gate (two x0) (one x1) (two x2) r n := by
  pointwise [val_main_v15, val_main_v14]
  rw [ref_up]
  exact congrArg (fun q => up (two x0) (one x1) (two x2) q ⟨n.val, by omega⟩) (Fin.ext (by simp only []; omega))

theorem ref_val (b : Fin 16) (s : Fin 32) (r : Fin 512) (h : r.val = 32 * b.val + s.val) (n : Fin 6144) :
    val_main_v16 (F := Ideal) x0 x1 x2 (ix3 b s n) = val (two x0) (one x1) (two x2) r n := by
  pointwise [val_main_v16, val_main_v14]
  rw [ref_up]
  exact congrArg (fun q => up (two x0) (one x1) (two x2) q ⟨6144 + n.val, by omega⟩) (Fin.ext (by simp only []; omega))

theorem ref_before2 (b : Fin 16) (s : Fin 32) (p : Fin 34) (hp : p.val = s.val) (r : Fin 512) (h : r.val = 32 * b.val + s.val) (n : Fin 6144) :
    val_main_v17 (F := Ideal) x0 x1 x2 x7 (ix3 b p n) = before2 (two x0) (one x1) (two x2) (three x7) r n := by
  pointwise [val_main_v17]
  have eb : (⟨r.val / 32, by omega⟩ : Fin 16) = b := Fin.ext (by show r.val / 32 = b.val; omega)
  unfold before2
  rw [eb]
  by_cases c : r.val % 32 = 0
  · rw [if_pos c, dif_pos (by omega)]
    exact congrArg (fun q : Fin 2 => x7 (ix3 b q n)) (Fin.ext (by show p.val = 0; omega))
  · rw [if_neg c]
    by_cases d : r.val % 32 = 1
    · rw [if_pos d, dif_pos (by omega)]
      exact congrArg (fun q : Fin 2 => x7 (ix3 b q n)) (Fin.ext (by show p.val = 1; omega))
    · rw [if_neg d, dif_neg (by omega)]
      exact ref_gate x0 x1 x2 b _ _ (by simp only []; omega) n

theorem ref_before1 (b : Fin 16) (s : Fin 32) (p : Fin 34) (hp : p.val = s.val + 1) (r : Fin 512) (h : r.val = 32 * b.val + s.val) (n : Fin 6144) :
    val_main_v17 (F := Ideal) x0 x1 x2 x7 (ix3 b p n) = before1 (two x0) (one x1) (two x2) (three x7) r n := by
  pointwise [val_main_v17]
  have eb : (⟨r.val / 32, by omega⟩ : Fin 16) = b := Fin.ext (by show r.val / 32 = b.val; omega)
  unfold before1
  rw [eb]
  by_cases c : r.val % 32 = 0
  · rw [if_pos c, dif_pos (by omega)]
    exact congrArg (fun q : Fin 2 => x7 (ix3 b q n)) (Fin.ext (by show p.val = 1; omega))
  · rw [if_neg c, dif_neg (by omega)]
    exact ref_gate x0 x1 x2 b _ _ (by simp only []; omega) n

theorem ref_before0 (b : Fin 16) (s : Fin 32) (p : Fin 34) (hp : p.val = s.val + 2) (r : Fin 512) (h : r.val = 32 * b.val + s.val) (n : Fin 6144) :
    val_main_v17 (F := Ideal) x0 x1 x2 x7 (ix3 b p n) = gate (two x0) (one x1) (two x2) r n := by
  pointwise [val_main_v17]
  rw [dif_neg (by omega)]
  exact ref_gate x0 x1 x2 b _ _ (by simp only []; omega) n

theorem ref_conv (b : Fin 16) (s : Fin 32) (r : Fin 512) (h : r.val = 32 * b.val + s.val) (n : Fin 6144) :
    val_main_v40 (F := Ideal) x0 x1 x2 x3 x4 x7 (ix3 b s n) = conv (two x0) (one x1) (two x2) (three x7) (two x3) (one x4) r n := by
  pointwise [val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_v20, val_main_v19, val_main_v18]
  rw [ref_before2 x0 x1 x2 x7 b s _ (by simp only []) r h, ref_before1 x0 x1 x2 x7 b s _ (by simp only []; omega) r h,
    ref_before0 x0 x1 x2 x7 b s _ (by simp only []; omega) r h]
  rfl

theorem ref_hidden (b : Fin 16) (s : Fin 32) (r : Fin 512) (h : r.val = 32 * b.val + s.val) (n : Fin 6144) :
    val_main_v54 (F := Ideal) x0 x1 x2 x3 x4 x7 (ix3 b s n) = hidden (two x0) (one x1) (two x2) (three x7) (two x3) (one x4) r n := by
  pointwise [val_main_v54, val_main_v53, val_main_v52, val_main_v51, val_main_cst_5, val_main_v50, val_main_v49, val_main_cst_4, val_main_v48,
    val_main_v47, val_main_v46, val_main_cst_3, val_main_v45, val_main_v44, val_main_v43, val_main_cst_2, val_main_v42, val_main_v41]
  rw [ref_conv x0 x1 x2 x3 x4 x7 b s r h, ref_val x0 x1 x2 b s r h]
  show _ = gelu _ * _
  unfold gelu
  generalize conv (two x0) (one x1) (two x2) (three x7) (two x3) (one x4) r n = z
  rw [mul_left_comm, ← mul_assoc, ← mul_assoc, ← mul_assoc]

theorem ref_down (r : Fin 512) (d : Fin 2048) : val_main_v56 (F := Ideal) x0 x1 x2 x3 x4 x5 x7 (ix2 r d) =
    down (two x0) (one x1) (two x2) (three x7) (two x3) (one x4) (two x5) r d := by
  pointwise [val_main_v56, val_main_v55]
  exact Finset.sum_congr rfl fun n _ => by rw [ref_hidden x0 x1 x2 x3 x4 x7 _ _ r (by simp only []; omega)]

theorem ref_layer (r : Fin 512) (d : Fin 2048) : val_main_v70 (F := Ideal) x0 x1 x2 x3 x4 x5 x6 x7 (ix2 r d) =
    layer (two x0) (one x1) (two x2) (three x7) (two x3) (one x4) (two x5) (one x6) r d := by
  pointwise [val_main_v70, val_main_v69, val_main_v68, val_main_v67, val_main_v66, val_main_v65, val_main_v64, val_main_v63, val_main_v62, val_main_v61,
    val_main_cst_8, val_main_v60, val_main_v59, val_main_cst_7, val_main_v58, val_main_v57, val_main_cst_6]
  simp only [ref_down]
  rfl

theorem ref_tail (b : Fin 16) (s : Fin 8) (n : Fin 6144) : val_main_v71 (F := Ideal) x0 x1 x2 (ix3 b s n) =
    gate (two x0) (one x1) (two x2) ⟨32 * b.val + (24 + s.val), by omega⟩ n := by
  pointwise [val_main_v71]
  exact ref_gate x0 x1 x2 b _ _ rfl n

end

end Cert.SampleFeed
-- ==== Proof.SampleFfnAssemble.lean ====
/- The feed-forward claim: the kernel's two results are the reference's. -/
module

public import proofs.«01_k».proof.Defs
public import proofs.«01_k».proof.Proof.SampleFfnResult
public import proofs.«01_k».proof.Proof.SampleFfnRef
public import proofs.«01_k».proof.Proof.Gen.SampleFfnReferenceIdeal.Run

@[expose] public section

set_option maxRecDepth 16384
set_option backward.proofsInPublic true

noncomputable section

namespace Cert.SampleFeed

open Cert.SampleFfnIdeal Cert.SampleFfnIdeal.Gen Idealize.ShloMosaic Idealize.ShloMosaic.TcCoe Idealize.SL.Sem

variable (m : (ℓ : Loc nD τ sig) → Buf (Elt Ideal) ℓ) (c : Dev nD)

/-- The reference's first result, of the same arguments, is the layer's. -/
theorem refY : Cert.SampleFfnReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = resultY m c := by
  funext i
  have e : i = ix2 (i 0) (i 1) := by funext a; match a with | ⟨0, _⟩ => rfl | ⟨1, _⟩ => rfl
  rw [e]
  exact ref_layer _ _ _ _ _ _ _ _ (i 0) (i 1)

/-- The reference's second result is the gate's last rows. -/
theorem refT : Cert.SampleFfnReferenceIdeal.Read.val_main_v71 (F := Ideal) (m ((c : Thread nD τ).loc main_arg0)) (m ((c : Thread nD τ).loc main_arg1)) (m ((c : Thread nD τ).loc main_arg2)) = resultT m c := by
  funext i
  have e : i = ix3 (i 0) (i 1) (i 2) := by funext a; match a with | ⟨0, _⟩ => rfl | ⟨1, _⟩ => rfl | ⟨2, _⟩ => rfl
  rw [e]
  exact ref_tail _ _ _ (i 0) (i 1) (i 2)

/-- The kernel's results are the reference's, at the extended reals. -/
theorem feed_forward : Cert.algebraic_SampleFfnIdeal_SampleFfnReferenceIdeal (hSampleFfnIdeal := Cert.SampleFfnIdeal.Gen.facts)
    (hSampleFfnReferenceIdeal := Cert.SampleFfnReferenceIdeal.Gen.facts) := by
  intro m g m' g' _ hag
  refine ⟨fun c => resultY m c, fun c => resultT m c, ?_, ?_⟩
  · exact (θ_run _ _ _).mono (fun _ h c => ⟨(h c).1.trans (arrayY m c), (h c).2.1.trans (arrayT m c), (h c).2.2⟩) (Cert.SampleFfnIdeal.Value.run_blocks m g)
  · refine (θ_run _ _ _).mono (fun _ h c => ⟨(h c).1.trans ?_, (h c).2.1.trans ?_, (h c).2.2⟩) (Cert.SampleFfnReferenceIdeal.Value.run m' g')
    · obtain ⟨e0, e1, e2, e3, e4, e5, e6, e7⟩ := hag c
      rw [Cert.SampleFfnReferenceIdeal.Read.val_main_v70_eq, e0, e1, e2, e3, e4, e5, e6, e7]
      exact refY m c
    · obtain ⟨e0, e1, e2, e3, e4, e5, e6, e7⟩ := hag c
      refine (Cert.SampleFfnReferenceIdeal.Read.val_main_v71_eq _ _ _).trans ?_
      rw [e0, e1, e2]
      exact refT m c

/-- The reference declares no counter. -/
theorem reference_counters (f : GSem Cert.SampleFfnReferenceIdeal.nD Cert.SampleFfnReferenceIdeal.τ Cert.SampleFfnReferenceIdeal.sig → Int) : f = fun _ => 0 := by
  funext s
  obtain ⟨_, s | s⟩ := s
  · exact Fin.elim0 s
  · exact Fin.elim0 s

/-- The reference runs, changes no argument and leaves no counter. -/
theorem reference_frame (m : (ℓ : Loc Cert.SampleFfnReferenceIdeal.nD Cert.SampleFfnReferenceIdeal.τ Cert.SampleFfnReferenceIdeal.sig) → Buf (Elt Ideal) ℓ) (g : Dev Cert.SampleFfnReferenceIdeal.nD → PrngReg) :
    θ_run (Cert.SampleFfnReferenceIdeal.defs (F := Ideal)) (onTc (τ := Cert.SampleFfnReferenceIdeal.τ) (Cert.SampleFfnReferenceIdeal.main (F := Ideal))) ⟨m, fun _ => 0, g⟩
      (fun r => (∀ c : Dev Cert.SampleFfnReferenceIdeal.nD,
        r.2.mem ((c.tc : Thread Cert.SampleFfnReferenceIdeal.nD Cert.SampleFfnReferenceIdeal.τ).loc Cert.SampleFfnReferenceIdeal.main_arg0) = m ((c.tc : Thread Cert.SampleFfnReferenceIdeal.nD Cert.SampleFfnReferenceIdeal.τ).loc Cert.SampleFfnReferenceIdeal.main_arg0)
        ∧ r.2.mem ((c.tc : Thread Cert.SampleFfnReferenceIdeal.nD Cert.SampleFfnReferenceIdeal.τ).loc Cert.SampleFfnReferenceIdeal.main_arg1) = m ((c.tc : Thread Cert.SampleFfnReferenceIdeal.nD Cert.SampleFfnReferenceIdeal.τ).loc Cert.SampleFfnReferenceIdeal.main_arg1)
        ∧ r.2.mem ((c.tc : Thread Cert.SampleFfnReferenceIdeal.nD Cert.SampleFfnReferenceIdeal.τ).loc Cert.SampleFfnReferenceIdeal.main_arg2) = m ((c.tc : Thread Cert.SampleFfnReferenceIdeal.nD Cert.SampleFfnReferenceIdeal.τ).loc Cert.SampleFfnReferenceIdeal.main_arg2)
        ∧ r.2.mem ((c.tc : Thread Cert.SampleFfnReferenceIdeal.nD Cert.SampleFfnReferenceIdeal.τ).loc Cert.SampleFfnReferenceIdeal.main_arg3) = m ((c.tc : Thread Cert.SampleFfnReferenceIdeal.nD Cert.SampleFfnReferenceIdeal.τ).loc Cert.SampleFfnReferenceIdeal.main_arg3)
        ∧ r.2.mem ((c.tc : Thread Cert.SampleFfnReferenceIdeal.nD Cert.SampleFfnReferenceIdeal.τ).loc Cert.SampleFfnReferenceIdeal.main_arg4) = m ((c.tc : Thread Cert.SampleFfnReferenceIdeal.nD Cert.SampleFfnReferenceIdeal.τ).loc Cert.SampleFfnReferenceIdeal.main_arg4)
        ∧ r.2.mem ((c.tc : Thread Cert.SampleFfnReferenceIdeal.nD Cert.SampleFfnReferenceIdeal.τ).loc Cert.SampleFfnReferenceIdeal.main_arg5) = m ((c.tc : Thread Cert.SampleFfnReferenceIdeal.nD Cert.SampleFfnReferenceIdeal.τ).loc Cert.SampleFfnReferenceIdeal.main_arg5)
        ∧ r.2.mem ((c.tc : Thread Cert.SampleFfnReferenceIdeal.nD Cert.SampleFfnReferenceIdeal.τ).loc Cert.SampleFfnReferenceIdeal.main_arg6) = m ((c.tc : Thread Cert.SampleFfnReferenceIdeal.nD Cert.SampleFfnReferenceIdeal.τ).loc Cert.SampleFfnReferenceIdeal.main_arg6)
        ∧ r.2.mem ((c.tc : Thread Cert.SampleFfnReferenceIdeal.nD Cert.SampleFfnReferenceIdeal.τ).loc Cert.SampleFfnReferenceIdeal.main_arg7) = m ((c.tc : Thread Cert.SampleFfnReferenceIdeal.nD Cert.SampleFfnReferenceIdeal.τ).loc Cert.SampleFfnReferenceIdeal.main_arg7))
      ∧ r.2.sem = fun _ => 0) :=
  (θ_run _ _ _).mono (fun _ h => ⟨fun c => (h c).2.2, reference_counters _⟩) (Cert.SampleFfnReferenceIdeal.Value.run m g)

end Cert.SampleFeed
-- ==== Proof.lean ====
/- The claims of the band attention, the feed-forwards and the projections: frames from the generated runs, the value claim from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Assemble
public import proofs.«01_k».proof.Proof.Gen.Ffn.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.FfnAssemble
public import proofs.«01_k».proof.Proof.Gen.Project.Frame
public import proofs.«01_k».proof.Proof.Gen.ProjectIdeal.Value
public import proofs.«01_k».proof.Proof.Gen.ProjectReferenceIdeal.Run
public import proofs.«01_k».proof.Proof.Gen.ProjectReferenceIdeal.Read
public import proofs.«01_k».proof.Proof.EntryAssemble
public import proofs.«01_k».proof.Proof.Gen.Out.Frame
public import proofs.«01_k».proof.Proof.Gen.OutIdeal.Value
public import proofs.«01_k».proof.Proof.Gen.OutReferenceIdeal.Run
public import proofs.«01_k».proof.Proof.Gen.OutReferenceIdeal.Read
public import proofs.«01_k».proof.Proof.LeaveAssemble
public import proofs.«01_k».proof.Proof.Gen.SampleProject.Frame
public import proofs.«01_k».proof.Proof.Gen.SampleProjectIdeal.Value
public import proofs.«01_k».proof.Proof.Gen.SampleProjectReferenceIdeal.Run
public import proofs.«01_k».proof.Proof.Gen.SampleProjectReferenceIdeal.Read
public import proofs.«01_k».proof.Proof.SampleEntryAssemble
public import proofs.«01_k».proof.Proof.Gen.SampleOut.Frame
public import proofs.«01_k».proof.Proof.Gen.SampleOutIdeal.Value
public import proofs.«01_k».proof.Proof.Gen.SampleOutReferenceIdeal.Run
public import proofs.«01_k».proof.Proof.Gen.SampleOutReferenceIdeal.Read
public import proofs.«01_k».proof.Proof.SampleLeaveAssemble
public import proofs.«01_k».proof.Proof.Gen.SampleFfn.Frame
public import proofs.«01_k».proof.Proof.Gen.SampleFfnIdeal.Value
public import proofs.«01_k».proof.Proof.Gen.SampleFfnReferenceIdeal.Run
public import proofs.«01_k».proof.Proof.Gen.SampleFfnReferenceIdeal.Read
public import proofs.«01_k».proof.Proof.SampleFfnAssemble
public import Idealize.ShloMosaic.Adequacy
public import Idealize.ShloMosaic.Init

@[expose] public section

noncomputable section

-- Every program also ends with its semaphore counters at zero.

namespace Cert.Proof

open Idealize.ShloMosaic Idealize.SL.Sem

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Project.Gen.facts, Cert.ProjectIdeal.Gen.facts, Cert.ProjectReferenceIdeal.Gen.facts,
  Cert.Out.Gen.facts, Cert.OutIdeal.Gen.facts, Cert.OutReferenceIdeal.Gen.facts,
  Cert.SampleProject.Gen.facts, Cert.SampleProjectIdeal.Gen.facts, Cert.SampleProjectReferenceIdeal.Gen.facts,
  Cert.SampleOut.Gen.facts, Cert.SampleOutIdeal.Gen.facts, Cert.SampleOutReferenceIdeal.Gen.facts,
  Cert.SampleFfn.Gen.facts, Cert.SampleFfnIdeal.Gen.facts, Cert.SampleFfnReferenceIdeal.Gen.facts,
  Cert.Pre_finite_scores.Gen.facts,
  fun m ρ _ => Cert.Kernel.Gen.frame m ρ, fun m ρ _ => Cert.KernelIdeal.Gen.frame m ρ, fun m ρ _ => Cert.KernelIdeal.Gen.frame m ρ,
  fun m ρ _ => Cert.Band.reference_frame m ρ, fun m ρ _ => Cert.Band.reference_frame m ρ,
  fun m ρ _ => Cert.Ffn.Gen.frame m ρ, fun m ρ _ => Cert.FfnIdeal.Gen.frame m ρ, fun m ρ _ => Cert.Feed.reference_frame m ρ,
  fun m ρ _ => Cert.Project.Gen.frame m ρ, fun m ρ _ => Cert.ProjectIdeal.Gen.frame m ρ, fun m ρ _ => Cert.Entry.reference_frame m ρ,
  fun m ρ _ => Cert.Out.Gen.frame m ρ, fun m ρ _ => Cert.OutIdeal.Gen.frame m ρ, fun m ρ _ => Cert.Leave.reference_frame m ρ,
  fun m ρ _ => Cert.SampleProject.Gen.frame m ρ, fun m ρ _ => Cert.SampleProjectIdeal.Gen.frame m ρ, fun m ρ _ => Cert.SampleEntry.reference_frame m ρ,
  fun m ρ _ => Cert.SampleOut.Gen.frame m ρ, fun m ρ _ => Cert.SampleOutIdeal.Gen.frame m ρ, fun m ρ _ => Cert.SampleLeave.reference_frame m ρ,
  fun m ρ _ => Cert.SampleFfn.Gen.frame m ρ, fun m ρ _ => Cert.SampleFfnIdeal.Gen.frame m ρ, fun m ρ _ => Cert.SampleFeed.reference_frame m ρ,
  trivial, Cert.Band.band_attention, trivial, Cert.Feed.feed_forward,
  trivial, Cert.Entry.input_projection, trivial, Cert.Leave.output_projection,
  trivial, Cert.SampleEntry.input_projection, trivial, Cert.SampleLeave.output_projection, trivial, Cert.SampleFeed.feed_forward⟩

end Cert.Proof

end
